-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ref2Ideal (m : (ℓ : Loc Cert.Ref2Ideal.nD Cert.Ref2Ideal.τ Cert.Ref2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5)
      ∧ r.2.mem ((c.tc : Thread Cert.Ffn2.nD Cert.Ffn2.τ).loc Cert.Ffn2.main_arg6) = m ((c.tc : Thread Cert.Ffn2.nD Cert.Ffn2.τ).loc Cert.Ffn2.main_arg6)
      ∧ r.2.mem ((c.tc : Thread Cert.Ffn2.nD Cert.Ffn2.τ).loc Cert.Ffn2.main_arg7) = m ((c.tc : Thread Cert.Ffn2.nD Cert.Ffn2.τ).loc Cert.Ffn2.main_arg7)
      ∧ r.2.mem ((c.tc : Thread Cert.Ffn2.nD Cert.Ffn2.τ).loc Cert.Ffn2.main_arg8) = m ((c.tc : Thread Cert.Ffn2.nD Cert.Ffn2.τ).loc Cert.Ffn2.main_arg8))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
      ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6)
      ∧ r.2.mem ((c.tc : Thread Cert.Ffn2Ideal.nD Cert.Ffn2Ideal.τ).loc Cert.Ffn2Ideal.main_arg7) = m ((c.tc : Thread Cert.Ffn2Ideal.nD Cert.Ffn2Ideal.τ).loc Cert.Ffn2Ideal.main_arg7)
      ∧ r.2.mem ((c.tc : Thread Cert.Ffn2Ideal.nD Cert.Ffn2Ideal.τ).loc Cert.Ffn2Ideal.main_arg8) = m ((c.tc : Thread Cert.Ffn2Ideal.nD Cert.Ffn2Ideal.τ).loc Cert.Ffn2Ideal.main_arg8))
      ∧ r.2.sem = fun _ => 0)

def quiescent_Ref2Ideal [hRef2Ideal : Cert.Ref2Ideal.Facts] : Prop :=
  ∀ (m : (ℓ : Loc Cert.Ref2Ideal.nD Cert.Ref2Ideal.τ Cert.Ref2Ideal.sig) → Buf (Elt Ideal) ℓ) (g : Dev Cert.Ref2Ideal.nD → PrngReg), Pre_Ref2Ideal m →
    θ_run (Cert.Ref2Ideal.defs (F := Ideal)) (onTc (τ := Cert.Ref2Ideal.τ) (Cert.Ref2Ideal.main (F := Ideal))) ⟨m, fun _ => 0, g⟩ (fun r => (∀ c : Dev Cert.Ref2Ideal.nD,
      r.2.mem ((c.tc : Thread Cert.Ref2Ideal.nD Cert.Ref2Ideal.τ).loc Cert.Ref2Ideal.main_arg0) = m ((c.tc : Thread Cert.Ref2Ideal.nD Cert.Ref2Ideal.τ).loc Cert.Ref2Ideal.main_arg0)
      ∧ r.2.mem ((c.tc : Thread Cert.Ref2Ideal.nD Cert.Ref2Ideal.τ).loc Cert.Ref2Ideal.main_arg1) = m ((c.tc : Thread Cert.Ref2Ideal.nD Cert.Ref2Ideal.τ).loc Cert.Ref2Ideal.main_arg1)
      ∧ r.2.mem ((c.tc : Thread Cert.Ref2Ideal.nD Cert.Ref2Ideal.τ).loc Cert.Ref2Ideal.main_arg2) = m ((c.tc : Thread Cert.Ref2Ideal.nD Cert.Ref2Ideal.τ).loc Cert.Ref2Ideal.main_arg2)
      ∧ r.2.mem ((c.tc : Thread Cert.Ref2Ideal.nD Cert.Ref2Ideal.τ).loc Cert.Ref2Ideal.main_arg3) = m ((c.tc : Thread Cert.Ref2Ideal.nD Cert.Ref2Ideal.τ).loc Cert.Ref2Ideal.main_arg3)
      ∧ r.2.mem ((c.tc : Thread Cert.Ref2Ideal.nD Cert.Ref2Ideal.τ).loc Cert.Ref2Ideal.main_arg4) = m ((c.tc : Thread Cert.Ref2Ideal.nD Cert.Ref2Ideal.τ).loc Cert.Ref2Ideal.main_arg4)
      ∧ r.2.mem ((c.tc : Thread Cert.Ref2Ideal.nD Cert.Ref2Ideal.τ).loc Cert.Ref2Ideal.main_arg5) = m ((c.tc : Thread Cert.Ref2Ideal.nD Cert.Ref2Ideal.τ).loc Cert.Ref2Ideal.main_arg5)
      ∧ r.2.mem ((c.tc : Thread Cert.Ref2Ideal.nD Cert.Ref2Ideal.τ).loc Cert.Ref2Ideal.main_arg6) = m ((c.tc : Thread Cert.Ref2Ideal.nD Cert.Ref2Ideal.τ).loc Cert.Ref2Ideal.main_arg6)
      ∧ r.2.mem ((c.tc : Thread Cert.Ref2Ideal.nD Cert.Ref2Ideal.τ).loc Cert.Ref2Ideal.main_arg7) = m ((c.tc : Thread Cert.Ref2Ideal.nD Cert.Ref2Ideal.τ).loc Cert.Ref2Ideal.main_arg7)
      ∧ r.2.mem ((c.tc : Thread Cert.Ref2Ideal.nD Cert.Ref2Ideal.τ).loc Cert.Ref2Ideal.main_arg8) = m ((c.tc : Thread Cert.Ref2Ideal.nD Cert.Ref2Ideal.τ).loc Cert.Ref2Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v285) = v0 c
          ∧ r.2.mem ((c.tc : Thread Cert.ReferenceIdeal.nD Cert.ReferenceIdeal.τ).loc Cert.ReferenceIdeal.main_v287) = v1 c
          ∧ r.2.mem ((c.tc : Thread Cert.ReferenceIdeal.nD Cert.ReferenceIdeal.τ).loc Cert.ReferenceIdeal.main_v288) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Ffn2_Ffn2Ideal : Prop :=
  True

def algebraic_Ffn2Ideal_Ref2Ideal [hFfn2Ideal : Cert.Ffn2Ideal.Facts] [hRef2Ideal : Cert.Ref2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ref2Ideal.nD Cert.Ref2Ideal.τ Cert.Ref2Ideal.sig) → Buf (Elt Ideal) ℓ) (g' : Dev Cert.Ref2Ideal.nD → PrngReg), Pre_Ffn2Ideal m →
    (∀ c : Dev Cert.Ffn2Ideal.nD,
      m' ((c.tc : Thread Cert.Ref2Ideal.nD Cert.Ref2Ideal.τ).loc Cert.Ref2Ideal.main_arg0) = m ((c.tc : Thread Cert.Ffn2Ideal.nD Cert.Ffn2Ideal.τ).loc Cert.Ffn2Ideal.main_arg0)
      ∧ m' ((c.tc : Thread Cert.Ref2Ideal.nD Cert.Ref2Ideal.τ).loc Cert.Ref2Ideal.main_arg1) = m ((c.tc : Thread Cert.Ffn2Ideal.nD Cert.Ffn2Ideal.τ).loc Cert.Ffn2Ideal.main_arg1)
      ∧ m' ((c.tc : Thread Cert.Ref2Ideal.nD Cert.Ref2Ideal.τ).loc Cert.Ref2Ideal.main_arg2) = m ((c.tc : Thread Cert.Ffn2Ideal.nD Cert.Ffn2Ideal.τ).loc Cert.Ffn2Ideal.main_arg2)
      ∧ m' ((c.tc : Thread Cert.Ref2Ideal.nD Cert.Ref2Ideal.τ).loc Cert.Ref2Ideal.main_arg3) = m ((c.tc : Thread Cert.Ffn2Ideal.nD Cert.Ffn2Ideal.τ).loc Cert.Ffn2Ideal.main_arg3)
      ∧ m' ((c.tc : Thread Cert.Ref2Ideal.nD Cert.Ref2Ideal.τ).loc Cert.Ref2Ideal.main_arg4) = m ((c.tc : Thread Cert.Ffn2Ideal.nD Cert.Ffn2Ideal.τ).loc Cert.Ffn2Ideal.main_arg4)
      ∧ m' ((c.tc : Thread Cert.Ref2Ideal.nD Cert.Ref2Ideal.τ).loc Cert.Ref2Ideal.main_arg5) = m ((c.tc : Thread Cert.Ffn2Ideal.nD Cert.Ffn2Ideal.τ).loc Cert.Ffn2Ideal.main_arg5)
      ∧ m' ((c.tc : Thread Cert.Ref2Ideal.nD Cert.Ref2Ideal.τ).loc Cert.Ref2Ideal.main_arg6) = m ((c.tc : Thread Cert.Ffn2Ideal.nD Cert.Ffn2Ideal.τ).loc Cert.Ffn2Ideal.main_arg6)
      ∧ m' ((c.tc : Thread Cert.Ref2Ideal.nD Cert.Ref2Ideal.τ).loc Cert.Ref2Ideal.main_arg7) = m ((c.tc : Thread Cert.Ffn2Ideal.nD Cert.Ffn2Ideal.τ).loc Cert.Ffn2Ideal.main_arg7)
      ∧ m' ((c.tc : Thread Cert.Ref2Ideal.nD Cert.Ref2Ideal.τ).loc Cert.Ref2Ideal.main_arg8) = m ((c.tc : Thread Cert.Ffn2Ideal.nD Cert.Ffn2Ideal.τ).loc Cert.Ffn2Ideal.main_arg8)) →
    ∃ (v0 : (c : Dev Cert.Ffn2Ideal.nD) → Buf (Elt Ideal) ((c.tc : Thread Cert.Ffn2Ideal.nD Cert.Ffn2Ideal.τ).loc Cert.Ffn2Ideal.main_v7)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v7) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
          ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6)
          ∧ r.2.mem ((c.tc : Thread Cert.Ffn2Ideal.nD Cert.Ffn2Ideal.τ).loc Cert.Ffn2Ideal.main_arg7) = m ((c.tc : Thread Cert.Ffn2Ideal.nD Cert.Ffn2Ideal.τ).loc Cert.Ffn2Ideal.main_arg7)
          ∧ r.2.mem ((c.tc : Thread Cert.Ffn2Ideal.nD Cert.Ffn2Ideal.τ).loc Cert.Ffn2Ideal.main_arg8) = m ((c.tc : Thread Cert.Ffn2Ideal.nD Cert.Ffn2Ideal.τ).loc Cert.Ffn2Ideal.main_arg8))
      ∧ θ_run (Cert.Ref2Ideal.defs (F := Ideal)) (onTc (τ := Cert.Ref2Ideal.τ) (Cert.Ref2Ideal.main (F := Ideal))) ⟨m', fun _ => 0, g'⟩ (fun r => ∀ c : Dev Cert.Ref2Ideal.nD,
          r.2.mem ((c.tc : Thread Cert.Ref2Ideal.nD Cert.Ref2Ideal.τ).loc Cert.Ref2Ideal.main_v203) = v0 c
          ∧ r.2.mem ((c.tc : Thread Cert.Ref2Ideal.nD Cert.Ref2Ideal.τ).loc Cert.Ref2Ideal.main_arg0) = m' ((c.tc : Thread Cert.Ref2Ideal.nD Cert.Ref2Ideal.τ).loc Cert.Ref2Ideal.main_arg0)
          ∧ r.2.mem ((c.tc : Thread Cert.Ref2Ideal.nD Cert.Ref2Ideal.τ).loc Cert.Ref2Ideal.main_arg1) = m' ((c.tc : Thread Cert.Ref2Ideal.nD Cert.Ref2Ideal.τ).loc Cert.Ref2Ideal.main_arg1)
          ∧ r.2.mem ((c.tc : Thread Cert.Ref2Ideal.nD Cert.Ref2Ideal.τ).loc Cert.Ref2Ideal.main_arg2) = m' ((c.tc : Thread Cert.Ref2Ideal.nD Cert.Ref2Ideal.τ).loc Cert.Ref2Ideal.main_arg2)
          ∧ r.2.mem ((c.tc : Thread Cert.Ref2Ideal.nD Cert.Ref2Ideal.τ).loc Cert.Ref2Ideal.main_arg3) = m' ((c.tc : Thread Cert.Ref2Ideal.nD Cert.Ref2Ideal.τ).loc Cert.Ref2Ideal.main_arg3)
          ∧ r.2.mem ((c.tc : Thread Cert.Ref2Ideal.nD Cert.Ref2Ideal.τ).loc Cert.Ref2Ideal.main_arg4) = m' ((c.tc : Thread Cert.Ref2Ideal.nD Cert.Ref2Ideal.τ).loc Cert.Ref2Ideal.main_arg4)
          ∧ r.2.mem ((c.tc : Thread Cert.Ref2Ideal.nD Cert.Ref2Ideal.τ).loc Cert.Ref2Ideal.main_arg5) = m' ((c.tc : Thread Cert.Ref2Ideal.nD Cert.Ref2Ideal.τ).loc Cert.Ref2Ideal.main_arg5)
          ∧ r.2.mem ((c.tc : Thread Cert.Ref2Ideal.nD Cert.Ref2Ideal.τ).loc Cert.Ref2Ideal.main_arg6) = m' ((c.tc : Thread Cert.Ref2Ideal.nD Cert.Ref2Ideal.τ).loc Cert.Ref2Ideal.main_arg6)
          ∧ r.2.mem ((c.tc : Thread Cert.Ref2Ideal.nD Cert.Ref2Ideal.τ).loc Cert.Ref2Ideal.main_arg7) = m' ((c.tc : Thread Cert.Ref2Ideal.nD Cert.Ref2Ideal.τ).loc Cert.Ref2Ideal.main_arg7)
          ∧ r.2.mem ((c.tc : Thread Cert.Ref2Ideal.nD Cert.Ref2Ideal.τ).loc Cert.Ref2Ideal.main_arg8) = m' ((c.tc : Thread Cert.Ref2Ideal.nD Cert.Ref2Ideal.τ).loc Cert.Ref2Ideal.main_arg8))

def Claim : Prop :=
  ∃ (hKernel : Cert.Kernel.Facts) (hKernelIdeal : Cert.KernelIdeal.Facts) (hReferenceIdeal : Cert.ReferenceIdeal.Facts) (hFfn2 : Cert.Ffn2.Facts) (hFfn2Ideal : Cert.Ffn2Ideal.Facts) (hRef2Ideal : Cert.Ref2Ideal.Facts),
    quiescent_Kernel (hKernel := hKernel)
    ∧ quiescent_KernelIdeal (hKernelIdeal := hKernelIdeal)
    ∧ quiescent_ReferenceIdeal (hReferenceIdeal := hReferenceIdeal)
    ∧ quiescent_Ffn2 (hFfn2 := hFfn2)
    ∧ quiescent_Ffn2Ideal (hFfn2Ideal := hFfn2Ideal)
    ∧ quiescent_Ref2Ideal (hRef2Ideal := hRef2Ideal)
    ∧ preserves_Kernel_KernelIdeal
    ∧ algebraic_KernelIdeal_ReferenceIdeal (hKernelIdeal := hKernelIdeal) (hReferenceIdeal := hReferenceIdeal)
    ∧ preserves_Ffn2_Ffn2Ideal
    ∧ algebraic_Ffn2Ideal_Ref2Ideal (hFfn2Ideal := hFfn2Ideal) (hRef2Ideal := hRef2Ideal)
-- ==== Kernel.lean ====
abbrev S1x256x2880 : Shape := ⟨3, ![1, 256, 2880]⟩
abbrev S2880x7680 : Shape := ⟨2, ![2880, 7680]⟩
abbrev S7680 : Shape := ⟨1, ![7680]⟩
abbrev S7680x2880 : Shape := ⟨2, ![7680, 2880]⟩
abbrev S2880 : Shape := ⟨1, ![2880]⟩
abbrev S256x2880 : Shape := ⟨2, ![256, 2880]⟩
abbrev S1x7680 : Shape := ⟨2, ![1, 7680]⟩
abbrev S256x7680 : Shape := ⟨2, ![256, 7680]⟩
abbrev S2880x768 : Shape := ⟨2, ![2880, 768]⟩
abbrev S1x768 : Shape := ⟨2, ![1, 768]⟩
abbrev S256x768 : Shape := ⟨2, ![256, 768]⟩
abbrev S256x1024 : Shape := ⟨2, ![256, 1024]⟩
abbrev S1024x768 : Shape := ⟨2, ![1024, 768]⟩
abbrev S256x832 : Shape := ⟨2, ![256, 832]⟩
abbrev S832x768 : Shape := ⟨2, ![832, 768]⟩
abbrev S1x2880 : Shape := ⟨2, ![1, 2880]⟩
abbrev S768x2880 : Shape := ⟨2, ![768, 2880]⟩
abbrev S256 : Shape := ⟨1, ![256]⟩
abbrev S256x1 : Shape := ⟨2, ![256, 1]⟩

abbrev nBuf : Space → Nat
  | .hbm => 25
  | .vmem => 26
  | .smem => 0
  | _ => 0

abbrev bufTy : (tb : Table) → Fin (tcTables nBuf tb) → BufTy
  | .hbm, ⟨0, _⟩ => ⟨S1x256x2880, .i8⟩
  | .hbm, ⟨1, _⟩ => ⟨S2880x7680, .i8⟩
  | .hbm, ⟨2, _⟩ => ⟨S7680, .i32⟩
  | .hbm, ⟨3, _⟩ => ⟨S7680, .i32⟩
  | .hbm, ⟨4, _⟩ => ⟨S7680, .i32⟩
  | .hbm, ⟨5, _⟩ => ⟨S7680x2880, .i8⟩
  | .hbm, ⟨6, _⟩ => ⟨S2880, .i32⟩
  | .hbm, ⟨7, _⟩ => ⟨S2880, .i32⟩
  | .hbm, ⟨8, _⟩ => ⟨S2880, .i32⟩
  | .hbm, ⟨9, _⟩ => ⟨S2880, .i32⟩
  | .hbm, ⟨10, _⟩ => ⟨S2880, .i32⟩
  | .hbm, ⟨11, _⟩ => ⟨S2880, .i32⟩
  | .hbm, ⟨12, _⟩ => ⟨S256x2880, .i8⟩
  | .hbm, ⟨13, _⟩ => ⟨S1x7680, .i32⟩
  | .hbm, ⟨14, _⟩ => ⟨S1x7680, .i32⟩
  | .hbm, ⟨15, _⟩ => ⟨S1x7680, .i32⟩
  | .hbm, ⟨16, _⟩ => ⟨S256x7680, .i16⟩
  | .hbm, ⟨17, _⟩ => ⟨S256x7680, .i8⟩
  | .hbm, ⟨18, _⟩ => ⟨S1x2880, .i32⟩
  | .hbm, ⟨19, _⟩ => ⟨S1x2880, .i32⟩
  | .hbm, ⟨20, _⟩ => ⟨S1x2880, .i32⟩
  | .hbm, ⟨21, _⟩ => ⟨S1x2880, .i32⟩
  | .hbm, ⟨22, _⟩ => ⟨S1x2880, .i32⟩
  | .hbm, ⟨23, _⟩ => ⟨S1x2880, .i32⟩
  | .hbm, ⟨24, _⟩ => ⟨S256x2880, .i8⟩
  | .local _ .vmem, ⟨0, _⟩ => ⟨S256x2880, .i8⟩
  | .local _ .vmem, ⟨1, _⟩ => ⟨S2880x768, .i8⟩
  | .local _ .vmem, ⟨2, _⟩ => ⟨S2880x768, .i8⟩
  | .local _ .vmem, ⟨3, _⟩ => ⟨S1x768, .i32⟩
  | .local _ .vmem, ⟨4, _⟩ => ⟨S1x768, .i32⟩
  | .local _ .vmem, ⟨5, _⟩ => ⟨S1x768, .i32⟩
  | .local _ .vmem, ⟨6, _⟩ => ⟨S1x768, .i32⟩
  | .local _ .vmem, ⟨7, _⟩ => ⟨S1x768, .i32⟩
  | .local _ .vmem, ⟨8, _⟩ => ⟨S1x768, .i32⟩
  | .local _ .vmem, ⟨9, _⟩ => ⟨S256x768, .i16⟩
  | .local _ .vmem, ⟨10, _⟩ => ⟨S256x768, .i16⟩
  | .local _ .vmem, ⟨11, _⟩ => ⟨S256x768, .i8⟩
  | .local _ .vmem, ⟨12, _⟩ => ⟨S256x768, .i8⟩
  | .local _ .vmem, ⟨13, _⟩ => ⟨S256x768, .i8⟩
  | .local _ .vmem, ⟨14, _⟩ => ⟨S256x768, .i8⟩
  | .local _ .vmem, ⟨15, _⟩ => ⟨S768x2880, .i8⟩
  | .local _ .vmem, ⟨16, _⟩ => ⟨S768x2880, .i8⟩
  | .local _ .vmem, ⟨17, _⟩ => ⟨S256x2880, .i8⟩
  | .local _ .vmem, ⟨18, _⟩ => ⟨S1x2880, .i32⟩
  | .local _ .vmem, ⟨19, _⟩ => ⟨S1x2880, .i32⟩
  | .local _ .vmem, ⟨20, _⟩ => ⟨S1x2880, .i32⟩
  | .local _ .vmem, ⟨21, _⟩ => ⟨S1x2880, .i32⟩
  | .local _ .vmem, ⟨22, _⟩ => ⟨S1x2880, .i32⟩
  | .local _ .vmem, ⟨23, _⟩ => ⟨S1x2880, .i32⟩
  | .local _ .vmem, ⟨24, _⟩ => ⟨S256x2880, .i8⟩
  | .local _ .vmem, ⟨25, _⟩ => ⟨S256x2880, .i32⟩
  | _, _ => ⟨S1x256x2880, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_scratch0 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2880 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2880x768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .i16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v16 : BitVec 1 := Scalar.cmpi .eq arg0 c9_i32
  let v17 : BitVec 32 := Scalar.extui v16
  let c0_i32_8 : BitVec 32 := 0#32
  let v18 : BitVec 1 := Scalar.cmpi .ne v17 c0_i32_8
  v18

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x768 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S768x2880 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x2880 .i8 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2880 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2880 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2880 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2880 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2880 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2880 .i32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x2880 .i8 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceIdeal.lean ====
abbrev S1x256x2880 : Shape := ⟨3, ![1, 256, 2880]⟩
abbrev S2880x7680 : Shape := ⟨2, ![2880, 7680]⟩
abbrev S7680 : Shape := ⟨1, ![7680]⟩
abbrev S7680x2880 : Shape := ⟨2, ![7680, 2880]⟩
abbrev S2880 : Shape := ⟨1, ![2880]⟩
abbrev S1x256x2880x1 : Shape := ⟨4, ![1, 256, 2880, 1]⟩
abbrev S1x1x2880x7680 : Shape := ⟨4, ![1, 1, 2880, 7680]⟩
abbrev S1x256x2880x7680 : Shape := ⟨4, ![1, 256, 2880, 7680]⟩
abbrev S_ : Shape := ⟨0, ![]⟩
abbrev S1x256x7680 : Shape := ⟨3, ![1, 256, 7680]⟩
abbrev S1x1x7680 : Shape := ⟨3, ![1, 1, 7680]⟩
abbrev S1x256x7680x1 : Shape := ⟨4, ![1, 256, 7680, 1]⟩
abbrev S1x1x7680x2880 : Shape := ⟨4, ![1, 1, 7680, 2880]⟩
abbrev S1x256x7680x2880 : Shape := ⟨4, ![1, 256, 7680, 2880]⟩
abbrev S1x1x2880 : Shape := ⟨3, ![1, 1, 2880]⟩
abbrev S1x256 : Shape := ⟨2, ![1, 256]⟩
abbrev S1x256x1 : Shape := ⟨3, ![1, 256, 1]⟩
abbrev S256x2880 : Shape := ⟨2, ![256, 2880]⟩
abbrev S256x7680 : Shape := ⟨2, ![256, 7680]⟩

abbrev nBuf : Space → Nat
  | .hbm => 663
  | .vmem => 0
  | .smem => 0
  | _ => 0

abbrev hbmTy0_0 (i : Nat) : BufTy := match i % 128 with
  | 0 => ⟨S1x256x2880, .i8⟩
  | 1 => ⟨S2880x7680, .i8⟩
  | 2 => ⟨S7680, .i32⟩
  | 3 => ⟨S7680, .i32⟩
  | 4 => ⟨S7680, .i32⟩
  | 5 => ⟨S7680x2880, .i8⟩
  | 6 => ⟨S2880, .i32⟩
  | 7 => ⟨S2880, .i32⟩
  | 8 => ⟨S2880, .i32⟩
  | 9 => ⟨S2880, .i32⟩
  | 10 => ⟨S2880, .i32⟩
  | 11 => ⟨S2880, .i32⟩
  | 12 => ⟨S1x256x2880, .i32⟩
  | 13 => ⟨S1x256x2880x1, .i32⟩
  | 14 => ⟨S2880x7680, .i32⟩
  | 15 => ⟨S1x1x2880x7680, .i32⟩
  | 16 => ⟨S1x256x2880x7680, .i32⟩
  | 17 => ⟨S1x256x2880x7680, .i32⟩
  | 18 => ⟨S1x256x2880x7680, .i32⟩
  | 19 => ⟨S_, .i32⟩
  | 20 => ⟨S1x256x7680, .i32⟩
  | 21 => ⟨S1x1x7680, .i32⟩
  | 22 => ⟨S1x256x7680, .i32⟩
  | 23 => ⟨S1x256x7680, .i32⟩
  | 24 => ⟨S_, .i32⟩
  | 25 => ⟨S7680, .i32⟩
  | 26 => ⟨S7680, .i32⟩
  | 27 => ⟨S_, .i32⟩
  | 28 => ⟨S7680, .i32⟩
  | 29 => ⟨S7680, .i32⟩
  | 30 => ⟨S_, .i32⟩
  | 31 => ⟨S7680, .i32⟩
  | 32 => ⟨S7680, .i32⟩
  | 33 => ⟨S_, .i32⟩
  | 34 => ⟨S7680, .i32⟩
  | 35 => ⟨S7680, .i32⟩
  | 36 => ⟨S_, .i32⟩
  | 37 => ⟨S7680, .i32⟩
  | 38 => ⟨S7680, .i32⟩
  | 39 => ⟨S1x1x7680, .i32⟩
  | 40 => ⟨S1x256x7680, .i32⟩
  | 41 => ⟨S1x256x7680, .i32⟩
  | 42 => ⟨S1x1x7680, .i32⟩
  | 43 => ⟨S1x256x7680, .i32⟩
  | 44 => ⟨S1x256x7680, .i32⟩
  | 45 => ⟨S1x1x7680, .i32⟩
  | 46 => ⟨S1x256x7680, .i32⟩
  | 47 => ⟨S1x256x7680, .i32⟩
  | 48 => ⟨S1x1x7680, .i32⟩
  | 49 => ⟨S1x256x7680, .i32⟩
  | 50 => ⟨S1x256x7680, .i32⟩
  | 51 => ⟨S1x1x7680, .i32⟩
  | 52 => ⟨S1x256x7680, .i32⟩
  | 53 => ⟨S1x256x7680, .i32⟩
  | 54 => ⟨S1x1x7680, .i32⟩
  | 55 => ⟨S1x256x7680, .i32⟩
  | 56 => ⟨S1x256x7680, .i32⟩
  | 57 => ⟨S1x256x7680, .i32⟩
  | 58 => ⟨S7680, .i32⟩
  | 59 => ⟨S1x1x7680, .i32⟩
  | 60 => ⟨S1x256x7680, .i32⟩
  | 61 => ⟨S1x256x7680, .i32⟩
  | 62 => ⟨S_, .i32⟩
  | 63 => ⟨S_, .i32⟩
  | 64 => ⟨S_, .i32⟩
  | 65 => ⟨S1x256x7680, .i32⟩
  | 66 => ⟨S1x256x7680, .i32⟩
  | 67 => ⟨S_, .i32⟩
  | 68 => ⟨S1x256x7680, .i32⟩
  | 69 => ⟨S1x256x7680, .i32⟩
  | 70 => ⟨S1x256x7680, .i32⟩
  | 71 => ⟨S_, .i32⟩
  | 72 => ⟨S1x256x7680, .i32⟩
  | 73 => ⟨S1x256x7680, .i32⟩
  | 74 => ⟨S_, .i32⟩
  | 75 => ⟨S1x256x7680, .i32⟩
  | 76 => ⟨S1x256x7680, .i32⟩
  | 77 => ⟨S1x256x7680, .i32⟩
  | 78 => ⟨S1x256x7680, .i32⟩
  | 79 => ⟨S_, .i32⟩
  | 80 => ⟨S1x256x7680, .i32⟩
  | 81 => ⟨S1x256x7680, .i32⟩
  | 82 => ⟨S1x256x7680, .i32⟩
  | 83 => ⟨S_, .i32⟩
  | 84 => ⟨S1x256x7680, .i32⟩
  | 85 => ⟨S1x256x7680, .i32⟩
  | 86 => ⟨S_, .i32⟩
  | 87 => ⟨S1x256x7680, .i32⟩
  | 88 => ⟨S1x256x7680, .i32⟩
  | 89 => ⟨S1x256x7680, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S1x256x7680, .i32⟩
  | 103 => ⟨S1x256x7680, .i32⟩
  | 104 => ⟨S_, .i32⟩
  | 105 => ⟨S1x256x7680, .i32⟩
  | 106 => ⟨S1x256x7680, .i32⟩
  | 107 => ⟨S1x256x7680, .i32⟩
  | 108 => ⟨S1x256x7680, .i32⟩
  | 109 => ⟨S_, .i32⟩
  | 110 => ⟨S1x256x7680, .i32⟩
  | 111 => ⟨S1x256x7680, .i32⟩
  | 112 => ⟨S1x256x7680, .i32⟩
  | 113 => ⟨S1x256x7680, .i32⟩
  | 114 => ⟨S1x256x7680, .i32⟩
  | 115 => ⟨S1x256x7680, .i32⟩
  | 116 => ⟨S1x256x7680, .i32⟩
  | 117 => ⟨S_, .i32⟩
  | 118 => ⟨S_, .i32⟩
  | 119 => ⟨S1x256x7680, .i32⟩
  | 120 => ⟨S1x256x7680, .i32⟩
  | 121 => ⟨S_, .i32⟩
  | 122 => ⟨S_, .i32⟩
  | 123 => ⟨S_, .i32⟩
  | 124 => ⟨S1x256x7680, .i32⟩
  | 125 => ⟨S1x256x7680, .i32⟩
  | 126 => ⟨S_, .i32⟩
  | 127 => ⟨S1x256x7680, .i32⟩
  | _ => ⟨S1x256x2880, .i8⟩

abbrev hbmTy0_1 (i : Nat) : BufTy := match i % 128 with
  | 0 => ⟨S1x256x7680, .i32⟩
  | 1 => ⟨S1x256x7680, .i8⟩
  | 2 => ⟨S1x256x7680, .i32⟩
  | 3 => ⟨S1x256x7680x1, .i32⟩
  | 4 => ⟨S7680x2880, .i32⟩
  | 5 => ⟨S1x1x7680x2880, .i32⟩
  | 6 => ⟨S1x256x7680x2880, .i32⟩
  | 7 => ⟨S1x256x7680x2880, .i32⟩
  | 8 => ⟨S1x256x7680x2880, .i32⟩
  | 9 => ⟨S_, .i32⟩
  | 10 => ⟨S1x256x2880, .i32⟩
  | 11 => ⟨S1x1x2880, .i32⟩
  | 12 => ⟨S1x256x2880, .i32⟩
  | 13 => ⟨S1x256x2880, .i32⟩
  | 14 => ⟨S_, .i32⟩
  | 15 => ⟨S2880, .i32⟩
  | 16 => ⟨S2880, .i32⟩
  | 17 => ⟨S_, .i32⟩
  | 18 => ⟨S2880, .i32⟩
  | 19 => ⟨S2880, .i32⟩
  | 20 => ⟨S_, .i32⟩
  | 21 => ⟨S2880, .i32⟩
  | 22 => ⟨S2880, .i32⟩
  | 23 => ⟨S_, .i32⟩
  | 24 => ⟨S2880, .i32⟩
  | 25 => ⟨S2880, .i32⟩
  | 26 => ⟨S_, .i32⟩
  | 27 => ⟨S2880, .i32⟩
  | 28 => ⟨S2880, .i32⟩
  | 29 => ⟨S1x1x2880, .i32⟩
  | 30 => ⟨S1x256x2880, .i32⟩
  | 31 => ⟨S1x256x2880, .i32⟩
  | 32 => ⟨S1x1x2880, .i32⟩
  | 33 => ⟨S1x256x2880, .i32⟩
  | 34 => ⟨S1x256x2880, .i32⟩
  | 35 => ⟨S1x1x2880, .i32⟩
  | 36 => ⟨S1x256x2880, .i32⟩
  | 37 => ⟨S1x256x2880, .i32⟩
  | 38 => ⟨S1x1x2880, .i32⟩
  | 39 => ⟨S1x256x2880, .i32⟩
  | 40 => ⟨S1x256x2880, .i32⟩
  | 41 => ⟨S1x1x2880, .i32⟩
  | 42 => ⟨S1x256x2880, .i32⟩
  | 43 => ⟨S1x256x2880, .i32⟩
  | 44 => ⟨S1x1x2880, .i32⟩
  | 45 => ⟨S1x256x2880, .i32⟩
  | 46 => ⟨S1x256x2880, .i32⟩
  | 47 => ⟨S1x256x2880, .i32⟩
  | 48 => ⟨S2880, .i32⟩
  | 49 => ⟨S1x1x2880, .i32⟩
  | 50 => ⟨S1x256x2880, .i32⟩
  | 51 => ⟨S1x256x2880, .i32⟩
  | 52 => ⟨S1x256x2880, .i32⟩
  | 53 => ⟨S_, .i32⟩
  | 54 => ⟨S1x256x2880, .i32⟩
  | 55 => ⟨S1x256x2880, .i32⟩
  | 56 => ⟨S1x256x2880, .i32⟩
  | 57 => ⟨S_, .i32⟩
  | 58 => ⟨S1x256, .i32⟩
  | 59 => ⟨S1x256x1, .i32⟩
  | 60 => ⟨S_, .i32⟩
  | 61 => ⟨S1x256x1, .i32⟩
  | 62 => ⟨S1x256x1, .i32⟩
  | 63 => ⟨S_, .i32⟩
  | 64 => ⟨S_, .i32⟩
  | 65 => ⟨S1x256x1, .i32⟩
  | 66 => ⟨S1x256x1, .i32⟩
  | 67 => ⟨S1x256x1, .i32⟩
  | 68 => ⟨S_, .i32⟩
  | 69 => ⟨S1x256x1, .i32⟩
  | 70 => ⟨S1x256x1, .i1⟩
  | 71 => ⟨S1x256x1, .i32⟩
  | 72 => ⟨S1x256x1, .i32⟩
  | 73 => ⟨S_, .i32⟩
  | 74 => ⟨S1x256x1, .i32⟩
  | 75 => ⟨S1x256x1, .i1⟩
  | 76 => ⟨S1x256x1, .i1⟩
  | 77 => ⟨S_, .i32⟩
  | 78 => ⟨S1x256x1, .i32⟩
  | 79 => ⟨S1x256x1, .i32⟩
  | 80 => ⟨S1x256x1, .i32⟩
  | 81 => ⟨S1x256x2880, .i32⟩
  | 82 => ⟨S1x256x2880, .i32⟩
  | 83 => ⟨S1x256x2880, .i32⟩
  | 84 => ⟨S_, .i32⟩
  | 85 => ⟨S1x256, .i32⟩
  | 86 => ⟨S1x256x1, .i32⟩
  | 87 => ⟨S1x256x1, .i32⟩
  | 88 => ⟨S_, .i32⟩
  | 89 => ⟨S1x256x1, .i32⟩
  | 90 => ⟨S1x256x1, .i32⟩
  | 91 => ⟨S_, .i32⟩
  | 92 => ⟨S1x256x1, .i32⟩
  | 93 => ⟨S1x256x1, .i32⟩
  | 94 => ⟨S_, .i32⟩
  | 95 => ⟨S1x256x1, .i32⟩
  | 96 => ⟨S1x256x1, .i32⟩
  | 97 => ⟨S1x256x2880, .i32⟩
  | 98 => ⟨S1x256x2880, .i32⟩
  | 99 => ⟨S1x256x2880, .i32⟩
  | 100 => ⟨S_, .i32⟩
  | 101 => ⟨S1x256, .i32⟩
  | 102 => ⟨S1x256x1, .i32⟩
  | 103 => ⟨S_, .i32⟩
  | 104 => ⟨S1x256x1, .i32⟩
  | 105 => ⟨S1x256x1, .i32⟩
  | 106 => ⟨S_, .i32⟩
  | 107 => ⟨S1x256x1, .i32⟩
  | 108 => ⟨S1x256x1, .i32⟩
  | 109 => ⟨S1x256x1, .i32⟩
  | 110 => ⟨S1x256x1, .i32⟩
  | 111 => ⟨S1x256x1, .i1⟩
  | 112 => ⟨S1x256x1, .i32⟩
  | 113 => ⟨S_, .i32⟩
  | 114 => ⟨S1x256x1, .i32⟩
  | 115 => ⟨S1x256x1, .i1⟩
  | 116 => ⟨S1x256x1, .i1⟩
  | 117 => ⟨S_, .i32⟩
  | 118 => ⟨S1x256x1, .i32⟩
  | 119 => ⟨S1x256x1, .i32⟩
  | 120 => ⟨S1x256x1, .i32⟩
  | 121 => ⟨S1x256x1, .i32⟩
  | 122 => ⟨S_, .i32⟩
  | 123 => ⟨S1x256x1, .i32⟩
  | 124 => ⟨S1x256x1, .i32⟩
  | 125 => ⟨S1x256x1, .i32⟩
  | 126 => ⟨S1x256x1, .i32⟩
  | 127 => ⟨S1x256x1, .i32⟩
  | _ => ⟨S1x256x2880, .i8⟩

abbrev hbmTy0_2 (i : Nat) : BufTy := match i % 128 with
  | 0 => ⟨S1x256x1, .i1⟩
  | 1 => ⟨S1x256x1, .i32⟩
  | 2 => ⟨S_, .i32⟩
  | 3 => ⟨S1x256x1, .i32⟩
  | 4 => ⟨S1x256x1, .i1⟩
  | 5 => ⟨S1x256x1, .i1⟩
  | 6 => ⟨S_, .i32⟩
  | 7 => ⟨S1x256x1, .i32⟩
  | 8 => ⟨S1x256x1, .i32⟩
  | 9 => ⟨S1x256x1, .i32⟩
  | 10 => ⟨S1x256x1, .i32⟩
  | 11 => ⟨S_, .i32⟩
  | 12 => ⟨S1x256x1, .i32⟩
  | 13 => ⟨S1x256x1, .i32⟩
  | 14 => ⟨S1x256x1, .i32⟩
  | 15 => ⟨S1x256x1, .i32⟩
  | 16 => ⟨S1x256x1, .i32⟩
  | 17 => ⟨S1x256x1, .i1⟩
  | 18 => ⟨S1x256x1, .i32⟩
  | 19 => ⟨S_, .i32⟩
  | 20 => ⟨S1x256x1, .i32⟩
  | 21 => ⟨S1x256x1, .i1⟩
  | 22 => ⟨S1x256x1, .i1⟩
  | 23 => ⟨S_, .i32⟩
  | 24 => ⟨S1x256x1, .i32⟩
  | 25 => ⟨S1x256x1, .i32⟩
  | 26 => ⟨S1x256x1, .i32⟩
  | 27 => ⟨S1x256x1, .i32⟩
  | 28 => ⟨S_, .i32⟩
  | 29 => ⟨S1x256x1, .i32⟩
  | 30 => ⟨S1x256x1, .i32⟩
  | 31 => ⟨S1x256x1, .i32⟩
  | 32 => ⟨S1x256x1, .i32⟩
  | 33 => ⟨S1x256x1, .i32⟩
  | 34 => ⟨S1x256x1, .i1⟩
  | 35 => ⟨S1x256x1, .i32⟩
  | 36 => ⟨S_, .i32⟩
  | 37 => ⟨S1x256x1, .i32⟩
  | 38 => ⟨S1x256x1, .i1⟩
  | 39 => ⟨S1x256x1, .i1⟩
  | 40 => ⟨S_, .i32⟩
  | 41 => ⟨S1x256x1, .i32⟩
  | 42 => ⟨S1x256x1, .i32⟩
  | 43 => ⟨S1x256x1, .i32⟩
  | 44 => ⟨S1x256x1, .i32⟩
  | 45 => ⟨S_, .i32⟩
  | 46 => ⟨S1x256x1, .i32⟩
  | 47 => ⟨S1x256x1, .i32⟩
  | 48 => ⟨S1x256x1, .i32⟩
  | 49 => ⟨S1x256x1, .i32⟩
  | 50 => ⟨S1x256x1, .i32⟩
  | 51 => ⟨S1x256x1, .i1⟩
  | 52 => ⟨S1x256x1, .i32⟩
  | 53 => ⟨S_, .i32⟩
  | 54 => ⟨S1x256x1, .i32⟩
  | 55 => ⟨S1x256x1, .i1⟩
  | 56 => ⟨S1x256x1, .i1⟩
  | 57 => ⟨S_, .i32⟩
  | 58 => ⟨S1x256x1, .i32⟩
  | 59 => ⟨S1x256x1, .i32⟩
  | 60 => ⟨S1x256x1, .i32⟩
  | 61 => ⟨S1x256x1, .i32⟩
  | 62 => ⟨S_, .i32⟩
  | 63 => ⟨S1x256x1, .i32⟩
  | 64 => ⟨S1x256x1, .i32⟩
  | 65 => ⟨S1x256x1, .i32⟩
  | 66 => ⟨S1x256x1, .i32⟩
  | 67 => ⟨S1x256x1, .i32⟩
  | 68 => ⟨S1x256x1, .i1⟩
  | 69 => ⟨S1x256x1, .i32⟩
  | 70 => ⟨S_, .i32⟩
  | 71 => ⟨S1x256x1, .i32⟩
  | 72 => ⟨S1x256x1, .i1⟩
  | 73 => ⟨S1x256x1, .i1⟩
  | 74 => ⟨S_, .i32⟩
  | 75 => ⟨S1x256x1, .i32⟩
  | 76 => ⟨S1x256x1, .i32⟩
  | 77 => ⟨S1x256x1, .i32⟩
  | 78 => ⟨S1x256x1, .i32⟩
  | 79 => ⟨S_, .i32⟩
  | 80 => ⟨S1x256x1, .i32⟩
  | 81 => ⟨S1x256x1, .i32⟩
  | 82 => ⟨S1x256x1, .i32⟩
  | 83 => ⟨S1x256x1, .i32⟩
  | 84 => ⟨S1x256x1, .i32⟩
  | 85 => ⟨S1x256x1, .i1⟩
  | 86 => ⟨S1x256x1, .i32⟩
  | 87 => ⟨S_, .i32⟩
  | 88 => ⟨S1x256x1, .i32⟩
  | 89 => ⟨S1x256x1, .i1⟩
  | 90 => ⟨S1x256x1, .i1⟩
  | 91 => ⟨S_, .i32⟩
  | 92 => ⟨S1x256x1, .i32⟩
  | 93 => ⟨S1x256x1, .i32⟩
  | 94 => ⟨S1x256x1, .i32⟩
  | 95 => ⟨S1x256x1, .i32⟩
  | 96 => ⟨S_, .i32⟩
  | 97 => ⟨S1x256x1, .i32⟩
  | 98 => ⟨S1x256x1, .i32⟩
  | 99 => ⟨S1x256x1, .i32⟩
  | 100 => ⟨S1x256x1, .i32⟩
  | 101 => ⟨S1x256x1, .i32⟩
  | 102 => ⟨S1x256x1, .i1⟩
  | 103 => ⟨S1x256x1, .i32⟩
  | 104 => ⟨S_, .i32⟩
  | 105 => ⟨S1x256x1, .i32⟩
  | 106 => ⟨S1x256x1, .i1⟩
  | 107 => ⟨S1x256x1, .i1⟩
  | 108 => ⟨S_, .i32⟩
  | 109 => ⟨S1x256x1, .i32⟩
  | 110 => ⟨S1x256x1, .i32⟩
  | 111 => ⟨S1x256x1, .i32⟩
  | 112 => ⟨S1x256x1, .i32⟩
  | 113 => ⟨S_, .i32⟩
  | 114 => ⟨S1x256x1, .i32⟩
  | 115 => ⟨S1x256x1, .i32⟩
  | 116 => ⟨S1x256x1, .i32⟩
  | 117 => ⟨S1x256x1, .i32⟩
  | 118 => ⟨S1x256x1, .i32⟩
  | 119 => ⟨S1x256x1, .i1⟩
  | 120 => ⟨S1x256x1, .i32⟩
  | 121 => ⟨S_, .i32⟩
  | 122 => ⟨S1x256x1, .i32⟩
  | 123 => ⟨S1x256x1, .i1⟩
  | 124 => ⟨S1x256x1, .i1⟩
  | 125 => ⟨S_, .i32⟩
  | 126 => ⟨S1x256x1, .i32⟩
  | 127 => ⟨S1x256x1, .i32⟩
  | _ => ⟨S1x256x2880, .i8⟩

abbrev hbmTy0_3 (i : Nat) : BufTy := match i % 128 with
  | 0 => ⟨S1x256x1, .i32⟩
  | 1 => ⟨S1x256x1, .i32⟩
  | 2 => ⟨S_, .i32⟩
  | 3 => ⟨S1x256x1, .i32⟩
  | 4 => ⟨S1x256x1, .i32⟩
  | 5 => ⟨S1x256x1, .i32⟩
  | 6 => ⟨S1x256x1, .i32⟩
  | 7 => ⟨S1x256x1, .i32⟩
  | 8 => ⟨S1x256x1, .i1⟩
  | 9 => ⟨S1x256x1, .i32⟩
  | 10 => ⟨S_, .i32⟩
  | 11 => ⟨S1x256x1, .i32⟩
  | 12 => ⟨S1x256x1, .i1⟩
  | 13 => ⟨S1x256x1, .i1⟩
  | 14 => ⟨S_, .i32⟩
  | 15 => ⟨S1x256x1, .i32⟩
  | 16 => ⟨S1x256x1, .i32⟩
  | 17 => ⟨S1x256x1, .i32⟩
  | 18 => ⟨S1x256x1, .i32⟩
  | 19 => ⟨S_, .i32⟩
  | 20 => ⟨S1x256x1, .i32⟩
  | 21 => ⟨S1x256x1, .i32⟩
  | 22 => ⟨S1x256x1, .i32⟩
  | 23 => ⟨S1x256x1, .i32⟩
  | 24 => ⟨S1x256x1, .i32⟩
  | 25 => ⟨S1x256x1, .i1⟩
  | 26 => ⟨S1x256x1, .i32⟩
  | 27 => ⟨S_, .i32⟩
  | 28 => ⟨S1x256x1, .i32⟩
  | 29 => ⟨S1x256x1, .i1⟩
  | 30 => ⟨S1x256x1, .i1⟩
  | 31 => ⟨S_, .i32⟩
  | 32 => ⟨S1x256x1, .i32⟩
  | 33 => ⟨S1x256x1, .i32⟩
  | 34 => ⟨S1x256x1, .i32⟩
  | 35 => ⟨S1x256x1, .i32⟩
  | 36 => ⟨S_, .i32⟩
  | 37 => ⟨S1x256x1, .i32⟩
  | 38 => ⟨S1x256x1, .i32⟩
  | 39 => ⟨S1x256x1, .i32⟩
  | 40 => ⟨S1x256x1, .i32⟩
  | 41 => ⟨S1x256x1, .i32⟩
  | 42 => ⟨S1x256x1, .i1⟩
  | 43 => ⟨S1x256x1, .i32⟩
  | 44 => ⟨S_, .i32⟩
  | 45 => ⟨S1x256x1, .i32⟩
  | 46 => ⟨S1x256x1, .i1⟩
  | 47 => ⟨S1x256x1, .i1⟩
  | 48 => ⟨S_, .i32⟩
  | 49 => ⟨S1x256x1, .i32⟩
  | 50 => ⟨S1x256x1, .i32⟩
  | 51 => ⟨S1x256x1, .i32⟩
  | 52 => ⟨S1x256x1, .i32⟩
  | 53 => ⟨S_, .i32⟩
  | 54 => ⟨S1x256x1, .i32⟩
  | 55 => ⟨S1x256x1, .i32⟩
  | 56 => ⟨S1x256x1, .i32⟩
  | 57 => ⟨S1x256x1, .i32⟩
  | 58 => ⟨S1x256x1, .i32⟩
  | 59 => ⟨S1x256x1, .i1⟩
  | 60 => ⟨S1x256x1, .i32⟩
  | 61 => ⟨S_, .i32⟩
  | 62 => ⟨S1x256x1, .i32⟩
  | 63 => ⟨S1x256x1, .i1⟩
  | 64 => ⟨S1x256x1, .i1⟩
  | 65 => ⟨S_, .i32⟩
  | 66 => ⟨S1x256x1, .i32⟩
  | 67 => ⟨S1x256x1, .i32⟩
  | 68 => ⟨S1x256x1, .i32⟩
  | 69 => ⟨S1x256x1, .i32⟩
  | 70 => ⟨S_, .i32⟩
  | 71 => ⟨S1x256x1, .i32⟩
  | 72 => ⟨S1x256x1, .i32⟩
  | 73 => ⟨S1x256x1, .i32⟩
  | 74 => ⟨S1x256x1, .i32⟩
  | 75 => ⟨S1x256x1, .i32⟩
  | 76 => ⟨S1x256x1, .i1⟩
  | 77 => ⟨S1x256x1, .i32⟩
  | 78 => ⟨S_, .i32⟩
  | 79 => ⟨S1x256x1, .i32⟩
  | 80 => ⟨S1x256x1, .i1⟩
  | 81 => ⟨S1x256x1, .i1⟩
  | 82 => ⟨S_, .i32⟩
  | 83 => ⟨S1x256x1, .i32⟩
  | 84 => ⟨S1x256x1, .i32⟩
  | 85 => ⟨S1x256x1, .i32⟩
  | 86 => ⟨S1x256x1, .i32⟩
  | 87 => ⟨S_, .i32⟩
  | 88 => ⟨S1x256x1, .i32⟩
  | 89 => ⟨S1x256x1, .i32⟩
  | 90 => ⟨S1x256x1, .i32⟩
  | 91 => ⟨S1x256x1, .i32⟩
  | 92 => ⟨S1x256x1, .i32⟩
  | 93 => ⟨S1x256x1, .i1⟩
  | 94 => ⟨S1x256x1, .i32⟩
  | 95 => ⟨S_, .i32⟩
  | 96 => ⟨S1x256x1, .i32⟩
  | 97 => ⟨S1x256x1, .i1⟩
  | 98 => ⟨S1x256x1, .i1⟩
  | 99 => ⟨S_, .i32⟩
  | 100 => ⟨S1x256x1, .i32⟩
  | 101 => ⟨S1x256x1, .i32⟩
  | 102 => ⟨S1x256x1, .i32⟩
  | 103 => ⟨S1x256x1, .i32⟩
  | 104 => ⟨S_, .i32⟩
  | 105 => ⟨S1x256x1, .i32⟩
  | 106 => ⟨S1x256x1, .i32⟩
  | 107 => ⟨S1x256x1, .i32⟩
  | 108 => ⟨S1x256x1, .i32⟩
  | 109 => ⟨S1x256x1, .i32⟩
  | 110 => ⟨S1x256x1, .i1⟩
  | 111 => ⟨S1x256x1, .i32⟩
  | 112 => ⟨S_, .i32⟩
  | 113 => ⟨S1x256x1, .i32⟩
  | 114 => ⟨S1x256x1, .i1⟩
  | 115 => ⟨S1x256x1, .i1⟩
  | 116 => ⟨S_, .i32⟩
  | 117 => ⟨S1x256x1, .i32⟩
  | 118 => ⟨S1x256x1, .i32⟩
  | 119 => ⟨S1x256x1, .i32⟩
  | 120 => ⟨S1x256x1, .i32⟩
  | 121 => ⟨S_, .i32⟩
  | 122 => ⟨S1x256x1, .i32⟩
  | 123 => ⟨S1x256x1, .i32⟩
  | 124 => ⟨S1x256x1, .i32⟩
  | 125 => ⟨S1x256x1, .i32⟩
  | 126 => ⟨S1x256x1, .i32⟩
  | 127 => ⟨S1x256x1, .i1⟩
  | _ => ⟨S1x256x2880, .i8⟩

abbrev hbmTy0_4 (i : Nat) : BufTy := match i % 128 with
  | 0 => ⟨S1x256x1, .i32⟩
  | 1 => ⟨S_, .i32⟩
  | 2 => ⟨S1x256x1, .i32⟩
  | 3 => ⟨S1x256x1, .i1⟩
  | 4 => ⟨S1x256x1, .i1⟩
  | 5 => ⟨S_, .i32⟩
  | 6 => ⟨S1x256x1, .i32⟩
  | 7 => ⟨S1x256x1, .i32⟩
  | 8 => ⟨S1x256x1, .i32⟩
  | 9 => ⟨S1x256x1, .i32⟩
  | 10 => ⟨S_, .i32⟩
  | 11 => ⟨S1x256x1, .i32⟩
  | 12 => ⟨S1x256x1, .i32⟩
  | 13 => ⟨S1x256x1, .i32⟩
  | 14 => ⟨S1x256x1, .i32⟩
  | 15 => ⟨S1x256x1, .i32⟩
  | 16 => ⟨S1x256x1, .i1⟩
  | 17 => ⟨S1x256x1, .i32⟩
  | 18 => ⟨S_, .i32⟩
  | 19 => ⟨S1x256x1, .i32⟩
  | 20 => ⟨S1x256x1, .i1⟩
  | 21 => ⟨S1x256x1, .i1⟩
  | 22 => ⟨S_, .i32⟩
  | 23 => ⟨S1x256x1, .i32⟩
  | 24 => ⟨S1x256x1, .i32⟩
  | 25 => ⟨S1x256x1, .i32⟩
  | 26 => ⟨S1x256x1, .i32⟩
  | 27 => ⟨S_, .i32⟩
  | 28 => ⟨S1x256x1, .i32⟩
  | 29 => ⟨S1x256x1, .i32⟩
  | 30 => ⟨S1x256x1, .i32⟩
  | 31 => ⟨S1x256x1, .i32⟩
  | 32 => ⟨S1x256x1, .i32⟩
  | 33 => ⟨S1x256x1, .i1⟩
  | 34 => ⟨S1x256x1, .i32⟩
  | 35 => ⟨S_, .i32⟩
  | 36 => ⟨S1x256x1, .i32⟩
  | 37 => ⟨S1x256x1, .i1⟩
  | 38 => ⟨S1x256x1, .i1⟩
  | 39 => ⟨S_, .i32⟩
  | 40 => ⟨S1x256x1, .i32⟩
  | 41 => ⟨S1x256x1, .i32⟩
  | 42 => ⟨S1x256x1, .i32⟩
  | 43 => ⟨S1x256x1, .i32⟩
  | 44 => ⟨S_, .i32⟩
  | 45 => ⟨S1x256x1, .i32⟩
  | 46 => ⟨S1x256x1, .i32⟩
  | 47 => ⟨S1x256x1, .i32⟩
  | 48 => ⟨S1x256x1, .i32⟩
  | 49 => ⟨S1x256x1, .i32⟩
  | 50 => ⟨S1x256x1, .i1⟩
  | 51 => ⟨S1x256x1, .i32⟩
  | 52 => ⟨S_, .i32⟩
  | 53 => ⟨S1x256x1, .i32⟩
  | 54 => ⟨S1x256x1, .i1⟩
  | 55 => ⟨S1x256x1, .i1⟩
  | 56 => ⟨S_, .i32⟩
  | 57 => ⟨S1x256x1, .i32⟩
  | 58 => ⟨S1x256x1, .i32⟩
  | 59 => ⟨S1x256x1, .i32⟩
  | 60 => ⟨S1x256x1, .i32⟩
  | 61 => ⟨S_, .i32⟩
  | 62 => ⟨S1x256x1, .i32⟩
  | 63 => ⟨S1x256x1, .i32⟩
  | 64 => ⟨S_, .i32⟩
  | 65 => ⟨S1x256x1, .i32⟩
  | 66 => ⟨S1x256x1, .i32⟩
  | 67 => ⟨S1x256x1, .i32⟩
  | 68 => ⟨S_, .i32⟩
  | 69 => ⟨S1x256x1, .i32⟩
  | 70 => ⟨S1x256x1, .i1⟩
  | 71 => ⟨S_, .i32⟩
  | 72 => ⟨S1x256x1, .i32⟩
  | 73 => ⟨S1x256x1, .i32⟩
  | 74 => ⟨S_, .i32⟩
  | 75 => ⟨S1x256x1, .i32⟩
  | 76 => ⟨S1x256x1, .i32⟩
  | 77 => ⟨S1x256x1, .i1⟩
  | 78 => ⟨S1x256x1, .i32⟩
  | 79 => ⟨S1x256x1, .i32⟩
  | 80 => ⟨S_, .i32⟩
  | 81 => ⟨S1x256x1, .i32⟩
  | 82 => ⟨S1x256x1, .i1⟩
  | 83 => ⟨S1x256x1, .i1⟩
  | 84 => ⟨S_, .i32⟩
  | 85 => ⟨S1x256x1, .i32⟩
  | 86 => ⟨S1x256x1, .i32⟩
  | 87 => ⟨S1x256x1, .i32⟩
  | 88 => ⟨S_, .i32⟩
  | 89 => ⟨S_, .i32⟩
  | 90 => ⟨S1x256x1, .i32⟩
  | 91 => ⟨S1x256x1, .i32⟩
  | 92 => ⟨S1x256x2880, .i32⟩
  | 93 => ⟨S1x256x2880, .i32⟩
  | 94 => ⟨S_, .i32⟩
  | 95 => ⟨S1x256x2880, .i32⟩
  | 96 => ⟨S1x256x2880, .i32⟩
  | 97 => ⟨S_, .i32⟩
  | 98 => ⟨S2880, .i32⟩
  | 99 => ⟨S2880, .i32⟩
  | 100 => ⟨S_, .i32⟩
  | 101 => ⟨S2880, .i32⟩
  | 102 => ⟨S2880, .i32⟩
  | 103 => ⟨S_, .i32⟩
  | 104 => ⟨S2880, .i32⟩
  | 105 => ⟨S2880, .i32⟩
  | 106 => ⟨S_, .i32⟩
  | 107 => ⟨S2880, .i32⟩
  | 108 => ⟨S2880, .i32⟩
  | 109 => ⟨S_, .i32⟩
  | 110 => ⟨S2880, .i32⟩
  | 111 => ⟨S2880, .i32⟩
  | 112 => ⟨S1x1x2880, .i32⟩
  | 113 => ⟨S1x256x2880, .i32⟩
  | 114 => ⟨S1x256x2880, .i32⟩
  | 115 => ⟨S1x1x2880, .i32⟩
  | 116 => ⟨S1x256x2880, .i32⟩
  | 117 => ⟨S1x256x2880, .i32⟩
  | 118 => ⟨S1x1x2880, .i32⟩
  | 119 => ⟨S1x256x2880, .i32⟩
  | 120 => ⟨S1x256x2880, .i32⟩
  | 121 => ⟨S1x1x2880, .i32⟩
  | 122 => ⟨S1x256x2880, .i32⟩
  | 123 => ⟨S1x256x2880, .i32⟩
  | 124 => ⟨S1x1x2880, .i32⟩
  | 125 => ⟨S1x256x2880, .i32⟩
  | 126 => ⟨S1x256x2880, .i32⟩
  | 127 => ⟨S1x1x2880, .i32⟩
  | _ => ⟨S1x256x2880, .i8⟩

abbrev hbmTy0_5 (i : Nat) : BufTy := match i % 128 with
  | 0 => ⟨S1x256x2880, .i32⟩
  | 1 => ⟨S1x256x2880, .i32⟩
  | 2 => ⟨S1x256x2880, .i32⟩
  | 3 => ⟨S2880, .i32⟩
  | 4 => ⟨S1x1x2880, .i32⟩
  | 5 => ⟨S1x256x2880, .i32⟩
  | 6 => ⟨S1x256x2880, .i32⟩
  | 7 => ⟨S1x1x2880, .i32⟩
  | 8 => ⟨S1x256x2880, .i32⟩
  | 9 => ⟨S1x256x2880, .i32⟩
  | 10 => ⟨S_, .i32⟩
  | 11 => ⟨S_, .i32⟩
  | 12 => ⟨S_, .i32⟩
  | 13 => ⟨S1x256x2880, .i32⟩
  | 14 => ⟨S1x256x2880, .i32⟩
  | 15 => ⟨S_, .i32⟩
  | 16 => ⟨S1x256x2880, .i32⟩
  | 17 => ⟨S1x256x2880, .i32⟩
  | 18 => ⟨S1x256x2880, .i8⟩
  | 19 => ⟨S256x2880, .i8⟩
  | 20 => ⟨S1x256x7680, .i16⟩
  | 21 => ⟨S256x7680, .i16⟩
  | 22 => ⟨S256x7680, .i8⟩
  | _ => ⟨S1x256x2880, .i8⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x256x2880, .i8⟩

abbrev bufTy : (tb : Table) → Fin (tcTables nBuf tb) → BufTy
  | .hbm, ⟨i, _⟩ => hbmTy i
  | _, _ => ⟨S1x256x2880, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_5 : Ref sig .tc := ⟨.hbm, 62, rfl⟩
abbrev main_c_6 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v44 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_c_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_12 : Ref sig .tc := ⟨.hbm, 90, rfl⟩
abbrev main_c_13 : Ref sig .tc := ⟨.hbm, 91, rfl⟩
abbrev main_v60 : Ref sig .tc := ⟨.hbm, 92, rfl⟩
abbrev main_c_14 : Ref sig .tc := ⟨.hbm, 93, rfl⟩
abbrev main_v61 : Ref sig .tc := ⟨.hbm, 94, rfl⟩
abbrev main_c_15 : Ref sig .tc := ⟨.hbm, 95, rfl⟩
abbrev main_v62 : Ref sig .tc := ⟨.hbm, 96, rfl⟩
abbrev main_c_16 : Ref sig .tc := ⟨.hbm, 97, rfl⟩
abbrev main_c_17 : Ref sig .tc := ⟨.hbm, 98, rfl⟩
abbrev main_v63 : Ref sig .tc := ⟨.hbm, 99, rfl⟩
abbrev main_c_18 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_19 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_20 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_21 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_c_22 : Ref sig .tc := ⟨.hbm, 121, rfl⟩
abbrev main_c_23 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_c_24 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_c_25 : Ref sig .tc := ⟨.hbm, 142, rfl⟩
abbrev main_v94 : Ref sig .tc := ⟨.hbm, 143, rfl⟩
abbrev main_v95 : Ref sig .tc := ⟨.hbm, 144, rfl⟩
abbrev main_c_26 : Ref sig .tc := ⟨.hbm, 145, rfl⟩
abbrev main_v96 : Ref sig .tc := ⟨.hbm, 146, rfl⟩
abbrev main_v97 : Ref sig .tc := ⟨.hbm, 147, rfl⟩
abbrev main_c_27 : Ref sig .tc := ⟨.hbm, 148, rfl⟩
abbrev main_v98 : Ref sig .tc := ⟨.hbm, 149, rfl⟩
abbrev main_v99 : Ref sig .tc := ⟨.hbm, 150, rfl⟩
abbrev main_c_28 : Ref sig .tc := ⟨.hbm, 151, rfl⟩
abbrev main_v100 : Ref sig .tc := ⟨.hbm, 152, rfl⟩
abbrev main_v101 : Ref sig .tc := ⟨.hbm, 153, rfl⟩
abbrev main_c_29 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_c_30 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_c_31 : Ref sig .tc := ⟨.hbm, 185, rfl⟩
abbrev main_v131 : Ref sig .tc := ⟨.hbm, 186, rfl⟩
abbrev main_v132 : Ref sig .tc := ⟨.hbm, 187, rfl⟩
abbrev main_c_32 : Ref sig .tc := ⟨.hbm, 188, rfl⟩
abbrev main_v133 : Ref sig .tc := ⟨.hbm, 189, rfl⟩
abbrev main_v134 : Ref sig .tc := ⟨.hbm, 190, rfl⟩
abbrev main_c_33 : Ref sig .tc := ⟨.hbm, 191, rfl⟩
abbrev main_call2_v0 : Ref sig .tc := ⟨.hbm, 192, rfl⟩
abbrev main_call2_v1 : Ref sig .tc := ⟨.hbm, 193, rfl⟩
abbrev main_call2_v2 : Ref sig .tc := ⟨.hbm, 194, rfl⟩
abbrev main_call2_v3 : Ref sig .tc := ⟨.hbm, 195, rfl⟩
abbrev main_call2_v4 : Ref sig .tc := ⟨.hbm, 196, rfl⟩
abbrev main_call2_v5 : Ref sig .tc := ⟨.hbm, 197, rfl⟩
abbrev main_call2_v6 : Ref sig .tc := ⟨.hbm, 198, rfl⟩
abbrev main_call2_v7 : Ref sig .tc := ⟨.hbm, 199, rfl⟩
abbrev main_call2_v8 : Ref sig .tc := ⟨.hbm, 200, rfl⟩
abbrev main_call2_c : Ref sig .tc := ⟨.hbm, 201, rfl⟩
abbrev main_call2_v9 : Ref sig .tc := ⟨.hbm, 202, rfl⟩
abbrev main_call2_v10 : Ref sig .tc := ⟨.hbm, 203, rfl⟩
abbrev main_call2_v11 : Ref sig .tc := ⟨.hbm, 204, rfl⟩
abbrev main_call2_c_0 : Ref sig .tc := ⟨.hbm, 205, rfl⟩
abbrev main_call2_v12 : Ref sig .tc := ⟨.hbm, 206, rfl⟩
abbrev main_call2_v13 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_c_34 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_c_35 : Ref sig .tc := ⟨.hbm, 216, rfl⟩
abbrev main_v142 : Ref sig .tc := ⟨.hbm, 217, rfl⟩
abbrev main_v143 : Ref sig .tc := ⟨.hbm, 218, rfl⟩
abbrev main_c_36 : Ref sig .tc := ⟨.hbm, 219, rfl⟩
abbrev main_v144 : Ref sig .tc := ⟨.hbm, 220, rfl⟩
abbrev main_v145 : Ref sig .tc := ⟨.hbm, 221, rfl⟩
abbrev main_c_37 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_c_38 : Ref sig .tc := ⟨.hbm, 228, rfl⟩
abbrev main_v151 : Ref sig .tc := ⟨.hbm, 229, rfl⟩
abbrev main_v152 : Ref sig .tc := ⟨.hbm, 230, rfl⟩
abbrev main_c_39 : Ref sig .tc := ⟨.hbm, 231, rfl⟩
abbrev main_v153 : Ref sig .tc := ⟨.hbm, 232, rfl⟩
abbrev main_v154 : Ref sig .tc := ⟨.hbm, 233, rfl⟩
abbrev main_c_40 : Ref sig .tc := ⟨.hbm, 234, rfl⟩
abbrev main_v155 : Ref sig .tc := ⟨.hbm, 235, rfl⟩
abbrev main_call3_v0 : Ref sig .tc := ⟨.hbm, 236, rfl⟩
abbrev main_call3_v1 : Ref sig .tc := ⟨.hbm, 237, rfl⟩
abbrev main_call3_v2 : Ref sig .tc := ⟨.hbm, 238, rfl⟩
abbrev main_call3_v3 : Ref sig .tc := ⟨.hbm, 239, rfl⟩
abbrev main_call3_v4 : Ref sig .tc := ⟨.hbm, 240, rfl⟩
abbrev main_call3_c : Ref sig .tc := ⟨.hbm, 241, rfl⟩
abbrev main_call3_v5 : Ref sig .tc := ⟨.hbm, 242, rfl⟩
abbrev main_call3_v6 : Ref sig .tc := ⟨.hbm, 243, rfl⟩
abbrev main_call3_v7 : Ref sig .tc := ⟨.hbm, 244, rfl⟩
abbrev main_call3_c_0 : Ref sig .tc := ⟨.hbm, 245, rfl⟩
abbrev main_call3_v8 : Ref sig .tc := ⟨.hbm, 246, rfl⟩
abbrev main_call3_v9 : Ref sig .tc := ⟨.hbm, 247, rfl⟩
abbrev main_v156 : Ref sig .tc := ⟨.hbm, 248, rfl⟩
abbrev main_v157 : Ref sig .tc := ⟨.hbm, 249, rfl⟩
abbrev main_c_41 : Ref sig .tc := ⟨.hbm, 250, rfl⟩
abbrev main_v158 : Ref sig .tc := ⟨.hbm, 251, rfl⟩
abbrev main_v159 : Ref sig .tc := ⟨.hbm, 252, rfl⟩
abbrev main_call4_v0 : Ref sig .tc := ⟨.hbm, 253, rfl⟩
abbrev main_call4_v1 : Ref sig .tc := ⟨.hbm, 254, rfl⟩
abbrev main_call4_v2 : Ref sig .tc := ⟨.hbm, 255, rfl⟩
abbrev main_call4_v3 : Ref sig .tc := ⟨.hbm, 256, rfl⟩
abbrev main_call4_v4 : Ref sig .tc := ⟨.hbm, 257, rfl⟩
abbrev main_call4_c : Ref sig .tc := ⟨.hbm, 258, rfl⟩
abbrev main_call4_v5 : Ref sig .tc := ⟨.hbm, 259, rfl⟩
abbrev main_call4_v6 : Ref sig .tc := ⟨.hbm, 260, rfl⟩
abbrev main_call4_v7 : Ref sig .tc := ⟨.hbm, 261, rfl⟩
abbrev main_call4_c_0 : Ref sig .tc := ⟨.hbm, 262, rfl⟩
abbrev main_call4_v8 : Ref sig .tc := ⟨.hbm, 263, rfl⟩
abbrev main_call4_v9 : Ref sig .tc := ⟨.hbm, 264, rfl⟩
abbrev main_v160 : Ref sig .tc := ⟨.hbm, 265, rfl⟩
abbrev main_v161 : Ref sig .tc := ⟨.hbm, 266, rfl⟩
abbrev main_c_42 : Ref sig .tc := ⟨.hbm, 267, rfl⟩
abbrev main_v162 : Ref sig .tc := ⟨.hbm, 268, rfl⟩
abbrev main_v163 : Ref sig .tc := ⟨.hbm, 269, rfl⟩
abbrev main_call5_v0 : Ref sig .tc := ⟨.hbm, 270, rfl⟩
abbrev main_call5_v1 : Ref sig .tc := ⟨.hbm, 271, rfl⟩
abbrev main_call5_v2 : Ref sig .tc := ⟨.hbm, 272, rfl⟩
abbrev main_call5_v3 : Ref sig .tc := ⟨.hbm, 273, rfl⟩
abbrev main_call5_v4 : Ref sig .tc := ⟨.hbm, 274, rfl⟩
abbrev main_call5_c : Ref sig .tc := ⟨.hbm, 275, rfl⟩
abbrev main_call5_v5 : Ref sig .tc := ⟨.hbm, 276, rfl⟩
abbrev main_call5_v6 : Ref sig .tc := ⟨.hbm, 277, rfl⟩
abbrev main_call5_v7 : Ref sig .tc := ⟨.hbm, 278, rfl⟩
abbrev main_call5_c_0 : Ref sig .tc := ⟨.hbm, 279, rfl⟩
abbrev main_call5_v8 : Ref sig .tc := ⟨.hbm, 280, rfl⟩
abbrev main_call5_v9 : Ref sig .tc := ⟨.hbm, 281, rfl⟩
abbrev main_v164 : Ref sig .tc := ⟨.hbm, 282, rfl⟩
abbrev main_v165 : Ref sig .tc := ⟨.hbm, 283, rfl⟩
abbrev main_c_43 : Ref sig .tc := ⟨.hbm, 284, rfl⟩
abbrev main_v166 : Ref sig .tc := ⟨.hbm, 285, rfl⟩
abbrev main_v167 : Ref sig .tc := ⟨.hbm, 286, rfl⟩
abbrev main_call6_v0 : Ref sig .tc := ⟨.hbm, 287, rfl⟩
abbrev main_call6_v1 : Ref sig .tc := ⟨.hbm, 288, rfl⟩
abbrev main_call6_v2 : Ref sig .tc := ⟨.hbm, 289, rfl⟩
abbrev main_call6_v3 : Ref sig .tc := ⟨.hbm, 290, rfl⟩
abbrev main_call6_v4 : Ref sig .tc := ⟨.hbm, 291, rfl⟩
abbrev main_call6_c : Ref sig .tc := ⟨.hbm, 292, rfl⟩
abbrev main_call6_v5 : Ref sig .tc := ⟨.hbm, 293, rfl⟩
abbrev main_call6_v6 : Ref sig .tc := ⟨.hbm, 294, rfl⟩
abbrev main_call6_v7 : Ref sig .tc := ⟨.hbm, 295, rfl⟩
abbrev main_call6_c_0 : Ref sig .tc := ⟨.hbm, 296, rfl⟩
abbrev main_call6_v8 : Ref sig .tc := ⟨.hbm, 297, rfl⟩
abbrev main_call6_v9 : Ref sig .tc := ⟨.hbm, 298, rfl⟩
abbrev main_v168 : Ref sig .tc := ⟨.hbm, 299, rfl⟩
abbrev main_v169 : Ref sig .tc := ⟨.hbm, 300, rfl⟩
abbrev main_c_44 : Ref sig .tc := ⟨.hbm, 301, rfl⟩
abbrev main_v170 : Ref sig .tc := ⟨.hbm, 302, rfl⟩
abbrev main_v171 : Ref sig .tc := ⟨.hbm, 303, rfl⟩
abbrev main_call7_v0 : Ref sig .tc := ⟨.hbm, 304, rfl⟩
abbrev main_call7_v1 : Ref sig .tc := ⟨.hbm, 305, rfl⟩
abbrev main_call7_v2 : Ref sig .tc := ⟨.hbm, 306, rfl⟩
abbrev main_call7_v3 : Ref sig .tc := ⟨.hbm, 307, rfl⟩
abbrev main_call7_v4 : Ref sig .tc := ⟨.hbm, 308, rfl⟩
abbrev main_call7_c : Ref sig .tc := ⟨.hbm, 309, rfl⟩
abbrev main_call7_v5 : Ref sig .tc := ⟨.hbm, 310, rfl⟩
abbrev main_call7_v6 : Ref sig .tc := ⟨.hbm, 311, rfl⟩
abbrev main_call7_v7 : Ref sig .tc := ⟨.hbm, 312, rfl⟩
abbrev main_call7_c_0 : Ref sig .tc := ⟨.hbm, 313, rfl⟩
abbrev main_call7_v8 : Ref sig .tc := ⟨.hbm, 314, rfl⟩
abbrev main_call7_v9 : Ref sig .tc := ⟨.hbm, 315, rfl⟩
abbrev main_v172 : Ref sig .tc := ⟨.hbm, 316, rfl⟩
abbrev main_v173 : Ref sig .tc := ⟨.hbm, 317, rfl⟩
abbrev main_c_45 : Ref sig .tc := ⟨.hbm, 318, rfl⟩
abbrev main_v174 : Ref sig .tc := ⟨.hbm, 319, rfl⟩
abbrev main_v175 : Ref sig .tc := ⟨.hbm, 320, rfl⟩
abbrev main_call8_v0 : Ref sig .tc := ⟨.hbm, 321, rfl⟩
abbrev main_call8_v1 : Ref sig .tc := ⟨.hbm, 322, rfl⟩
abbrev main_call8_v2 : Ref sig .tc := ⟨.hbm, 323, rfl⟩
abbrev main_call8_v3 : Ref sig .tc := ⟨.hbm, 324, rfl⟩
abbrev main_call8_v4 : Ref sig .tc := ⟨.hbm, 325, rfl⟩
abbrev main_call8_c : Ref sig .tc := ⟨.hbm, 326, rfl⟩
abbrev main_call8_v5 : Ref sig .tc := ⟨.hbm, 327, rfl⟩
abbrev main_call8_v6 : Ref sig .tc := ⟨.hbm, 328, rfl⟩
abbrev main_call8_v7 : Ref sig .tc := ⟨.hbm, 329, rfl⟩
abbrev main_call8_c_0 : Ref sig .tc := ⟨.hbm, 330, rfl⟩
abbrev main_call8_v8 : Ref sig .tc := ⟨.hbm, 331, rfl⟩
abbrev main_call8_v9 : Ref sig .tc := ⟨.hbm, 332, rfl⟩
abbrev main_v176 : Ref sig .tc := ⟨.hbm, 333, rfl⟩
abbrev main_v177 : Ref sig .tc := ⟨.hbm, 334, rfl⟩
abbrev main_c_46 : Ref sig .tc := ⟨.hbm, 335, rfl⟩
abbrev main_v178 : Ref sig .tc := ⟨.hbm, 336, rfl⟩
abbrev main_v179 : Ref sig .tc := ⟨.hbm, 337, rfl⟩
abbrev main_call9_v0 : Ref sig .tc := ⟨.hbm, 338, rfl⟩
abbrev main_call9_v1 : Ref sig .tc := ⟨.hbm, 339, rfl⟩
abbrev main_call9_v2 : Ref sig .tc := ⟨.hbm, 340, rfl⟩
abbrev main_call9_v3 : Ref sig .tc := ⟨.hbm, 341, rfl⟩
abbrev main_call9_v4 : Ref sig .tc := ⟨.hbm, 342, rfl⟩
abbrev main_call9_c : Ref sig .tc := ⟨.hbm, 343, rfl⟩
abbrev main_call9_v5 : Ref sig .tc := ⟨.hbm, 344, rfl⟩
abbrev main_call9_v6 : Ref sig .tc := ⟨.hbm, 345, rfl⟩
abbrev main_call9_v7 : Ref sig .tc := ⟨.hbm, 346, rfl⟩
abbrev main_call9_c_0 : Ref sig .tc := ⟨.hbm, 347, rfl⟩
abbrev main_call9_v8 : Ref sig .tc := ⟨.hbm, 348, rfl⟩
abbrev main_call9_v9 : Ref sig .tc := ⟨.hbm, 349, rfl⟩
abbrev main_v180 : Ref sig .tc := ⟨.hbm, 350, rfl⟩
abbrev main_v181 : Ref sig .tc := ⟨.hbm, 351, rfl⟩
abbrev main_c_47 : Ref sig .tc := ⟨.hbm, 352, rfl⟩
abbrev main_v182 : Ref sig .tc := ⟨.hbm, 353, rfl⟩
abbrev main_v183 : Ref sig .tc := ⟨.hbm, 354, rfl⟩
abbrev main_call10_v0 : Ref sig .tc := ⟨.hbm, 355, rfl⟩
abbrev main_call10_v1 : Ref sig .tc := ⟨.hbm, 356, rfl⟩
abbrev main_call10_v2 : Ref sig .tc := ⟨.hbm, 357, rfl⟩
abbrev main_call10_v3 : Ref sig .tc := ⟨.hbm, 358, rfl⟩
abbrev main_call10_v4 : Ref sig .tc := ⟨.hbm, 359, rfl⟩
abbrev main_call10_c : Ref sig .tc := ⟨.hbm, 360, rfl⟩
abbrev main_call10_v5 : Ref sig .tc := ⟨.hbm, 361, rfl⟩
abbrev main_call10_v6 : Ref sig .tc := ⟨.hbm, 362, rfl⟩
abbrev main_call10_v7 : Ref sig .tc := ⟨.hbm, 363, rfl⟩
abbrev main_call10_c_0 : Ref sig .tc := ⟨.hbm, 364, rfl⟩
abbrev main_call10_v8 : Ref sig .tc := ⟨.hbm, 365, rfl⟩
abbrev main_call10_v9 : Ref sig .tc := ⟨.hbm, 366, rfl⟩
abbrev main_v184 : Ref sig .tc := ⟨.hbm, 367, rfl⟩
abbrev main_v185 : Ref sig .tc := ⟨.hbm, 368, rfl⟩
abbrev main_c_48 : Ref sig .tc := ⟨.hbm, 369, rfl⟩
abbrev main_v186 : Ref sig .tc := ⟨.hbm, 370, rfl⟩
abbrev main_v187 : Ref sig .tc := ⟨.hbm, 371, rfl⟩
abbrev main_call11_v0 : Ref sig .tc := ⟨.hbm, 372, rfl⟩
abbrev main_call11_v1 : Ref sig .tc := ⟨.hbm, 373, rfl⟩
abbrev main_call11_v2 : Ref sig .tc := ⟨.hbm, 374, rfl⟩
abbrev main_call11_v3 : Ref sig .tc := ⟨.hbm, 375, rfl⟩
abbrev main_call11_v4 : Ref sig .tc := ⟨.hbm, 376, rfl⟩
abbrev main_call11_c : Ref sig .tc := ⟨.hbm, 377, rfl⟩
abbrev main_call11_v5 : Ref sig .tc := ⟨.hbm, 378, rfl⟩
abbrev main_call11_v6 : Ref sig .tc := ⟨.hbm, 379, rfl⟩
abbrev main_call11_v7 : Ref sig .tc := ⟨.hbm, 380, rfl⟩
abbrev main_call11_c_0 : Ref sig .tc := ⟨.hbm, 381, rfl⟩
abbrev main_call11_v8 : Ref sig .tc := ⟨.hbm, 382, rfl⟩
abbrev main_call11_v9 : Ref sig .tc := ⟨.hbm, 383, rfl⟩
abbrev main_v188 : Ref sig .tc := ⟨.hbm, 384, rfl⟩
abbrev main_v189 : Ref sig .tc := ⟨.hbm, 385, rfl⟩
abbrev main_c_49 : Ref sig .tc := ⟨.hbm, 386, rfl⟩
abbrev main_v190 : Ref sig .tc := ⟨.hbm, 387, rfl⟩
abbrev main_v191 : Ref sig .tc := ⟨.hbm, 388, rfl⟩
abbrev main_call12_v0 : Ref sig .tc := ⟨.hbm, 389, rfl⟩
abbrev main_call12_v1 : Ref sig .tc := ⟨.hbm, 390, rfl⟩
abbrev main_call12_v2 : Ref sig .tc := ⟨.hbm, 391, rfl⟩
abbrev main_call12_v3 : Ref sig .tc := ⟨.hbm, 392, rfl⟩
abbrev main_call12_v4 : Ref sig .tc := ⟨.hbm, 393, rfl⟩
abbrev main_call12_c : Ref sig .tc := ⟨.hbm, 394, rfl⟩
abbrev main_call12_v5 : Ref sig .tc := ⟨.hbm, 395, rfl⟩
abbrev main_call12_v6 : Ref sig .tc := ⟨.hbm, 396, rfl⟩
abbrev main_call12_v7 : Ref sig .tc := ⟨.hbm, 397, rfl⟩
abbrev main_call12_c_0 : Ref sig .tc := ⟨.hbm, 398, rfl⟩
abbrev main_call12_v8 : Ref sig .tc := ⟨.hbm, 399, rfl⟩
abbrev main_call12_v9 : Ref sig .tc := ⟨.hbm, 400, rfl⟩
abbrev main_v192 : Ref sig .tc := ⟨.hbm, 401, rfl⟩
abbrev main_v193 : Ref sig .tc := ⟨.hbm, 402, rfl⟩
abbrev main_c_50 : Ref sig .tc := ⟨.hbm, 403, rfl⟩
abbrev main_v194 : Ref sig .tc := ⟨.hbm, 404, rfl⟩
abbrev main_v195 : Ref sig .tc := ⟨.hbm, 405, rfl⟩
abbrev main_call13_v0 : Ref sig .tc := ⟨.hbm, 406, rfl⟩
abbrev main_call13_v1 : Ref sig .tc := ⟨.hbm, 407, rfl⟩
abbrev main_call13_v2 : Ref sig .tc := ⟨.hbm, 408, rfl⟩
abbrev main_call13_v3 : Ref sig .tc := ⟨.hbm, 409, rfl⟩
abbrev main_call13_v4 : Ref sig .tc := ⟨.hbm, 410, rfl⟩
abbrev main_call13_c : Ref sig .tc := ⟨.hbm, 411, rfl⟩
abbrev main_call13_v5 : Ref sig .tc := ⟨.hbm, 412, rfl⟩
abbrev main_call13_v6 : Ref sig .tc := ⟨.hbm, 413, rfl⟩
abbrev main_call13_v7 : Ref sig .tc := ⟨.hbm, 414, rfl⟩
abbrev main_call13_c_0 : Ref sig .tc := ⟨.hbm, 415, rfl⟩
abbrev main_call13_v8 : Ref sig .tc := ⟨.hbm, 416, rfl⟩
abbrev main_call13_v9 : Ref sig .tc := ⟨.hbm, 417, rfl⟩
abbrev main_v196 : Ref sig .tc := ⟨.hbm, 418, rfl⟩
abbrev main_v197 : Ref sig .tc := ⟨.hbm, 419, rfl⟩
abbrev main_c_51 : Ref sig .tc := ⟨.hbm, 420, rfl⟩
abbrev main_v198 : Ref sig .tc := ⟨.hbm, 421, rfl⟩
abbrev main_v199 : Ref sig .tc := ⟨.hbm, 422, rfl⟩
abbrev main_call14_v0 : Ref sig .tc := ⟨.hbm, 423, rfl⟩
abbrev main_call14_v1 : Ref sig .tc := ⟨.hbm, 424, rfl⟩
abbrev main_call14_v2 : Ref sig .tc := ⟨.hbm, 425, rfl⟩
abbrev main_call14_v3 : Ref sig .tc := ⟨.hbm, 426, rfl⟩
abbrev main_call14_v4 : Ref sig .tc := ⟨.hbm, 427, rfl⟩
abbrev main_call14_c : Ref sig .tc := ⟨.hbm, 428, rfl⟩
abbrev main_call14_v5 : Ref sig .tc := ⟨.hbm, 429, rfl⟩
abbrev main_call14_v6 : Ref sig .tc := ⟨.hbm, 430, rfl⟩
abbrev main_call14_v7 : Ref sig .tc := ⟨.hbm, 431, rfl⟩
abbrev main_call14_c_0 : Ref sig .tc := ⟨.hbm, 432, rfl⟩
abbrev main_call14_v8 : Ref sig .tc := ⟨.hbm, 433, rfl⟩
abbrev main_call14_v9 : Ref sig .tc := ⟨.hbm, 434, rfl⟩
abbrev main_v200 : Ref sig .tc := ⟨.hbm, 435, rfl⟩
abbrev main_v201 : Ref sig .tc := ⟨.hbm, 436, rfl⟩
abbrev main_c_52 : Ref sig .tc := ⟨.hbm, 437, rfl⟩
abbrev main_v202 : Ref sig .tc := ⟨.hbm, 438, rfl⟩
abbrev main_v203 : Ref sig .tc := ⟨.hbm, 439, rfl⟩
abbrev main_call15_v0 : Ref sig .tc := ⟨.hbm, 440, rfl⟩
abbrev main_call15_v1 : Ref sig .tc := ⟨.hbm, 441, rfl⟩
abbrev main_call15_v2 : Ref sig .tc := ⟨.hbm, 442, rfl⟩
abbrev main_call15_v3 : Ref sig .tc := ⟨.hbm, 443, rfl⟩
abbrev main_call15_v4 : Ref sig .tc := ⟨.hbm, 444, rfl⟩
abbrev main_call15_c : Ref sig .tc := ⟨.hbm, 445, rfl⟩
abbrev main_call15_v5 : Ref sig .tc := ⟨.hbm, 446, rfl⟩
abbrev main_call15_v6 : Ref sig .tc := ⟨.hbm, 447, rfl⟩
abbrev main_call15_v7 : Ref sig .tc := ⟨.hbm, 448, rfl⟩
abbrev main_call15_c_0 : Ref sig .tc := ⟨.hbm, 449, rfl⟩
abbrev main_call15_v8 : Ref sig .tc := ⟨.hbm, 450, rfl⟩
abbrev main_call15_v9 : Ref sig .tc := ⟨.hbm, 451, rfl⟩
abbrev main_v204 : Ref sig .tc := ⟨.hbm, 452, rfl⟩
abbrev main_v205 : Ref sig .tc := ⟨.hbm, 453, rfl⟩
abbrev main_c_53 : Ref sig .tc := ⟨.hbm, 454, rfl⟩
abbrev main_v206 : Ref sig .tc := ⟨.hbm, 455, rfl⟩
abbrev main_v207 : Ref sig .tc := ⟨.hbm, 456, rfl⟩
abbrev main_call16_v0 : Ref sig .tc := ⟨.hbm, 457, rfl⟩
abbrev main_call16_v1 : Ref sig .tc := ⟨.hbm, 458, rfl⟩
abbrev main_call16_v2 : Ref sig .tc := ⟨.hbm, 459, rfl⟩
abbrev main_call16_v3 : Ref sig .tc := ⟨.hbm, 460, rfl⟩
abbrev main_call16_v4 : Ref sig .tc := ⟨.hbm, 461, rfl⟩
abbrev main_call16_c : Ref sig .tc := ⟨.hbm, 462, rfl⟩
abbrev main_call16_v5 : Ref sig .tc := ⟨.hbm, 463, rfl⟩
abbrev main_call16_v6 : Ref sig .tc := ⟨.hbm, 464, rfl⟩
abbrev main_call16_v7 : Ref sig .tc := ⟨.hbm, 465, rfl⟩
abbrev main_call16_c_0 : Ref sig .tc := ⟨.hbm, 466, rfl⟩
abbrev main_call16_v8 : Ref sig .tc := ⟨.hbm, 467, rfl⟩
abbrev main_call16_v9 : Ref sig .tc := ⟨.hbm, 468, rfl⟩
abbrev main_v208 : Ref sig .tc := ⟨.hbm, 469, rfl⟩
abbrev main_v209 : Ref sig .tc := ⟨.hbm, 470, rfl⟩
abbrev main_c_54 : Ref sig .tc := ⟨.hbm, 471, rfl⟩
abbrev main_v210 : Ref sig .tc := ⟨.hbm, 472, rfl⟩
abbrev main_v211 : Ref sig .tc := ⟨.hbm, 473, rfl⟩
abbrev main_call17_v0 : Ref sig .tc := ⟨.hbm, 474, rfl⟩
abbrev main_call17_v1 : Ref sig .tc := ⟨.hbm, 475, rfl⟩
abbrev main_call17_v2 : Ref sig .tc := ⟨.hbm, 476, rfl⟩
abbrev main_call17_v3 : Ref sig .tc := ⟨.hbm, 477, rfl⟩
abbrev main_call17_v4 : Ref sig .tc := ⟨.hbm, 478, rfl⟩
abbrev main_call17_c : Ref sig .tc := ⟨.hbm, 479, rfl⟩
abbrev main_call17_v5 : Ref sig .tc := ⟨.hbm, 480, rfl⟩
abbrev main_call17_v6 : Ref sig .tc := ⟨.hbm, 481, rfl⟩
abbrev main_call17_v7 : Ref sig .tc := ⟨.hbm, 482, rfl⟩
abbrev main_call17_c_0 : Ref sig .tc := ⟨.hbm, 483, rfl⟩
abbrev main_call17_v8 : Ref sig .tc := ⟨.hbm, 484, rfl⟩
abbrev main_call17_v9 : Ref sig .tc := ⟨.hbm, 485, rfl⟩
abbrev main_v212 : Ref sig .tc := ⟨.hbm, 486, rfl⟩
abbrev main_v213 : Ref sig .tc := ⟨.hbm, 487, rfl⟩
abbrev main_c_55 : Ref sig .tc := ⟨.hbm, 488, rfl⟩
abbrev main_v214 : Ref sig .tc := ⟨.hbm, 489, rfl⟩
abbrev main_v215 : Ref sig .tc := ⟨.hbm, 490, rfl⟩
abbrev main_call18_v0 : Ref sig .tc := ⟨.hbm, 491, rfl⟩
abbrev main_call18_v1 : Ref sig .tc := ⟨.hbm, 492, rfl⟩
abbrev main_call18_v2 : Ref sig .tc := ⟨.hbm, 493, rfl⟩
abbrev main_call18_v3 : Ref sig .tc := ⟨.hbm, 494, rfl⟩
abbrev main_call18_v4 : Ref sig .tc := ⟨.hbm, 495, rfl⟩
abbrev main_call18_c : Ref sig .tc := ⟨.hbm, 496, rfl⟩
abbrev main_call18_v5 : Ref sig .tc := ⟨.hbm, 497, rfl⟩
abbrev main_call18_v6 : Ref sig .tc := ⟨.hbm, 498, rfl⟩
abbrev main_call18_v7 : Ref sig .tc := ⟨.hbm, 499, rfl⟩
abbrev main_call18_c_0 : Ref sig .tc := ⟨.hbm, 500, rfl⟩
abbrev main_call18_v8 : Ref sig .tc := ⟨.hbm, 501, rfl⟩
abbrev main_call18_v9 : Ref sig .tc := ⟨.hbm, 502, rfl⟩
abbrev main_v216 : Ref sig .tc := ⟨.hbm, 503, rfl⟩
abbrev main_v217 : Ref sig .tc := ⟨.hbm, 504, rfl⟩
abbrev main_c_56 : Ref sig .tc := ⟨.hbm, 505, rfl⟩
abbrev main_v218 : Ref sig .tc := ⟨.hbm, 506, rfl⟩
abbrev main_v219 : Ref sig .tc := ⟨.hbm, 507, rfl⟩
abbrev main_call19_v0 : Ref sig .tc := ⟨.hbm, 508, rfl⟩
abbrev main_call19_v1 : Ref sig .tc := ⟨.hbm, 509, rfl⟩
abbrev main_call19_v2 : Ref sig .tc := ⟨.hbm, 510, rfl⟩
abbrev main_call19_v3 : Ref sig .tc := ⟨.hbm, 511, rfl⟩
abbrev main_call19_v4 : Ref sig .tc := ⟨.hbm, 512, rfl⟩
abbrev main_call19_c : Ref sig .tc := ⟨.hbm, 513, rfl⟩
abbrev main_call19_v5 : Ref sig .tc := ⟨.hbm, 514, rfl⟩
abbrev main_call19_v6 : Ref sig .tc := ⟨.hbm, 515, rfl⟩
abbrev main_call19_v7 : Ref sig .tc := ⟨.hbm, 516, rfl⟩
abbrev main_call19_c_0 : Ref sig .tc := ⟨.hbm, 517, rfl⟩
abbrev main_call19_v8 : Ref sig .tc := ⟨.hbm, 518, rfl⟩
abbrev main_call19_v9 : Ref sig .tc := ⟨.hbm, 519, rfl⟩
abbrev main_v220 : Ref sig .tc := ⟨.hbm, 520, rfl⟩
abbrev main_v221 : Ref sig .tc := ⟨.hbm, 521, rfl⟩
abbrev main_c_57 : Ref sig .tc := ⟨.hbm, 522, rfl⟩
abbrev main_v222 : Ref sig .tc := ⟨.hbm, 523, rfl⟩
abbrev main_v223 : Ref sig .tc := ⟨.hbm, 524, rfl⟩
abbrev main_call20_v0 : Ref sig .tc := ⟨.hbm, 525, rfl⟩
abbrev main_call20_v1 : Ref sig .tc := ⟨.hbm, 526, rfl⟩
abbrev main_call20_v2 : Ref sig .tc := ⟨.hbm, 527, rfl⟩
abbrev main_call20_v3 : Ref sig .tc := ⟨.hbm, 528, rfl⟩
abbrev main_call20_v4 : Ref sig .tc := ⟨.hbm, 529, rfl⟩
abbrev main_call20_c : Ref sig .tc := ⟨.hbm, 530, rfl⟩
abbrev main_call20_v5 : Ref sig .tc := ⟨.hbm, 531, rfl⟩
abbrev main_call20_v6 : Ref sig .tc := ⟨.hbm, 532, rfl⟩
abbrev main_call20_v7 : Ref sig .tc := ⟨.hbm, 533, rfl⟩
abbrev main_call20_c_0 : Ref sig .tc := ⟨.hbm, 534, rfl⟩
abbrev main_call20_v8 : Ref sig .tc := ⟨.hbm, 535, rfl⟩
abbrev main_call20_v9 : Ref sig .tc := ⟨.hbm, 536, rfl⟩
abbrev main_v224 : Ref sig .tc := ⟨.hbm, 537, rfl⟩
abbrev main_v225 : Ref sig .tc := ⟨.hbm, 538, rfl⟩
abbrev main_c_58 : Ref sig .tc := ⟨.hbm, 539, rfl⟩
abbrev main_v226 : Ref sig .tc := ⟨.hbm, 540, rfl⟩
abbrev main_v227 : Ref sig .tc := ⟨.hbm, 541, rfl⟩
abbrev main_call21_v0 : Ref sig .tc := ⟨.hbm, 542, rfl⟩
abbrev main_call21_v1 : Ref sig .tc := ⟨.hbm, 543, rfl⟩
abbrev main_call21_v2 : Ref sig .tc := ⟨.hbm, 544, rfl⟩
abbrev main_call21_v3 : Ref sig .tc := ⟨.hbm, 545, rfl⟩
abbrev main_call21_v4 : Ref sig .tc := ⟨.hbm, 546, rfl⟩
abbrev main_call21_c : Ref sig .tc := ⟨.hbm, 547, rfl⟩
abbrev main_call21_v5 : Ref sig .tc := ⟨.hbm, 548, rfl⟩
abbrev main_call21_v6 : Ref sig .tc := ⟨.hbm, 549, rfl⟩
abbrev main_call21_v7 : Ref sig .tc := ⟨.hbm, 550, rfl⟩
abbrev main_call21_c_0 : Ref sig .tc := ⟨.hbm, 551, rfl⟩
abbrev main_call21_v8 : Ref sig .tc := ⟨.hbm, 552, rfl⟩
abbrev main_call21_v9 : Ref sig .tc := ⟨.hbm, 553, rfl⟩
abbrev main_v228 : Ref sig .tc := ⟨.hbm, 554, rfl⟩
abbrev main_v229 : Ref sig .tc := ⟨.hbm, 555, rfl⟩
abbrev main_c_59 : Ref sig .tc := ⟨.hbm, 556, rfl⟩
abbrev main_v230 : Ref sig .tc := ⟨.hbm, 557, rfl⟩
abbrev main_v231 : Ref sig .tc := ⟨.hbm, 558, rfl⟩
abbrev main_call22_v0 : Ref sig .tc := ⟨.hbm, 559, rfl⟩
abbrev main_call22_v1 : Ref sig .tc := ⟨.hbm, 560, rfl⟩
abbrev main_call22_v2 : Ref sig .tc := ⟨.hbm, 561, rfl⟩
abbrev main_call22_v3 : Ref sig .tc := ⟨.hbm, 562, rfl⟩
abbrev main_call22_v4 : Ref sig .tc := ⟨.hbm, 563, rfl⟩
abbrev main_call22_c : Ref sig .tc := ⟨.hbm, 564, rfl⟩
abbrev main_call22_v5 : Ref sig .tc := ⟨.hbm, 565, rfl⟩
abbrev main_call22_v6 : Ref sig .tc := ⟨.hbm, 566, rfl⟩
abbrev main_call22_v7 : Ref sig .tc := ⟨.hbm, 567, rfl⟩
abbrev main_call22_c_0 : Ref sig .tc := ⟨.hbm, 568, rfl⟩
abbrev main_call22_v8 : Ref sig .tc := ⟨.hbm, 569, rfl⟩
abbrev main_call22_v9 : Ref sig .tc := ⟨.hbm, 570, rfl⟩
abbrev main_v232 : Ref sig .tc := ⟨.hbm, 571, rfl⟩
abbrev main_v233 : Ref sig .tc := ⟨.hbm, 572, rfl⟩
abbrev main_c_60 : Ref sig .tc := ⟨.hbm, 573, rfl⟩
abbrev main_v234 : Ref sig .tc := ⟨.hbm, 574, rfl⟩
abbrev main_v235 : Ref sig .tc := ⟨.hbm, 575, rfl⟩
abbrev main_c_61 : Ref sig .tc := ⟨.hbm, 576, rfl⟩
abbrev main_v236 : Ref sig .tc := ⟨.hbm, 577, rfl⟩
abbrev main_v237 : Ref sig .tc := ⟨.hbm, 578, rfl⟩
abbrev main_v238 : Ref sig .tc := ⟨.hbm, 579, rfl⟩
abbrev main_c_62 : Ref sig .tc := ⟨.hbm, 580, rfl⟩
abbrev main_v239 : Ref sig .tc := ⟨.hbm, 581, rfl⟩
abbrev main_v240 : Ref sig .tc := ⟨.hbm, 582, rfl⟩
abbrev main_c_63 : Ref sig .tc := ⟨.hbm, 583, rfl⟩
abbrev main_call23_v0 : Ref sig .tc := ⟨.hbm, 584, rfl⟩
abbrev main_call23_v1 : Ref sig .tc := ⟨.hbm, 585, rfl⟩
abbrev main_call23_v2 : Ref sig .tc := ⟨.hbm, 586, rfl⟩
abbrev main_call23_v3 : Ref sig .tc := ⟨.hbm, 587, rfl⟩
abbrev main_call23_v4 : Ref sig .tc := ⟨.hbm, 588, rfl⟩
abbrev main_call23_v5 : Ref sig .tc := ⟨.hbm, 589, rfl⟩
abbrev main_call23_v6 : Ref sig .tc := ⟨.hbm, 590, rfl⟩
abbrev main_call23_v7 : Ref sig .tc := ⟨.hbm, 591, rfl⟩
abbrev main_call23_c : Ref sig .tc := ⟨.hbm, 592, rfl⟩
abbrev main_call23_v8 : Ref sig .tc := ⟨.hbm, 593, rfl⟩
abbrev main_call23_v9 : Ref sig .tc := ⟨.hbm, 594, rfl⟩
abbrev main_call23_v10 : Ref sig .tc := ⟨.hbm, 595, rfl⟩
abbrev main_call23_c_0 : Ref sig .tc := ⟨.hbm, 596, rfl⟩
abbrev main_call23_v11 : Ref sig .tc := ⟨.hbm, 597, rfl⟩
abbrev main_call23_v12 : Ref sig .tc := ⟨.hbm, 598, rfl⟩
abbrev main_v241 : Ref sig .tc := ⟨.hbm, 599, rfl⟩
abbrev main_c_64 : Ref sig .tc := ⟨.hbm, 600, rfl⟩
abbrev main_call24_v0 : Ref sig .tc := ⟨.hbm, 601, rfl⟩
abbrev main_call24_v1 : Ref sig .tc := ⟨.hbm, 602, rfl⟩
abbrev main_v242 : Ref sig .tc := ⟨.hbm, 603, rfl⟩
abbrev main_v243 : Ref sig .tc := ⟨.hbm, 604, rfl⟩
abbrev main_v244 : Ref sig .tc := ⟨.hbm, 605, rfl⟩
abbrev main_c_65 : Ref sig .tc := ⟨.hbm, 606, rfl⟩
abbrev main_v245 : Ref sig .tc := ⟨.hbm, 607, rfl⟩
abbrev main_v246 : Ref sig .tc := ⟨.hbm, 608, rfl⟩
abbrev main_c_66 : Ref sig .tc := ⟨.hbm, 609, rfl⟩
abbrev main_v247 : Ref sig .tc := ⟨.hbm, 610, rfl⟩
abbrev main_v248 : Ref sig .tc := ⟨.hbm, 611, rfl⟩
abbrev main_c_67 : Ref sig .tc := ⟨.hbm, 612, rfl⟩
abbrev main_v249 : Ref sig .tc := ⟨.hbm, 613, rfl⟩
abbrev main_v250 : Ref sig .tc := ⟨.hbm, 614, rfl⟩
abbrev main_c_68 : Ref sig .tc := ⟨.hbm, 615, rfl⟩
abbrev main_v251 : Ref sig .tc := ⟨.hbm, 616, rfl⟩
abbrev main_v252 : Ref sig .tc := ⟨.hbm, 617, rfl⟩
abbrev main_c_69 : Ref sig .tc := ⟨.hbm, 618, rfl⟩
abbrev main_v253 : Ref sig .tc := ⟨.hbm, 619, rfl⟩
abbrev main_v254 : Ref sig .tc := ⟨.hbm, 620, rfl⟩
abbrev main_c_70 : Ref sig .tc := ⟨.hbm, 621, rfl⟩
abbrev main_v255 : Ref sig .tc := ⟨.hbm, 622, rfl⟩
abbrev main_v256 : Ref sig .tc := ⟨.hbm, 623, rfl⟩
abbrev main_v257 : Ref sig .tc := ⟨.hbm, 624, rfl⟩
abbrev main_v258 : Ref sig .tc := ⟨.hbm, 625, rfl⟩
abbrev main_v259 : Ref sig .tc := ⟨.hbm, 626, rfl⟩
abbrev main_v260 : Ref sig .tc := ⟨.hbm, 627, rfl⟩
abbrev main_v261 : Ref sig .tc := ⟨.hbm, 628, rfl⟩
abbrev main_v262 : Ref sig .tc := ⟨.hbm, 629, rfl⟩
abbrev main_v263 : Ref sig .tc := ⟨.hbm, 630, rfl⟩
abbrev main_v264 : Ref sig .tc := ⟨.hbm, 631, rfl⟩
abbrev main_v265 : Ref sig .tc := ⟨.hbm, 632, rfl⟩
abbrev main_v266 : Ref sig .tc := ⟨.hbm, 633, rfl⟩
abbrev main_v267 : Ref sig .tc := ⟨.hbm, 634, rfl⟩
abbrev main_v268 : Ref sig .tc := ⟨.hbm, 635, rfl⟩
abbrev main_v269 : Ref sig .tc := ⟨.hbm, 636, rfl⟩
abbrev main_v270 : Ref sig .tc := ⟨.hbm, 637, rfl⟩
abbrev main_v271 : Ref sig .tc := ⟨.hbm, 638, rfl⟩
abbrev main_v272 : Ref sig .tc := ⟨.hbm, 639, rfl⟩
abbrev main_v273 : Ref sig .tc := ⟨.hbm, 640, rfl⟩
abbrev main_v274 : Ref sig .tc := ⟨.hbm, 641, rfl⟩
abbrev main_v275 : Ref sig .tc := ⟨.hbm, 642, rfl⟩
abbrev main_v276 : Ref sig .tc := ⟨.hbm, 643, rfl⟩
abbrev main_v277 : Ref sig .tc := ⟨.hbm, 644, rfl⟩
abbrev main_v278 : Ref sig .tc := ⟨.hbm, 645, rfl⟩
abbrev main_v279 : Ref sig .tc := ⟨.hbm, 646, rfl⟩
abbrev main_v280 : Ref sig .tc := ⟨.hbm, 647, rfl⟩
abbrev main_v281 : Ref sig .tc := ⟨.hbm, 648, rfl⟩
abbrev main_v282 : Ref sig .tc := ⟨.hbm, 649, rfl⟩
abbrev main_c_71 : Ref sig .tc := ⟨.hbm, 650, rfl⟩
abbrev main_c_72 : Ref sig .tc := ⟨.hbm, 651, rfl⟩
abbrev main_call25_v0 : Ref sig .tc := ⟨.hbm, 652, rfl⟩
abbrev main_call25_v1 : Ref sig .tc := ⟨.hbm, 653, rfl⟩
abbrev main_call25_v2 : Ref sig .tc := ⟨.hbm, 654, rfl⟩
abbrev main_call25_v3 : Ref sig .tc := ⟨.hbm, 655, rfl⟩
abbrev main_call25_v4 : Ref sig .tc := ⟨.hbm, 656, rfl⟩
abbrev main_v283 : Ref sig .tc := ⟨.hbm, 657, rfl⟩
abbrev main_v284 : Ref sig .tc := ⟨.hbm, 658, rfl⟩
abbrev main_v285 : Ref sig .tc := ⟨.hbm, 659, rfl⟩
abbrev main_v286 : Ref sig .tc := ⟨.hbm, 660, rfl⟩
abbrev main_v287 : Ref sig .tc := ⟨.hbm, 661, rfl⟩
abbrev main_v288 : Ref sig .tc := ⟨.hbm, 662, rfl⟩

abbrev nD : Nat := 1
abbrev τ : Topo := Topo.v7x

variable {F : FTy → Type} [FloatOps F]
-- ==== Ffn2.lean ====
abbrev S256x7680 : Shape := ⟨2, ![256, 7680]⟩
abbrev S1x256x2880 : Shape := ⟨3, ![1, 256, 2880]⟩
abbrev S7680x2880 : Shape := ⟨2, ![7680, 2880]⟩
abbrev S2880 : Shape := ⟨1, ![2880]⟩
abbrev S256x2880 : Shape := ⟨2, ![256, 2880]⟩
abbrev S1x2880 : Shape := ⟨2, ![1, 2880]⟩
abbrev S256x768 : Shape := ⟨2, ![256, 768]⟩
abbrev S768x2880 : Shape := ⟨2, ![768, 2880]⟩
abbrev S256 : Shape := ⟨1, ![256]⟩
abbrev S256x1 : Shape := ⟨2, ![256, 1]⟩

abbrev nBuf : Space → Nat
  | .hbm => 17
  | .vmem => 13
  | .smem => 0
  | _ => 0

abbrev bufTy : (tb : Table) → Fin (tcTables nBuf tb) → BufTy
  | .hbm, ⟨0, _⟩ => ⟨S256x7680, .i8⟩
  | .hbm, ⟨1, _⟩ => ⟨S1x256x2880, .i8⟩
  | .hbm, ⟨2, _⟩ => ⟨S7680x2880, .i8⟩
  | .hbm, ⟨3, _⟩ => ⟨S2880, .i32⟩
  | .hbm, ⟨4, _⟩ => ⟨S2880, .i32⟩
  | .hbm, ⟨5, _⟩ => ⟨S2880, .i32⟩
  | .hbm, ⟨6, _⟩ => ⟨S2880, .i32⟩
  | .hbm, ⟨7, _⟩ => ⟨S2880, .i32⟩
  | .hbm, ⟨8, _⟩ => ⟨S2880, .i32⟩
  | .hbm, ⟨9, _⟩ => ⟨S256x2880, .i8⟩
  | .hbm, ⟨10, _⟩ => ⟨S1x2880, .i32⟩
  | .hbm, ⟨11, _⟩ => ⟨S1x2880, .i32⟩
  | .hbm, ⟨12, _⟩ => ⟨S1x2880, .i32⟩
  | .hbm, ⟨13, _⟩ => ⟨S1x2880, .i32⟩
  | .hbm, ⟨14, _⟩ => ⟨S1x2880, .i32⟩
  | .hbm, ⟨15, _⟩ => ⟨S1x2880, .i32⟩
  | .hbm, ⟨16, _⟩ => ⟨S256x2880, .i8⟩
  | .local _ .vmem, ⟨0, _⟩ => ⟨S256x768, .i8⟩
  | .local _ .vmem, ⟨1, _⟩ => ⟨S256x768, .i8⟩
  | .local _ .vmem, ⟨2, _⟩ => ⟨S768x2880, .i8⟩
  | .local _ .vmem, ⟨3, _⟩ => ⟨S768x2880, .i8⟩
  | .local _ .vmem, ⟨4, _⟩ => ⟨S256x2880, .i8⟩
  | .local _ .vmem, ⟨5, _⟩ => ⟨S1x2880, .i32⟩
  | .local _ .vmem, ⟨6, _⟩ => ⟨S1x2880, .i32⟩
  | .local _ .vmem, ⟨7, _⟩ => ⟨S1x2880, .i32⟩
  | .local _ .vmem, ⟨8, _⟩ => ⟨S1x2880, .i32⟩
  | .local _ .vmem, ⟨9, _⟩ => ⟨S1x2880, .i32⟩
  | .local _ .vmem, ⟨10, _⟩ => ⟨S1x2880, .i32⟩
  | .local _ .vmem, ⟨11, _⟩ => ⟨S256x2880, .i8⟩
  | .local _ .vmem, ⟨12, _⟩ => ⟨S256x2880, .i32⟩
  | _, _ => ⟨S256x7680, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v15 : BitVec 1 := Scalar.cmpi .eq arg0 c9_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x2880 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2880 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2880 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2880 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2880 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2880 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2880 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2880 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2880 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Ref2Ideal.lean ====
abbrev S256x7680 : Shape := ⟨2, ![256, 7680]⟩
abbrev S1x256x2880 : Shape := ⟨3, ![1, 256, 2880]⟩
abbrev S7680x2880 : Shape := ⟨2, ![7680, 2880]⟩
abbrev S2880 : Shape := ⟨1, ![2880]⟩
abbrev S1x256x7680 : Shape := ⟨3, ![1, 256, 7680]⟩
abbrev S1x256x7680x1 : Shape := ⟨4, ![1, 256, 7680, 1]⟩
abbrev S1x1x7680x2880 : Shape := ⟨4, ![1, 1, 7680, 2880]⟩
abbrev S1x256x7680x2880 : Shape := ⟨4, ![1, 256, 7680, 2880]⟩
abbrev S_ : Shape := ⟨0, ![]⟩
abbrev S1x1x2880 : Shape := ⟨3, ![1, 1, 2880]⟩
abbrev S1x256 : Shape := ⟨2, ![1, 256]⟩
abbrev S1x256x1 : Shape := ⟨3, ![1, 256, 1]⟩
abbrev S256x2880 : Shape := ⟨2, ![256, 2880]⟩

abbrev nBuf : Space → Nat
  | .hbm => 540
  | .vmem => 0
  | .smem => 0
  | _ => 0

abbrev hbmTy0_0 (i : Nat) : BufTy := match i % 128 with
  | 0 => ⟨S256x7680, .i8⟩
  | 1 => ⟨S1x256x2880, .i8⟩
  | 2 => ⟨S7680x2880, .i8⟩
  | 3 => ⟨S2880, .i32⟩
  | 4 => ⟨S2880, .i32⟩
  | 5 => ⟨S2880, .i32⟩
  | 6 => ⟨S2880, .i32⟩
  | 7 => ⟨S2880, .i32⟩
  | 8 => ⟨S2880, .i32⟩
  | 9 => ⟨S1x256x7680, .i8⟩
  | 10 => ⟨S1x256x7680, .i32⟩
  | 11 => ⟨S1x256x7680x1, .i32⟩
  | 12 => ⟨S7680x2880, .i32⟩
  | 13 => ⟨S1x1x7680x2880, .i32⟩
  | 14 => ⟨S1x256x7680x2880, .i32⟩
  | 15 => ⟨S1x256x7680x2880, .i32⟩
  | 16 => ⟨S1x256x7680x2880, .i32⟩
  | 17 => ⟨S_, .i32⟩
  | 18 => ⟨S1x256x2880, .i32⟩
  | 19 => ⟨S1x1x2880, .i32⟩
  | 20 => ⟨S1x256x2880, .i32⟩
  | 21 => ⟨S1x256x2880, .i32⟩
  | 22 => ⟨S_, .i32⟩
  | 23 => ⟨S2880, .i32⟩
  | 24 => ⟨S2880, .i32⟩
  | 25 => ⟨S_, .i32⟩
  | 26 => ⟨S2880, .i32⟩
  | 27 => ⟨S2880, .i32⟩
  | 28 => ⟨S_, .i32⟩
  | 29 => ⟨S2880, .i32⟩
  | 30 => ⟨S2880, .i32⟩
  | 31 => ⟨S_, .i32⟩
  | 32 => ⟨S2880, .i32⟩
  | 33 => ⟨S2880, .i32⟩
  | 34 => ⟨S_, .i32⟩
  | 35 => ⟨S2880, .i32⟩
  | 36 => ⟨S2880, .i32⟩
  | 37 => ⟨S1x1x2880, .i32⟩
  | 38 => ⟨S1x256x2880, .i32⟩
  | 39 => ⟨S1x256x2880, .i32⟩
  | 40 => ⟨S1x1x2880, .i32⟩
  | 41 => ⟨S1x256x2880, .i32⟩
  | 42 => ⟨S1x256x2880, .i32⟩
  | 43 => ⟨S1x1x2880, .i32⟩
  | 44 => ⟨S1x256x2880, .i32⟩
  | 45 => ⟨S1x256x2880, .i32⟩
  | 46 => ⟨S1x1x2880, .i32⟩
  | 47 => ⟨S1x256x2880, .i32⟩
  | 48 => ⟨S1x256x2880, .i32⟩
  | 49 => ⟨S1x1x2880, .i32⟩
  | 50 => ⟨S1x256x2880, .i32⟩
  | 51 => ⟨S1x256x2880, .i32⟩
  | 52 => ⟨S1x1x2880, .i32⟩
  | 53 => ⟨S1x256x2880, .i32⟩
  | 54 => ⟨S1x256x2880, .i32⟩
  | 55 => ⟨S1x256x2880, .i32⟩
  | 56 => ⟨S2880, .i32⟩
  | 57 => ⟨S1x1x2880, .i32⟩
  | 58 => ⟨S1x256x2880, .i32⟩
  | 59 => ⟨S1x256x2880, .i32⟩
  | 60 => ⟨S1x256x2880, .i32⟩
  | 61 => ⟨S_, .i32⟩
  | 62 => ⟨S1x256x2880, .i32⟩
  | 63 => ⟨S1x256x2880, .i32⟩
  | 64 => ⟨S1x256x2880, .i32⟩
  | 65 => ⟨S_, .i32⟩
  | 66 => ⟨S1x256, .i32⟩
  | 67 => ⟨S1x256x1, .i32⟩
  | 68 => ⟨S_, .i32⟩
  | 69 => ⟨S1x256x1, .i32⟩
  | 70 => ⟨S1x256x1, .i32⟩
  | 71 => ⟨S_, .i32⟩
  | 72 => ⟨S_, .i32⟩
  | 73 => ⟨S1x256x1, .i32⟩
  | 74 => ⟨S1x256x1, .i32⟩
  | 75 => ⟨S1x256x1, .i32⟩
  | 76 => ⟨S_, .i32⟩
  | 77 => ⟨S1x256x1, .i32⟩
  | 78 => ⟨S1x256x1, .i1⟩
  | 79 => ⟨S1x256x1, .i32⟩
  | 80 => ⟨S1x256x1, .i32⟩
  | 81 => ⟨S_, .i32⟩
  | 82 => ⟨S1x256x1, .i32⟩
  | 83 => ⟨S1x256x1, .i1⟩
  | 84 => ⟨S1x256x1, .i1⟩
  | 85 => ⟨S_, .i32⟩
  | 86 => ⟨S1x256x1, .i32⟩
  | 87 => ⟨S1x256x1, .i32⟩
  | 88 => ⟨S1x256x1, .i32⟩
  | 89 => ⟨S1x256x2880, .i32⟩
  | 90 => ⟨S1x256x2880, .i32⟩
  | 91 => ⟨S1x256x2880, .i32⟩
  | 92 => ⟨S_, .i32⟩
  | 93 => ⟨S1x256, .i32⟩
  | 94 => ⟨S1x256x1, .i32⟩
  | 95 => ⟨S1x256x1, .i32⟩
  | 96 => ⟨S_, .i32⟩
  | 97 => ⟨S1x256x1, .i32⟩
  | 98 => ⟨S1x256x1, .i32⟩
  | 99 => ⟨S_, .i32⟩
  | 100 => ⟨S1x256x1, .i32⟩
  | 101 => ⟨S1x256x1, .i32⟩
  | 102 => ⟨S_, .i32⟩
  | 103 => ⟨S1x256x1, .i32⟩
  | 104 => ⟨S1x256x1, .i32⟩
  | 105 => ⟨S1x256x2880, .i32⟩
  | 106 => ⟨S1x256x2880, .i32⟩
  | 107 => ⟨S1x256x2880, .i32⟩
  | 108 => ⟨S_, .i32⟩
  | 109 => ⟨S1x256, .i32⟩
  | 110 => ⟨S1x256x1, .i32⟩
  | 111 => ⟨S_, .i32⟩
  | 112 => ⟨S1x256x1, .i32⟩
  | 113 => ⟨S1x256x1, .i32⟩
  | 114 => ⟨S_, .i32⟩
  | 115 => ⟨S1x256x1, .i32⟩
  | 116 => ⟨S1x256x1, .i32⟩
  | 117 => ⟨S1x256x1, .i32⟩
  | 118 => ⟨S1x256x1, .i32⟩
  | 119 => ⟨S1x256x1, .i1⟩
  | 120 => ⟨S1x256x1, .i32⟩
  | 121 => ⟨S_, .i32⟩
  | 122 => ⟨S1x256x1, .i32⟩
  | 123 => ⟨S1x256x1, .i1⟩
  | 124 => ⟨S1x256x1, .i1⟩
  | 125 => ⟨S_, .i32⟩
  | 126 => ⟨S1x256x1, .i32⟩
  | 127 => ⟨S1x256x1, .i32⟩
  | _ => ⟨S256x7680, .i8⟩

abbrev hbmTy0_1 (i : Nat) : BufTy := match i % 128 with
  | 0 => ⟨S1x256x1, .i32⟩
  | 1 => ⟨S1x256x1, .i32⟩
  | 2 => ⟨S_, .i32⟩
  | 3 => ⟨S1x256x1, .i32⟩
  | 4 => ⟨S1x256x1, .i32⟩
  | 5 => ⟨S1x256x1, .i32⟩
  | 6 => ⟨S1x256x1, .i32⟩
  | 7 => ⟨S1x256x1, .i32⟩
  | 8 => ⟨S1x256x1, .i1⟩
  | 9 => ⟨S1x256x1, .i32⟩
  | 10 => ⟨S_, .i32⟩
  | 11 => ⟨S1x256x1, .i32⟩
  | 12 => ⟨S1x256x1, .i1⟩
  | 13 => ⟨S1x256x1, .i1⟩
  | 14 => ⟨S_, .i32⟩
  | 15 => ⟨S1x256x1, .i32⟩
  | 16 => ⟨S1x256x1, .i32⟩
  | 17 => ⟨S1x256x1, .i32⟩
  | 18 => ⟨S1x256x1, .i32⟩
  | 19 => ⟨S_, .i32⟩
  | 20 => ⟨S1x256x1, .i32⟩
  | 21 => ⟨S1x256x1, .i32⟩
  | 22 => ⟨S1x256x1, .i32⟩
  | 23 => ⟨S1x256x1, .i32⟩
  | 24 => ⟨S1x256x1, .i32⟩
  | 25 => ⟨S1x256x1, .i1⟩
  | 26 => ⟨S1x256x1, .i32⟩
  | 27 => ⟨S_, .i32⟩
  | 28 => ⟨S1x256x1, .i32⟩
  | 29 => ⟨S1x256x1, .i1⟩
  | 30 => ⟨S1x256x1, .i1⟩
  | 31 => ⟨S_, .i32⟩
  | 32 => ⟨S1x256x1, .i32⟩
  | 33 => ⟨S1x256x1, .i32⟩
  | 34 => ⟨S1x256x1, .i32⟩
  | 35 => ⟨S1x256x1, .i32⟩
  | 36 => ⟨S_, .i32⟩
  | 37 => ⟨S1x256x1, .i32⟩
  | 38 => ⟨S1x256x1, .i32⟩
  | 39 => ⟨S1x256x1, .i32⟩
  | 40 => ⟨S1x256x1, .i32⟩
  | 41 => ⟨S1x256x1, .i32⟩
  | 42 => ⟨S1x256x1, .i1⟩
  | 43 => ⟨S1x256x1, .i32⟩
  | 44 => ⟨S_, .i32⟩
  | 45 => ⟨S1x256x1, .i32⟩
  | 46 => ⟨S1x256x1, .i1⟩
  | 47 => ⟨S1x256x1, .i1⟩
  | 48 => ⟨S_, .i32⟩
  | 49 => ⟨S1x256x1, .i32⟩
  | 50 => ⟨S1x256x1, .i32⟩
  | 51 => ⟨S1x256x1, .i32⟩
  | 52 => ⟨S1x256x1, .i32⟩
  | 53 => ⟨S_, .i32⟩
  | 54 => ⟨S1x256x1, .i32⟩
  | 55 => ⟨S1x256x1, .i32⟩
  | 56 => ⟨S1x256x1, .i32⟩
  | 57 => ⟨S1x256x1, .i32⟩
  | 58 => ⟨S1x256x1, .i32⟩
  | 59 => ⟨S1x256x1, .i1⟩
  | 60 => ⟨S1x256x1, .i32⟩
  | 61 => ⟨S_, .i32⟩
  | 62 => ⟨S1x256x1, .i32⟩
  | 63 => ⟨S1x256x1, .i1⟩
  | 64 => ⟨S1x256x1, .i1⟩
  | 65 => ⟨S_, .i32⟩
  | 66 => ⟨S1x256x1, .i32⟩
  | 67 => ⟨S1x256x1, .i32⟩
  | 68 => ⟨S1x256x1, .i32⟩
  | 69 => ⟨S1x256x1, .i32⟩
  | 70 => ⟨S_, .i32⟩
  | 71 => ⟨S1x256x1, .i32⟩
  | 72 => ⟨S1x256x1, .i32⟩
  | 73 => ⟨S1x256x1, .i32⟩
  | 74 => ⟨S1x256x1, .i32⟩
  | 75 => ⟨S1x256x1, .i32⟩
  | 76 => ⟨S1x256x1, .i1⟩
  | 77 => ⟨S1x256x1, .i32⟩
  | 78 => ⟨S_, .i32⟩
  | 79 => ⟨S1x256x1, .i32⟩
  | 80 => ⟨S1x256x1, .i1⟩
  | 81 => ⟨S1x256x1, .i1⟩
  | 82 => ⟨S_, .i32⟩
  | 83 => ⟨S1x256x1, .i32⟩
  | 84 => ⟨S1x256x1, .i32⟩
  | 85 => ⟨S1x256x1, .i32⟩
  | 86 => ⟨S1x256x1, .i32⟩
  | 87 => ⟨S_, .i32⟩
  | 88 => ⟨S1x256x1, .i32⟩
  | 89 => ⟨S1x256x1, .i32⟩
  | 90 => ⟨S1x256x1, .i32⟩
  | 91 => ⟨S1x256x1, .i32⟩
  | 92 => ⟨S1x256x1, .i32⟩
  | 93 => ⟨S1x256x1, .i1⟩
  | 94 => ⟨S1x256x1, .i32⟩
  | 95 => ⟨S_, .i32⟩
  | 96 => ⟨S1x256x1, .i32⟩
  | 97 => ⟨S1x256x1, .i1⟩
  | 98 => ⟨S1x256x1, .i1⟩
  | 99 => ⟨S_, .i32⟩
  | 100 => ⟨S1x256x1, .i32⟩
  | 101 => ⟨S1x256x1, .i32⟩
  | 102 => ⟨S1x256x1, .i32⟩
  | 103 => ⟨S1x256x1, .i32⟩
  | 104 => ⟨S_, .i32⟩
  | 105 => ⟨S1x256x1, .i32⟩
  | 106 => ⟨S1x256x1, .i32⟩
  | 107 => ⟨S1x256x1, .i32⟩
  | 108 => ⟨S1x256x1, .i32⟩
  | 109 => ⟨S1x256x1, .i32⟩
  | 110 => ⟨S1x256x1, .i1⟩
  | 111 => ⟨S1x256x1, .i32⟩
  | 112 => ⟨S_, .i32⟩
  | 113 => ⟨S1x256x1, .i32⟩
  | 114 => ⟨S1x256x1, .i1⟩
  | 115 => ⟨S1x256x1, .i1⟩
  | 116 => ⟨S_, .i32⟩
  | 117 => ⟨S1x256x1, .i32⟩
  | 118 => ⟨S1x256x1, .i32⟩
  | 119 => ⟨S1x256x1, .i32⟩
  | 120 => ⟨S1x256x1, .i32⟩
  | 121 => ⟨S_, .i32⟩
  | 122 => ⟨S1x256x1, .i32⟩
  | 123 => ⟨S1x256x1, .i32⟩
  | 124 => ⟨S1x256x1, .i32⟩
  | 125 => ⟨S1x256x1, .i32⟩
  | 126 => ⟨S1x256x1, .i32⟩
  | 127 => ⟨S1x256x1, .i1⟩
  | _ => ⟨S256x7680, .i8⟩

abbrev hbmTy0_2 (i : Nat) : BufTy := match i % 128 with
  | 0 => ⟨S1x256x1, .i32⟩
  | 1 => ⟨S_, .i32⟩
  | 2 => ⟨S1x256x1, .i32⟩
  | 3 => ⟨S1x256x1, .i1⟩
  | 4 => ⟨S1x256x1, .i1⟩
  | 5 => ⟨S_, .i32⟩
  | 6 => ⟨S1x256x1, .i32⟩
  | 7 => ⟨S1x256x1, .i32⟩
  | 8 => ⟨S1x256x1, .i32⟩
  | 9 => ⟨S1x256x1, .i32⟩
  | 10 => ⟨S_, .i32⟩
  | 11 => ⟨S1x256x1, .i32⟩
  | 12 => ⟨S1x256x1, .i32⟩
  | 13 => ⟨S1x256x1, .i32⟩
  | 14 => ⟨S1x256x1, .i32⟩
  | 15 => ⟨S1x256x1, .i32⟩
  | 16 => ⟨S1x256x1, .i1⟩
  | 17 => ⟨S1x256x1, .i32⟩
  | 18 => ⟨S_, .i32⟩
  | 19 => ⟨S1x256x1, .i32⟩
  | 20 => ⟨S1x256x1, .i1⟩
  | 21 => ⟨S1x256x1, .i1⟩
  | 22 => ⟨S_, .i32⟩
  | 23 => ⟨S1x256x1, .i32⟩
  | 24 => ⟨S1x256x1, .i32⟩
  | 25 => ⟨S1x256x1, .i32⟩
  | 26 => ⟨S1x256x1, .i32⟩
  | 27 => ⟨S_, .i32⟩
  | 28 => ⟨S1x256x1, .i32⟩
  | 29 => ⟨S1x256x1, .i32⟩
  | 30 => ⟨S1x256x1, .i32⟩
  | 31 => ⟨S1x256x1, .i32⟩
  | 32 => ⟨S1x256x1, .i32⟩
  | 33 => ⟨S1x256x1, .i1⟩
  | 34 => ⟨S1x256x1, .i32⟩
  | 35 => ⟨S_, .i32⟩
  | 36 => ⟨S1x256x1, .i32⟩
  | 37 => ⟨S1x256x1, .i1⟩
  | 38 => ⟨S1x256x1, .i1⟩
  | 39 => ⟨S_, .i32⟩
  | 40 => ⟨S1x256x1, .i32⟩
  | 41 => ⟨S1x256x1, .i32⟩
  | 42 => ⟨S1x256x1, .i32⟩
  | 43 => ⟨S1x256x1, .i32⟩
  | 44 => ⟨S_, .i32⟩
  | 45 => ⟨S1x256x1, .i32⟩
  | 46 => ⟨S1x256x1, .i32⟩
  | 47 => ⟨S1x256x1, .i32⟩
  | 48 => ⟨S1x256x1, .i32⟩
  | 49 => ⟨S1x256x1, .i32⟩
  | 50 => ⟨S1x256x1, .i1⟩
  | 51 => ⟨S1x256x1, .i32⟩
  | 52 => ⟨S_, .i32⟩
  | 53 => ⟨S1x256x1, .i32⟩
  | 54 => ⟨S1x256x1, .i1⟩
  | 55 => ⟨S1x256x1, .i1⟩
  | 56 => ⟨S_, .i32⟩
  | 57 => ⟨S1x256x1, .i32⟩
  | 58 => ⟨S1x256x1, .i32⟩
  | 59 => ⟨S1x256x1, .i32⟩
  | 60 => ⟨S1x256x1, .i32⟩
  | 61 => ⟨S_, .i32⟩
  | 62 => ⟨S1x256x1, .i32⟩
  | 63 => ⟨S1x256x1, .i32⟩
  | 64 => ⟨S1x256x1, .i32⟩
  | 65 => ⟨S1x256x1, .i32⟩
  | 66 => ⟨S1x256x1, .i32⟩
  | 67 => ⟨S1x256x1, .i1⟩
  | 68 => ⟨S1x256x1, .i32⟩
  | 69 => ⟨S_, .i32⟩
  | 70 => ⟨S1x256x1, .i32⟩
  | 71 => ⟨S1x256x1, .i1⟩
  | 72 => ⟨S1x256x1, .i1⟩
  | 73 => ⟨S_, .i32⟩
  | 74 => ⟨S1x256x1, .i32⟩
  | 75 => ⟨S1x256x1, .i32⟩
  | 76 => ⟨S1x256x1, .i32⟩
  | 77 => ⟨S1x256x1, .i32⟩
  | 78 => ⟨S_, .i32⟩
  | 79 => ⟨S1x256x1, .i32⟩
  | 80 => ⟨S1x256x1, .i32⟩
  | 81 => ⟨S1x256x1, .i32⟩
  | 82 => ⟨S1x256x1, .i32⟩
  | 83 => ⟨S1x256x1, .i32⟩
  | 84 => ⟨S1x256x1, .i1⟩
  | 85 => ⟨S1x256x1, .i32⟩
  | 86 => ⟨S_, .i32⟩
  | 87 => ⟨S1x256x1, .i32⟩
  | 88 => ⟨S1x256x1, .i1⟩
  | 89 => ⟨S1x256x1, .i1⟩
  | 90 => ⟨S_, .i32⟩
  | 91 => ⟨S1x256x1, .i32⟩
  | 92 => ⟨S1x256x1, .i32⟩
  | 93 => ⟨S1x256x1, .i32⟩
  | 94 => ⟨S1x256x1, .i32⟩
  | 95 => ⟨S_, .i32⟩
  | 96 => ⟨S1x256x1, .i32⟩
  | 97 => ⟨S1x256x1, .i32⟩
  | 98 => ⟨S1x256x1, .i32⟩
  | 99 => ⟨S1x256x1, .i32⟩
  | 100 => ⟨S1x256x1, .i32⟩
  | 101 => ⟨S1x256x1, .i1⟩
  | 102 => ⟨S1x256x1, .i32⟩
  | 103 => ⟨S_, .i32⟩
  | 104 => ⟨S1x256x1, .i32⟩
  | 105 => ⟨S1x256x1, .i1⟩
  | 106 => ⟨S1x256x1, .i1⟩
  | 107 => ⟨S_, .i32⟩
  | 108 => ⟨S1x256x1, .i32⟩
  | 109 => ⟨S1x256x1, .i32⟩
  | 110 => ⟨S1x256x1, .i32⟩
  | 111 => ⟨S1x256x1, .i32⟩
  | 112 => ⟨S_, .i32⟩
  | 113 => ⟨S1x256x1, .i32⟩
  | 114 => ⟨S1x256x1, .i32⟩
  | 115 => ⟨S1x256x1, .i32⟩
  | 116 => ⟨S1x256x1, .i32⟩
  | 117 => ⟨S1x256x1, .i32⟩
  | 118 => ⟨S1x256x1, .i1⟩
  | 119 => ⟨S1x256x1, .i32⟩
  | 120 => ⟨S_, .i32⟩
  | 121 => ⟨S1x256x1, .i32⟩
  | 122 => ⟨S1x256x1, .i1⟩
  | 123 => ⟨S1x256x1, .i1⟩
  | 124 => ⟨S_, .i32⟩
  | 125 => ⟨S1x256x1, .i32⟩
  | 126 => ⟨S1x256x1, .i32⟩
  | 127 => ⟨S1x256x1, .i32⟩
  | _ => ⟨S256x7680, .i8⟩

abbrev hbmTy0_3 (i : Nat) : BufTy := match i % 128 with
  | 0 => ⟨S1x256x1, .i32⟩
  | 1 => ⟨S_, .i32⟩
  | 2 => ⟨S1x256x1, .i32⟩
  | 3 => ⟨S1x256x1, .i32⟩
  | 4 => ⟨S1x256x1, .i32⟩
  | 5 => ⟨S1x256x1, .i32⟩
  | 6 => ⟨S1x256x1, .i32⟩
  | 7 => ⟨S1x256x1, .i1⟩
  | 8 => ⟨S1x256x1, .i32⟩
  | 9 => ⟨S_, .i32⟩
  | 10 => ⟨S1x256x1, .i32⟩
  | 11 => ⟨S1x256x1, .i1⟩
  | 12 => ⟨S1x256x1, .i1⟩
  | 13 => ⟨S_, .i32⟩
  | 14 => ⟨S1x256x1, .i32⟩
  | 15 => ⟨S1x256x1, .i32⟩
  | 16 => ⟨S1x256x1, .i32⟩
  | 17 => ⟨S1x256x1, .i32⟩
  | 18 => ⟨S_, .i32⟩
  | 19 => ⟨S1x256x1, .i32⟩
  | 20 => ⟨S1x256x1, .i32⟩
  | 21 => ⟨S1x256x1, .i32⟩
  | 22 => ⟨S1x256x1, .i32⟩
  | 23 => ⟨S1x256x1, .i32⟩
  | 24 => ⟨S1x256x1, .i1⟩
  | 25 => ⟨S1x256x1, .i32⟩
  | 26 => ⟨S_, .i32⟩
  | 27 => ⟨S1x256x1, .i32⟩
  | 28 => ⟨S1x256x1, .i1⟩
  | 29 => ⟨S1x256x1, .i1⟩
  | 30 => ⟨S_, .i32⟩
  | 31 => ⟨S1x256x1, .i32⟩
  | 32 => ⟨S1x256x1, .i32⟩
  | 33 => ⟨S1x256x1, .i32⟩
  | 34 => ⟨S1x256x1, .i32⟩
  | 35 => ⟨S_, .i32⟩
  | 36 => ⟨S1x256x1, .i32⟩
  | 37 => ⟨S1x256x1, .i32⟩
  | 38 => ⟨S1x256x1, .i32⟩
  | 39 => ⟨S1x256x1, .i32⟩
  | 40 => ⟨S1x256x1, .i32⟩
  | 41 => ⟨S1x256x1, .i1⟩
  | 42 => ⟨S1x256x1, .i32⟩
  | 43 => ⟨S_, .i32⟩
  | 44 => ⟨S1x256x1, .i32⟩
  | 45 => ⟨S1x256x1, .i1⟩
  | 46 => ⟨S1x256x1, .i1⟩
  | 47 => ⟨S_, .i32⟩
  | 48 => ⟨S1x256x1, .i32⟩
  | 49 => ⟨S1x256x1, .i32⟩
  | 50 => ⟨S1x256x1, .i32⟩
  | 51 => ⟨S1x256x1, .i32⟩
  | 52 => ⟨S_, .i32⟩
  | 53 => ⟨S1x256x1, .i32⟩
  | 54 => ⟨S1x256x1, .i32⟩
  | 55 => ⟨S1x256x1, .i32⟩
  | 56 => ⟨S1x256x1, .i32⟩
  | 57 => ⟨S1x256x1, .i32⟩
  | 58 => ⟨S1x256x1, .i1⟩
  | 59 => ⟨S1x256x1, .i32⟩
  | 60 => ⟨S_, .i32⟩
  | 61 => ⟨S1x256x1, .i32⟩
  | 62 => ⟨S1x256x1, .i1⟩
  | 63 => ⟨S1x256x1, .i1⟩
  | 64 => ⟨S_, .i32⟩
  | 65 => ⟨S1x256x1, .i32⟩
  | 66 => ⟨S1x256x1, .i32⟩
  | 67 => ⟨S1x256x1, .i32⟩
  | 68 => ⟨S1x256x1, .i32⟩
  | 69 => ⟨S_, .i32⟩
  | 70 => ⟨S1x256x1, .i32⟩
  | 71 => ⟨S1x256x1, .i32⟩
  | 72 => ⟨S_, .i32⟩
  | 73 => ⟨S1x256x1, .i32⟩
  | 74 => ⟨S1x256x1, .i32⟩
  | 75 => ⟨S1x256x1, .i32⟩
  | 76 => ⟨S_, .i32⟩
  | 77 => ⟨S1x256x1, .i32⟩
  | 78 => ⟨S1x256x1, .i1⟩
  | 79 => ⟨S_, .i32⟩
  | 80 => ⟨S1x256x1, .i32⟩
  | 81 => ⟨S1x256x1, .i32⟩
  | 82 => ⟨S_, .i32⟩
  | 83 => ⟨S1x256x1, .i32⟩
  | 84 => ⟨S1x256x1, .i32⟩
  | 85 => ⟨S1x256x1, .i1⟩
  | 86 => ⟨S1x256x1, .i32⟩
  | 87 => ⟨S1x256x1, .i32⟩
  | 88 => ⟨S_, .i32⟩
  | 89 => ⟨S1x256x1, .i32⟩
  | 90 => ⟨S1x256x1, .i1⟩
  | 91 => ⟨S1x256x1, .i1⟩
  | 92 => ⟨S_, .i32⟩
  | 93 => ⟨S1x256x1, .i32⟩
  | 94 => ⟨S1x256x1, .i32⟩
  | 95 => ⟨S1x256x1, .i32⟩
  | 96 => ⟨S_, .i32⟩
  | 97 => ⟨S_, .i32⟩
  | 98 => ⟨S1x256x1, .i32⟩
  | 99 => ⟨S1x256x1, .i32⟩
  | 100 => ⟨S1x256x2880, .i32⟩
  | 101 => ⟨S1x256x2880, .i32⟩
  | 102 => ⟨S_, .i32⟩
  | 103 => ⟨S1x256x2880, .i32⟩
  | 104 => ⟨S1x256x2880, .i32⟩
  | 105 => ⟨S_, .i32⟩
  | 106 => ⟨S2880, .i32⟩
  | 107 => ⟨S2880, .i32⟩
  | 108 => ⟨S_, .i32⟩
  | 109 => ⟨S2880, .i32⟩
  | 110 => ⟨S2880, .i32⟩
  | 111 => ⟨S_, .i32⟩
  | 112 => ⟨S2880, .i32⟩
  | 113 => ⟨S2880, .i32⟩
  | 114 => ⟨S_, .i32⟩
  | 115 => ⟨S2880, .i32⟩
  | 116 => ⟨S2880, .i32⟩
  | 117 => ⟨S_, .i32⟩
  | 118 => ⟨S2880, .i32⟩
  | 119 => ⟨S2880, .i32⟩
  | 120 => ⟨S1x1x2880, .i32⟩
  | 121 => ⟨S1x256x2880, .i32⟩
  | 122 => ⟨S1x256x2880, .i32⟩
  | 123 => ⟨S1x1x2880, .i32⟩
  | 124 => ⟨S1x256x2880, .i32⟩
  | 125 => ⟨S1x256x2880, .i32⟩
  | 126 => ⟨S1x1x2880, .i32⟩
  | 127 => ⟨S1x256x2880, .i32⟩
  | _ => ⟨S256x7680, .i8⟩

abbrev hbmTy0_4 (i : Nat) : BufTy := match i % 128 with
  | 0 => ⟨S1x256x2880, .i32⟩
  | 1 => ⟨S1x1x2880, .i32⟩
  | 2 => ⟨S1x256x2880, .i32⟩
  | 3 => ⟨S1x256x2880, .i32⟩
  | 4 => ⟨S1x1x2880, .i32⟩
  | 5 => ⟨S1x256x2880, .i32⟩
  | 6 => ⟨S1x256x2880, .i32⟩
  | 7 => ⟨S1x1x2880, .i32⟩
  | 8 => ⟨S1x256x2880, .i32⟩
  | 9 => ⟨S1x256x2880, .i32⟩
  | 10 => ⟨S1x256x2880, .i32⟩
  | 11 => ⟨S2880, .i32⟩
  | 12 => ⟨S1x1x2880, .i32⟩
  | 13 => ⟨S1x256x2880, .i32⟩
  | 14 => ⟨S1x256x2880, .i32⟩
  | 15 => ⟨S1x1x2880, .i32⟩
  | 16 => ⟨S1x256x2880, .i32⟩
  | 17 => ⟨S1x256x2880, .i32⟩
  | 18 => ⟨S_, .i32⟩
  | 19 => ⟨S_, .i32⟩
  | 20 => ⟨S_, .i32⟩
  | 21 => ⟨S1x256x2880, .i32⟩
  | 22 => ⟨S1x256x2880, .i32⟩
  | 23 => ⟨S_, .i32⟩
  | 24 => ⟨S1x256x2880, .i32⟩
  | 25 => ⟨S1x256x2880, .i32⟩
  | 26 => ⟨S1x256x2880, .i8⟩
  | 27 => ⟨S256x2880, .i8⟩
  | _ => ⟨S256x7680, .i8⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S256x7680, .i8⟩

abbrev bufTy : (tb : Table) → Fin (tcTables nBuf tb) → BufTy
  | .hbm, ⟨i, _⟩ => hbmTy i
  | _, _ => ⟨S256x7680, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_6 : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_v51 : Ref sig .tc := ⟨.hbm, 69, rfl⟩
abbrev main_v52 : Ref sig .tc := ⟨.hbm, 70, rfl⟩
abbrev main_c_8 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_v8 : Ref sig .tc := ⟨.hbm, 80, rfl⟩
abbrev main_call0_c : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_c_0 : Ref sig .tc := ⟨.hbm, 85, rfl⟩
abbrev main_call0_v12 : Ref sig .tc := ⟨.hbm, 86, rfl⟩
abbrev main_call0_v13 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_9 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_c_10 : Ref sig .tc := ⟨.hbm, 96, rfl⟩
abbrev main_v60 : Ref sig .tc := ⟨.hbm, 97, rfl⟩
abbrev main_v61 : Ref sig .tc := ⟨.hbm, 98, rfl⟩
abbrev main_c_11 : Ref sig .tc := ⟨.hbm, 99, rfl⟩
abbrev main_v62 : Ref sig .tc := ⟨.hbm, 100, rfl⟩
abbrev main_v63 : Ref sig .tc := ⟨.hbm, 101, rfl⟩
abbrev main_c_12 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_c_13 : Ref sig .tc := ⟨.hbm, 108, rfl⟩
abbrev main_v69 : Ref sig .tc := ⟨.hbm, 109, rfl⟩
abbrev main_v70 : Ref sig .tc := ⟨.hbm, 110, rfl⟩
abbrev main_c_14 : Ref sig .tc := ⟨.hbm, 111, rfl⟩
abbrev main_v71 : Ref sig .tc := ⟨.hbm, 112, rfl⟩
abbrev main_v72 : Ref sig .tc := ⟨.hbm, 113, rfl⟩
abbrev main_c_15 : Ref sig .tc := ⟨.hbm, 114, rfl⟩
abbrev main_v73 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_call1_v3 : Ref sig .tc := ⟨.hbm, 119, rfl⟩
abbrev main_call1_v4 : Ref sig .tc := ⟨.hbm, 120, rfl⟩
abbrev main_call1_c : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_c_0 : Ref sig .tc := ⟨.hbm, 125, rfl⟩
abbrev main_call1_v8 : Ref sig .tc := ⟨.hbm, 126, rfl⟩
abbrev main_call1_v9 : Ref sig .tc := ⟨.hbm, 127, rfl⟩
abbrev main_v74 : Ref sig .tc := ⟨.hbm, 128, rfl⟩
abbrev main_v75 : Ref sig .tc := ⟨.hbm, 129, rfl⟩
abbrev main_c_16 : Ref sig .tc := ⟨.hbm, 130, rfl⟩
abbrev main_v76 : Ref sig .tc := ⟨.hbm, 131, rfl⟩
abbrev main_v77 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_call2_c : Ref sig .tc := ⟨.hbm, 138, rfl⟩
abbrev main_call2_v5 : Ref sig .tc := ⟨.hbm, 139, rfl⟩
abbrev main_call2_v6 : Ref sig .tc := ⟨.hbm, 140, rfl⟩
abbrev main_call2_v7 : Ref sig .tc := ⟨.hbm, 141, rfl⟩
abbrev main_call2_c_0 : Ref sig .tc := ⟨.hbm, 142, rfl⟩
abbrev main_call2_v8 : Ref sig .tc := ⟨.hbm, 143, rfl⟩
abbrev main_call2_v9 : Ref sig .tc := ⟨.hbm, 144, rfl⟩
abbrev main_v78 : Ref sig .tc := ⟨.hbm, 145, rfl⟩
abbrev main_v79 : Ref sig .tc := ⟨.hbm, 146, rfl⟩
abbrev main_c_17 : Ref sig .tc := ⟨.hbm, 147, rfl⟩
abbrev main_v80 : Ref sig .tc := ⟨.hbm, 148, rfl⟩
abbrev main_v81 : Ref sig .tc := ⟨.hbm, 149, rfl⟩
abbrev main_call3_v0 : Ref sig .tc := ⟨.hbm, 150, rfl⟩
abbrev main_call3_v1 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_call3_c : Ref sig .tc := ⟨.hbm, 155, rfl⟩
abbrev main_call3_v5 : Ref sig .tc := ⟨.hbm, 156, rfl⟩
abbrev main_call3_v6 : Ref sig .tc := ⟨.hbm, 157, rfl⟩
abbrev main_call3_v7 : Ref sig .tc := ⟨.hbm, 158, rfl⟩
abbrev main_call3_c_0 : Ref sig .tc := ⟨.hbm, 159, rfl⟩
abbrev main_call3_v8 : Ref sig .tc := ⟨.hbm, 160, rfl⟩
abbrev main_call3_v9 : Ref sig .tc := ⟨.hbm, 161, rfl⟩
abbrev main_v82 : Ref sig .tc := ⟨.hbm, 162, rfl⟩
abbrev main_v83 : Ref sig .tc := ⟨.hbm, 163, rfl⟩
abbrev main_c_18 : Ref sig .tc := ⟨.hbm, 164, rfl⟩
abbrev main_v84 : Ref sig .tc := ⟨.hbm, 165, rfl⟩
abbrev main_v85 : Ref sig .tc := ⟨.hbm, 166, rfl⟩
abbrev main_call4_v0 : Ref sig .tc := ⟨.hbm, 167, rfl⟩
abbrev main_call4_v1 : Ref sig .tc := ⟨.hbm, 168, rfl⟩
abbrev main_call4_v2 : Ref sig .tc := ⟨.hbm, 169, rfl⟩
abbrev main_call4_v3 : Ref sig .tc := ⟨.hbm, 170, rfl⟩
abbrev main_call4_v4 : Ref sig .tc := ⟨.hbm, 171, rfl⟩
abbrev main_call4_c : Ref sig .tc := ⟨.hbm, 172, rfl⟩
abbrev main_call4_v5 : Ref sig .tc := ⟨.hbm, 173, rfl⟩
abbrev main_call4_v6 : Ref sig .tc := ⟨.hbm, 174, rfl⟩
abbrev main_call4_v7 : Ref sig .tc := ⟨.hbm, 175, rfl⟩
abbrev main_call4_c_0 : Ref sig .tc := ⟨.hbm, 176, rfl⟩
abbrev main_call4_v8 : Ref sig .tc := ⟨.hbm, 177, rfl⟩
abbrev main_call4_v9 : Ref sig .tc := ⟨.hbm, 178, rfl⟩
abbrev main_v86 : Ref sig .tc := ⟨.hbm, 179, rfl⟩
abbrev main_v87 : Ref sig .tc := ⟨.hbm, 180, rfl⟩
abbrev main_c_19 : Ref sig .tc := ⟨.hbm, 181, rfl⟩
abbrev main_v88 : Ref sig .tc := ⟨.hbm, 182, rfl⟩
abbrev main_v89 : Ref sig .tc := ⟨.hbm, 183, rfl⟩
abbrev main_call5_v0 : Ref sig .tc := ⟨.hbm, 184, rfl⟩
abbrev main_call5_v1 : Ref sig .tc := ⟨.hbm, 185, rfl⟩
abbrev main_call5_v2 : Ref sig .tc := ⟨.hbm, 186, rfl⟩
abbrev main_call5_v3 : Ref sig .tc := ⟨.hbm, 187, rfl⟩
abbrev main_call5_v4 : Ref sig .tc := ⟨.hbm, 188, rfl⟩
abbrev main_call5_c : Ref sig .tc := ⟨.hbm, 189, rfl⟩
abbrev main_call5_v5 : Ref sig .tc := ⟨.hbm, 190, rfl⟩
abbrev main_call5_v6 : Ref sig .tc := ⟨.hbm, 191, rfl⟩
abbrev main_call5_v7 : Ref sig .tc := ⟨.hbm, 192, rfl⟩
abbrev main_call5_c_0 : Ref sig .tc := ⟨.hbm, 193, rfl⟩
abbrev main_call5_v8 : Ref sig .tc := ⟨.hbm, 194, rfl⟩
abbrev main_call5_v9 : Ref sig .tc := ⟨.hbm, 195, rfl⟩
abbrev main_v90 : Ref sig .tc := ⟨.hbm, 196, rfl⟩
abbrev main_v91 : Ref sig .tc := ⟨.hbm, 197, rfl⟩
abbrev main_c_20 : Ref sig .tc := ⟨.hbm, 198, rfl⟩
abbrev main_v92 : Ref sig .tc := ⟨.hbm, 199, rfl⟩
abbrev main_v93 : Ref sig .tc := ⟨.hbm, 200, rfl⟩
abbrev main_call6_v0 : Ref sig .tc := ⟨.hbm, 201, rfl⟩
abbrev main_call6_v1 : Ref sig .tc := ⟨.hbm, 202, rfl⟩
abbrev main_call6_v2 : Ref sig .tc := ⟨.hbm, 203, rfl⟩
abbrev main_call6_v3 : Ref sig .tc := ⟨.hbm, 204, rfl⟩
abbrev main_call6_v4 : Ref sig .tc := ⟨.hbm, 205, rfl⟩
abbrev main_call6_c : Ref sig .tc := ⟨.hbm, 206, rfl⟩
abbrev main_call6_v5 : Ref sig .tc := ⟨.hbm, 207, rfl⟩
abbrev main_call6_v6 : Ref sig .tc := ⟨.hbm, 208, rfl⟩
abbrev main_call6_v7 : Ref sig .tc := ⟨.hbm, 209, rfl⟩
abbrev main_call6_c_0 : Ref sig .tc := ⟨.hbm, 210, rfl⟩
abbrev main_call6_v8 : Ref sig .tc := ⟨.hbm, 211, rfl⟩
abbrev main_call6_v9 : Ref sig .tc := ⟨.hbm, 212, rfl⟩
abbrev main_v94 : Ref sig .tc := ⟨.hbm, 213, rfl⟩
abbrev main_v95 : Ref sig .tc := ⟨.hbm, 214, rfl⟩
abbrev main_c_21 : Ref sig .tc := ⟨.hbm, 215, rfl⟩
abbrev main_v96 : Ref sig .tc := ⟨.hbm, 216, rfl⟩
abbrev main_v97 : Ref sig .tc := ⟨.hbm, 217, rfl⟩
abbrev main_call7_v0 : Ref sig .tc := ⟨.hbm, 218, rfl⟩
abbrev main_call7_v1 : Ref sig .tc := ⟨.hbm, 219, rfl⟩
abbrev main_call7_v2 : Ref sig .tc := ⟨.hbm, 220, rfl⟩
abbrev main_call7_v3 : Ref sig .tc := ⟨.hbm, 221, rfl⟩
abbrev main_call7_v4 : Ref sig .tc := ⟨.hbm, 222, rfl⟩
abbrev main_call7_c : Ref sig .tc := ⟨.hbm, 223, rfl⟩
abbrev main_call7_v5 : Ref sig .tc := ⟨.hbm, 224, rfl⟩
abbrev main_call7_v6 : Ref sig .tc := ⟨.hbm, 225, rfl⟩
abbrev main_call7_v7 : Ref sig .tc := ⟨.hbm, 226, rfl⟩
abbrev main_call7_c_0 : Ref sig .tc := ⟨.hbm, 227, rfl⟩
abbrev main_call7_v8 : Ref sig .tc := ⟨.hbm, 228, rfl⟩
abbrev main_call7_v9 : Ref sig .tc := ⟨.hbm, 229, rfl⟩
abbrev main_v98 : Ref sig .tc := ⟨.hbm, 230, rfl⟩
abbrev main_v99 : Ref sig .tc := ⟨.hbm, 231, rfl⟩
abbrev main_c_22 : Ref sig .tc := ⟨.hbm, 232, rfl⟩
abbrev main_v100 : Ref sig .tc := ⟨.hbm, 233, rfl⟩
abbrev main_v101 : Ref sig .tc := ⟨.hbm, 234, rfl⟩
abbrev main_call8_v0 : Ref sig .tc := ⟨.hbm, 235, rfl⟩
abbrev main_call8_v1 : Ref sig .tc := ⟨.hbm, 236, rfl⟩
abbrev main_call8_v2 : Ref sig .tc := ⟨.hbm, 237, rfl⟩
abbrev main_call8_v3 : Ref sig .tc := ⟨.hbm, 238, rfl⟩
abbrev main_call8_v4 : Ref sig .tc := ⟨.hbm, 239, rfl⟩
abbrev main_call8_c : Ref sig .tc := ⟨.hbm, 240, rfl⟩
abbrev main_call8_v5 : Ref sig .tc := ⟨.hbm, 241, rfl⟩
abbrev main_call8_v6 : Ref sig .tc := ⟨.hbm, 242, rfl⟩
abbrev main_call8_v7 : Ref sig .tc := ⟨.hbm, 243, rfl⟩
abbrev main_call8_c_0 : Ref sig .tc := ⟨.hbm, 244, rfl⟩
abbrev main_call8_v8 : Ref sig .tc := ⟨.hbm, 245, rfl⟩
abbrev main_call8_v9 : Ref sig .tc := ⟨.hbm, 246, rfl⟩
abbrev main_v102 : Ref sig .tc := ⟨.hbm, 247, rfl⟩
abbrev main_v103 : Ref sig .tc := ⟨.hbm, 248, rfl⟩
abbrev main_c_23 : Ref sig .tc := ⟨.hbm, 249, rfl⟩
abbrev main_v104 : Ref sig .tc := ⟨.hbm, 250, rfl⟩
abbrev main_v105 : Ref sig .tc := ⟨.hbm, 251, rfl⟩
abbrev main_call9_v0 : Ref sig .tc := ⟨.hbm, 252, rfl⟩
abbrev main_call9_v1 : Ref sig .tc := ⟨.hbm, 253, rfl⟩
abbrev main_call9_v2 : Ref sig .tc := ⟨.hbm, 254, rfl⟩
abbrev main_call9_v3 : Ref sig .tc := ⟨.hbm, 255, rfl⟩
abbrev main_call9_v4 : Ref sig .tc := ⟨.hbm, 256, rfl⟩
abbrev main_call9_c : Ref sig .tc := ⟨.hbm, 257, rfl⟩
abbrev main_call9_v5 : Ref sig .tc := ⟨.hbm, 258, rfl⟩
abbrev main_call9_v6 : Ref sig .tc := ⟨.hbm, 259, rfl⟩
abbrev main_call9_v7 : Ref sig .tc := ⟨.hbm, 260, rfl⟩
abbrev main_call9_c_0 : Ref sig .tc := ⟨.hbm, 261, rfl⟩
abbrev main_call9_v8 : Ref sig .tc := ⟨.hbm, 262, rfl⟩
abbrev main_call9_v9 : Ref sig .tc := ⟨.hbm, 263, rfl⟩
abbrev main_v106 : Ref sig .tc := ⟨.hbm, 264, rfl⟩
abbrev main_v107 : Ref sig .tc := ⟨.hbm, 265, rfl⟩
abbrev main_c_24 : Ref sig .tc := ⟨.hbm, 266, rfl⟩
abbrev main_v108 : Ref sig .tc := ⟨.hbm, 267, rfl⟩
abbrev main_v109 : Ref sig .tc := ⟨.hbm, 268, rfl⟩
abbrev main_call10_v0 : Ref sig .tc := ⟨.hbm, 269, rfl⟩
abbrev main_call10_v1 : Ref sig .tc := ⟨.hbm, 270, rfl⟩
abbrev main_call10_v2 : Ref sig .tc := ⟨.hbm, 271, rfl⟩
abbrev main_call10_v3 : Ref sig .tc := ⟨.hbm, 272, rfl⟩
abbrev main_call10_v4 : Ref sig .tc := ⟨.hbm, 273, rfl⟩
abbrev main_call10_c : Ref sig .tc := ⟨.hbm, 274, rfl⟩
abbrev main_call10_v5 : Ref sig .tc := ⟨.hbm, 275, rfl⟩
abbrev main_call10_v6 : Ref sig .tc := ⟨.hbm, 276, rfl⟩
abbrev main_call10_v7 : Ref sig .tc := ⟨.hbm, 277, rfl⟩
abbrev main_call10_c_0 : Ref sig .tc := ⟨.hbm, 278, rfl⟩
abbrev main_call10_v8 : Ref sig .tc := ⟨.hbm, 279, rfl⟩
abbrev main_call10_v9 : Ref sig .tc := ⟨.hbm, 280, rfl⟩
abbrev main_v110 : Ref sig .tc := ⟨.hbm, 281, rfl⟩
abbrev main_v111 : Ref sig .tc := ⟨.hbm, 282, rfl⟩
abbrev main_c_25 : Ref sig .tc := ⟨.hbm, 283, rfl⟩
abbrev main_v112 : Ref sig .tc := ⟨.hbm, 284, rfl⟩
abbrev main_v113 : Ref sig .tc := ⟨.hbm, 285, rfl⟩
abbrev main_call11_v0 : Ref sig .tc := ⟨.hbm, 286, rfl⟩
abbrev main_call11_v1 : Ref sig .tc := ⟨.hbm, 287, rfl⟩
abbrev main_call11_v2 : Ref sig .tc := ⟨.hbm, 288, rfl⟩
abbrev main_call11_v3 : Ref sig .tc := ⟨.hbm, 289, rfl⟩
abbrev main_call11_v4 : Ref sig .tc := ⟨.hbm, 290, rfl⟩
abbrev main_call11_c : Ref sig .tc := ⟨.hbm, 291, rfl⟩
abbrev main_call11_v5 : Ref sig .tc := ⟨.hbm, 292, rfl⟩
abbrev main_call11_v6 : Ref sig .tc := ⟨.hbm, 293, rfl⟩
abbrev main_call11_v7 : Ref sig .tc := ⟨.hbm, 294, rfl⟩
abbrev main_call11_c_0 : Ref sig .tc := ⟨.hbm, 295, rfl⟩
abbrev main_call11_v8 : Ref sig .tc := ⟨.hbm, 296, rfl⟩
abbrev main_call11_v9 : Ref sig .tc := ⟨.hbm, 297, rfl⟩
abbrev main_v114 : Ref sig .tc := ⟨.hbm, 298, rfl⟩
abbrev main_v115 : Ref sig .tc := ⟨.hbm, 299, rfl⟩
abbrev main_c_26 : Ref sig .tc := ⟨.hbm, 300, rfl⟩
abbrev main_v116 : Ref sig .tc := ⟨.hbm, 301, rfl⟩
abbrev main_v117 : Ref sig .tc := ⟨.hbm, 302, rfl⟩
abbrev main_call12_v0 : Ref sig .tc := ⟨.hbm, 303, rfl⟩
abbrev main_call12_v1 : Ref sig .tc := ⟨.hbm, 304, rfl⟩
abbrev main_call12_v2 : Ref sig .tc := ⟨.hbm, 305, rfl⟩
abbrev main_call12_v3 : Ref sig .tc := ⟨.hbm, 306, rfl⟩
abbrev main_call12_v4 : Ref sig .tc := ⟨.hbm, 307, rfl⟩
abbrev main_call12_c : Ref sig .tc := ⟨.hbm, 308, rfl⟩
abbrev main_call12_v5 : Ref sig .tc := ⟨.hbm, 309, rfl⟩
abbrev main_call12_v6 : Ref sig .tc := ⟨.hbm, 310, rfl⟩
abbrev main_call12_v7 : Ref sig .tc := ⟨.hbm, 311, rfl⟩
abbrev main_call12_c_0 : Ref sig .tc := ⟨.hbm, 312, rfl⟩
abbrev main_call12_v8 : Ref sig .tc := ⟨.hbm, 313, rfl⟩
abbrev main_call12_v9 : Ref sig .tc := ⟨.hbm, 314, rfl⟩
abbrev main_v118 : Ref sig .tc := ⟨.hbm, 315, rfl⟩
abbrev main_v119 : Ref sig .tc := ⟨.hbm, 316, rfl⟩
abbrev main_c_27 : Ref sig .tc := ⟨.hbm, 317, rfl⟩
abbrev main_v120 : Ref sig .tc := ⟨.hbm, 318, rfl⟩
abbrev main_v121 : Ref sig .tc := ⟨.hbm, 319, rfl⟩
abbrev main_call13_v0 : Ref sig .tc := ⟨.hbm, 320, rfl⟩
abbrev main_call13_v1 : Ref sig .tc := ⟨.hbm, 321, rfl⟩
abbrev main_call13_v2 : Ref sig .tc := ⟨.hbm, 322, rfl⟩
abbrev main_call13_v3 : Ref sig .tc := ⟨.hbm, 323, rfl⟩
abbrev main_call13_v4 : Ref sig .tc := ⟨.hbm, 324, rfl⟩
abbrev main_call13_c : Ref sig .tc := ⟨.hbm, 325, rfl⟩
abbrev main_call13_v5 : Ref sig .tc := ⟨.hbm, 326, rfl⟩
abbrev main_call13_v6 : Ref sig .tc := ⟨.hbm, 327, rfl⟩
abbrev main_call13_v7 : Ref sig .tc := ⟨.hbm, 328, rfl⟩
abbrev main_call13_c_0 : Ref sig .tc := ⟨.hbm, 329, rfl⟩
abbrev main_call13_v8 : Ref sig .tc := ⟨.hbm, 330, rfl⟩
abbrev main_call13_v9 : Ref sig .tc := ⟨.hbm, 331, rfl⟩
abbrev main_v122 : Ref sig .tc := ⟨.hbm, 332, rfl⟩
abbrev main_v123 : Ref sig .tc := ⟨.hbm, 333, rfl⟩
abbrev main_c_28 : Ref sig .tc := ⟨.hbm, 334, rfl⟩
abbrev main_v124 : Ref sig .tc := ⟨.hbm, 335, rfl⟩
abbrev main_v125 : Ref sig .tc := ⟨.hbm, 336, rfl⟩
abbrev main_call14_v0 : Ref sig .tc := ⟨.hbm, 337, rfl⟩
abbrev main_call14_v1 : Ref sig .tc := ⟨.hbm, 338, rfl⟩
abbrev main_call14_v2 : Ref sig .tc := ⟨.hbm, 339, rfl⟩
abbrev main_call14_v3 : Ref sig .tc := ⟨.hbm, 340, rfl⟩
abbrev main_call14_v4 : Ref sig .tc := ⟨.hbm, 341, rfl⟩
abbrev main_call14_c : Ref sig .tc := ⟨.hbm, 342, rfl⟩
abbrev main_call14_v5 : Ref sig .tc := ⟨.hbm, 343, rfl⟩
abbrev main_call14_v6 : Ref sig .tc := ⟨.hbm, 344, rfl⟩
abbrev main_call14_v7 : Ref sig .tc := ⟨.hbm, 345, rfl⟩
abbrev main_call14_c_0 : Ref sig .tc := ⟨.hbm, 346, rfl⟩
abbrev main_call14_v8 : Ref sig .tc := ⟨.hbm, 347, rfl⟩
abbrev main_call14_v9 : Ref sig .tc := ⟨.hbm, 348, rfl⟩
abbrev main_v126 : Ref sig .tc := ⟨.hbm, 349, rfl⟩
abbrev main_v127 : Ref sig .tc := ⟨.hbm, 350, rfl⟩
abbrev main_c_29 : Ref sig .tc := ⟨.hbm, 351, rfl⟩
abbrev main_v128 : Ref sig .tc := ⟨.hbm, 352, rfl⟩
abbrev main_v129 : Ref sig .tc := ⟨.hbm, 353, rfl⟩
abbrev main_call15_v0 : Ref sig .tc := ⟨.hbm, 354, rfl⟩
abbrev main_call15_v1 : Ref sig .tc := ⟨.hbm, 355, rfl⟩
abbrev main_call15_v2 : Ref sig .tc := ⟨.hbm, 356, rfl⟩
abbrev main_call15_v3 : Ref sig .tc := ⟨.hbm, 357, rfl⟩
abbrev main_call15_v4 : Ref sig .tc := ⟨.hbm, 358, rfl⟩
abbrev main_call15_c : Ref sig .tc := ⟨.hbm, 359, rfl⟩
abbrev main_call15_v5 : Ref sig .tc := ⟨.hbm, 360, rfl⟩
abbrev main_call15_v6 : Ref sig .tc := ⟨.hbm, 361, rfl⟩
abbrev main_call15_v7 : Ref sig .tc := ⟨.hbm, 362, rfl⟩
abbrev main_call15_c_0 : Ref sig .tc := ⟨.hbm, 363, rfl⟩
abbrev main_call15_v8 : Ref sig .tc := ⟨.hbm, 364, rfl⟩
abbrev main_call15_v9 : Ref sig .tc := ⟨.hbm, 365, rfl⟩
abbrev main_v130 : Ref sig .tc := ⟨.hbm, 366, rfl⟩
abbrev main_v131 : Ref sig .tc := ⟨.hbm, 367, rfl⟩
abbrev main_c_30 : Ref sig .tc := ⟨.hbm, 368, rfl⟩
abbrev main_v132 : Ref sig .tc := ⟨.hbm, 369, rfl⟩
abbrev main_v133 : Ref sig .tc := ⟨.hbm, 370, rfl⟩
abbrev main_call16_v0 : Ref sig .tc := ⟨.hbm, 371, rfl⟩
abbrev main_call16_v1 : Ref sig .tc := ⟨.hbm, 372, rfl⟩
abbrev main_call16_v2 : Ref sig .tc := ⟨.hbm, 373, rfl⟩
abbrev main_call16_v3 : Ref sig .tc := ⟨.hbm, 374, rfl⟩
abbrev main_call16_v4 : Ref sig .tc := ⟨.hbm, 375, rfl⟩
abbrev main_call16_c : Ref sig .tc := ⟨.hbm, 376, rfl⟩
abbrev main_call16_v5 : Ref sig .tc := ⟨.hbm, 377, rfl⟩
abbrev main_call16_v6 : Ref sig .tc := ⟨.hbm, 378, rfl⟩
abbrev main_call16_v7 : Ref sig .tc := ⟨.hbm, 379, rfl⟩
abbrev main_call16_c_0 : Ref sig .tc := ⟨.hbm, 380, rfl⟩
abbrev main_call16_v8 : Ref sig .tc := ⟨.hbm, 381, rfl⟩
abbrev main_call16_v9 : Ref sig .tc := ⟨.hbm, 382, rfl⟩
abbrev main_v134 : Ref sig .tc := ⟨.hbm, 383, rfl⟩
abbrev main_v135 : Ref sig .tc := ⟨.hbm, 384, rfl⟩
abbrev main_c_31 : Ref sig .tc := ⟨.hbm, 385, rfl⟩
abbrev main_v136 : Ref sig .tc := ⟨.hbm, 386, rfl⟩
abbrev main_v137 : Ref sig .tc := ⟨.hbm, 387, rfl⟩
abbrev main_call17_v0 : Ref sig .tc := ⟨.hbm, 388, rfl⟩
abbrev main_call17_v1 : Ref sig .tc := ⟨.hbm, 389, rfl⟩
abbrev main_call17_v2 : Ref sig .tc := ⟨.hbm, 390, rfl⟩
abbrev main_call17_v3 : Ref sig .tc := ⟨.hbm, 391, rfl⟩
abbrev main_call17_v4 : Ref sig .tc := ⟨.hbm, 392, rfl⟩
abbrev main_call17_c : Ref sig .tc := ⟨.hbm, 393, rfl⟩
abbrev main_call17_v5 : Ref sig .tc := ⟨.hbm, 394, rfl⟩
abbrev main_call17_v6 : Ref sig .tc := ⟨.hbm, 395, rfl⟩
abbrev main_call17_v7 : Ref sig .tc := ⟨.hbm, 396, rfl⟩
abbrev main_call17_c_0 : Ref sig .tc := ⟨.hbm, 397, rfl⟩
abbrev main_call17_v8 : Ref sig .tc := ⟨.hbm, 398, rfl⟩
abbrev main_call17_v9 : Ref sig .tc := ⟨.hbm, 399, rfl⟩
abbrev main_v138 : Ref sig .tc := ⟨.hbm, 400, rfl⟩
abbrev main_v139 : Ref sig .tc := ⟨.hbm, 401, rfl⟩
abbrev main_c_32 : Ref sig .tc := ⟨.hbm, 402, rfl⟩
abbrev main_v140 : Ref sig .tc := ⟨.hbm, 403, rfl⟩
abbrev main_v141 : Ref sig .tc := ⟨.hbm, 404, rfl⟩
abbrev main_call18_v0 : Ref sig .tc := ⟨.hbm, 405, rfl⟩
abbrev main_call18_v1 : Ref sig .tc := ⟨.hbm, 406, rfl⟩
abbrev main_call18_v2 : Ref sig .tc := ⟨.hbm, 407, rfl⟩
abbrev main_call18_v3 : Ref sig .tc := ⟨.hbm, 408, rfl⟩
abbrev main_call18_v4 : Ref sig .tc := ⟨.hbm, 409, rfl⟩
abbrev main_call18_c : Ref sig .tc := ⟨.hbm, 410, rfl⟩
abbrev main_call18_v5 : Ref sig .tc := ⟨.hbm, 411, rfl⟩
abbrev main_call18_v6 : Ref sig .tc := ⟨.hbm, 412, rfl⟩
abbrev main_call18_v7 : Ref sig .tc := ⟨.hbm, 413, rfl⟩
abbrev main_call18_c_0 : Ref sig .tc := ⟨.hbm, 414, rfl⟩
abbrev main_call18_v8 : Ref sig .tc := ⟨.hbm, 415, rfl⟩
abbrev main_call18_v9 : Ref sig .tc := ⟨.hbm, 416, rfl⟩
abbrev main_v142 : Ref sig .tc := ⟨.hbm, 417, rfl⟩
abbrev main_v143 : Ref sig .tc := ⟨.hbm, 418, rfl⟩
abbrev main_c_33 : Ref sig .tc := ⟨.hbm, 419, rfl⟩
abbrev main_v144 : Ref sig .tc := ⟨.hbm, 420, rfl⟩
abbrev main_v145 : Ref sig .tc := ⟨.hbm, 421, rfl⟩
abbrev main_call19_v0 : Ref sig .tc := ⟨.hbm, 422, rfl⟩
abbrev main_call19_v1 : Ref sig .tc := ⟨.hbm, 423, rfl⟩
abbrev main_call19_v2 : Ref sig .tc := ⟨.hbm, 424, rfl⟩
abbrev main_call19_v3 : Ref sig .tc := ⟨.hbm, 425, rfl⟩
abbrev main_call19_v4 : Ref sig .tc := ⟨.hbm, 426, rfl⟩
abbrev main_call19_c : Ref sig .tc := ⟨.hbm, 427, rfl⟩
abbrev main_call19_v5 : Ref sig .tc := ⟨.hbm, 428, rfl⟩
abbrev main_call19_v6 : Ref sig .tc := ⟨.hbm, 429, rfl⟩
abbrev main_call19_v7 : Ref sig .tc := ⟨.hbm, 430, rfl⟩
abbrev main_call19_c_0 : Ref sig .tc := ⟨.hbm, 431, rfl⟩
abbrev main_call19_v8 : Ref sig .tc := ⟨.hbm, 432, rfl⟩
abbrev main_call19_v9 : Ref sig .tc := ⟨.hbm, 433, rfl⟩
abbrev main_v146 : Ref sig .tc := ⟨.hbm, 434, rfl⟩
abbrev main_v147 : Ref sig .tc := ⟨.hbm, 435, rfl⟩
abbrev main_c_34 : Ref sig .tc := ⟨.hbm, 436, rfl⟩
abbrev main_v148 : Ref sig .tc := ⟨.hbm, 437, rfl⟩
abbrev main_v149 : Ref sig .tc := ⟨.hbm, 438, rfl⟩
abbrev main_call20_v0 : Ref sig .tc := ⟨.hbm, 439, rfl⟩
abbrev main_call20_v1 : Ref sig .tc := ⟨.hbm, 440, rfl⟩
abbrev main_call20_v2 : Ref sig .tc := ⟨.hbm, 441, rfl⟩
abbrev main_call20_v3 : Ref sig .tc := ⟨.hbm, 442, rfl⟩
abbrev main_call20_v4 : Ref sig .tc := ⟨.hbm, 443, rfl⟩
abbrev main_call20_c : Ref sig .tc := ⟨.hbm, 444, rfl⟩
abbrev main_call20_v5 : Ref sig .tc := ⟨.hbm, 445, rfl⟩
abbrev main_call20_v6 : Ref sig .tc := ⟨.hbm, 446, rfl⟩
abbrev main_call20_v7 : Ref sig .tc := ⟨.hbm, 447, rfl⟩
abbrev main_call20_c_0 : Ref sig .tc := ⟨.hbm, 448, rfl⟩
abbrev main_call20_v8 : Ref sig .tc := ⟨.hbm, 449, rfl⟩
abbrev main_call20_v9 : Ref sig .tc := ⟨.hbm, 450, rfl⟩
abbrev main_v150 : Ref sig .tc := ⟨.hbm, 451, rfl⟩
abbrev main_v151 : Ref sig .tc := ⟨.hbm, 452, rfl⟩
abbrev main_c_35 : Ref sig .tc := ⟨.hbm, 453, rfl⟩
abbrev main_v152 : Ref sig .tc := ⟨.hbm, 454, rfl⟩
abbrev main_v153 : Ref sig .tc := ⟨.hbm, 455, rfl⟩
abbrev main_c_36 : Ref sig .tc := ⟨.hbm, 456, rfl⟩
abbrev main_v154 : Ref sig .tc := ⟨.hbm, 457, rfl⟩
abbrev main_v155 : Ref sig .tc := ⟨.hbm, 458, rfl⟩
abbrev main_v156 : Ref sig .tc := ⟨.hbm, 459, rfl⟩
abbrev main_c_37 : Ref sig .tc := ⟨.hbm, 460, rfl⟩
abbrev main_v157 : Ref sig .tc := ⟨.hbm, 461, rfl⟩
abbrev main_v158 : Ref sig .tc := ⟨.hbm, 462, rfl⟩
abbrev main_c_38 : Ref sig .tc := ⟨.hbm, 463, rfl⟩
abbrev main_call21_v0 : Ref sig .tc := ⟨.hbm, 464, rfl⟩
abbrev main_call21_v1 : Ref sig .tc := ⟨.hbm, 465, rfl⟩
abbrev main_call21_v2 : Ref sig .tc := ⟨.hbm, 466, rfl⟩
abbrev main_call21_v3 : Ref sig .tc := ⟨.hbm, 467, rfl⟩
abbrev main_call21_v4 : Ref sig .tc := ⟨.hbm, 468, rfl⟩
abbrev main_call21_v5 : Ref sig .tc := ⟨.hbm, 469, rfl⟩
abbrev main_call21_v6 : Ref sig .tc := ⟨.hbm, 470, rfl⟩
abbrev main_call21_v7 : Ref sig .tc := ⟨.hbm, 471, rfl⟩
abbrev main_call21_c : Ref sig .tc := ⟨.hbm, 472, rfl⟩
abbrev main_call21_v8 : Ref sig .tc := ⟨.hbm, 473, rfl⟩
abbrev main_call21_v9 : Ref sig .tc := ⟨.hbm, 474, rfl⟩
abbrev main_call21_v10 : Ref sig .tc := ⟨.hbm, 475, rfl⟩
abbrev main_call21_c_0 : Ref sig .tc := ⟨.hbm, 476, rfl⟩
abbrev main_call21_v11 : Ref sig .tc := ⟨.hbm, 477, rfl⟩
abbrev main_call21_v12 : Ref sig .tc := ⟨.hbm, 478, rfl⟩
abbrev main_v159 : Ref sig .tc := ⟨.hbm, 479, rfl⟩
abbrev main_c_39 : Ref sig .tc := ⟨.hbm, 480, rfl⟩
abbrev main_call22_v0 : Ref sig .tc := ⟨.hbm, 481, rfl⟩
abbrev main_call22_v1 : Ref sig .tc := ⟨.hbm, 482, rfl⟩
abbrev main_v160 : Ref sig .tc := ⟨.hbm, 483, rfl⟩
abbrev main_v161 : Ref sig .tc := ⟨.hbm, 484, rfl⟩
abbrev main_v162 : Ref sig .tc := ⟨.hbm, 485, rfl⟩
abbrev main_c_40 : Ref sig .tc := ⟨.hbm, 486, rfl⟩
abbrev main_v163 : Ref sig .tc := ⟨.hbm, 487, rfl⟩
abbrev main_v164 : Ref sig .tc := ⟨.hbm, 488, rfl⟩
abbrev main_c_41 : Ref sig .tc := ⟨.hbm, 489, rfl⟩
abbrev main_v165 : Ref sig .tc := ⟨.hbm, 490, rfl⟩
abbrev main_v166 : Ref sig .tc := ⟨.hbm, 491, rfl⟩
abbrev main_c_42 : Ref sig .tc := ⟨.hbm, 492, rfl⟩
abbrev main_v167 : Ref sig .tc := ⟨.hbm, 493, rfl⟩
abbrev main_v168 : Ref sig .tc := ⟨.hbm, 494, rfl⟩
abbrev main_c_43 : Ref sig .tc := ⟨.hbm, 495, rfl⟩
abbrev main_v169 : Ref sig .tc := ⟨.hbm, 496, rfl⟩
abbrev main_v170 : Ref sig .tc := ⟨.hbm, 497, rfl⟩
abbrev main_c_44 : Ref sig .tc := ⟨.hbm, 498, rfl⟩
abbrev main_v171 : Ref sig .tc := ⟨.hbm, 499, rfl⟩
abbrev main_v172 : Ref sig .tc := ⟨.hbm, 500, rfl⟩
abbrev main_c_45 : Ref sig .tc := ⟨.hbm, 501, rfl⟩
abbrev main_v173 : Ref sig .tc := ⟨.hbm, 502, rfl⟩
abbrev main_v174 : Ref sig .tc := ⟨.hbm, 503, rfl⟩
abbrev main_v175 : Ref sig .tc := ⟨.hbm, 504, rfl⟩
abbrev main_v176 : Ref sig .tc := ⟨.hbm, 505, rfl⟩
abbrev main_v177 : Ref sig .tc := ⟨.hbm, 506, rfl⟩
abbrev main_v178 : Ref sig .tc := ⟨.hbm, 507, rfl⟩
abbrev main_v179 : Ref sig .tc := ⟨.hbm, 508, rfl⟩
abbrev main_v180 : Ref sig .tc := ⟨.hbm, 509, rfl⟩
abbrev main_v181 : Ref sig .tc := ⟨.hbm, 510, rfl⟩
abbrev main_v182 : Ref sig .tc := ⟨.hbm, 511, rfl⟩
abbrev main_v183 : Ref sig .tc := ⟨.hbm, 512, rfl⟩
abbrev main_v184 : Ref sig .tc := ⟨.hbm, 513, rfl⟩
abbrev main_v185 : Ref sig .tc := ⟨.hbm, 514, rfl⟩
abbrev main_v186 : Ref sig .tc := ⟨.hbm, 515, rfl⟩
abbrev main_v187 : Ref sig .tc := ⟨.hbm, 516, rfl⟩
abbrev main_v188 : Ref sig .tc := ⟨.hbm, 517, rfl⟩
abbrev main_v189 : Ref sig .tc := ⟨.hbm, 518, rfl⟩
abbrev main_v190 : Ref sig .tc := ⟨.hbm, 519, rfl⟩
abbrev main_v191 : Ref sig .tc := ⟨.hbm, 520, rfl⟩
abbrev main_v192 : Ref sig .tc := ⟨.hbm, 521, rfl⟩
abbrev main_v193 : Ref sig .tc := ⟨.hbm, 522, rfl⟩
abbrev main_v194 : Ref sig .tc := ⟨.hbm, 523, rfl⟩
abbrev main_v195 : Ref sig .tc := ⟨.hbm, 524, rfl⟩
abbrev main_v196 : Ref sig .tc := ⟨.hbm, 525, rfl⟩
abbrev main_v197 : Ref sig .tc := ⟨.hbm, 526, rfl⟩
abbrev main_v198 : Ref sig .tc := ⟨.hbm, 527, rfl⟩
abbrev main_v199 : Ref sig .tc := ⟨.hbm, 528, rfl⟩
abbrev main_v200 : Ref sig .tc := ⟨.hbm, 529, rfl⟩
abbrev main_c_46 : Ref sig .tc := ⟨.hbm, 530, rfl⟩
abbrev main_c_47 : Ref sig .tc := ⟨.hbm, 531, rfl⟩
abbrev main_call23_v0 : Ref sig .tc := ⟨.hbm, 532, rfl⟩
abbrev main_call23_v1 : Ref sig .tc := ⟨.hbm, 533, rfl⟩
abbrev main_call23_v2 : Ref sig .tc := ⟨.hbm, 534, rfl⟩
abbrev main_call23_v3 : Ref sig .tc := ⟨.hbm, 535, rfl⟩
abbrev main_call23_v4 : Ref sig .tc := ⟨.hbm, 536, rfl⟩
abbrev main_v201 : Ref sig .tc := ⟨.hbm, 537, rfl⟩
abbrev main_v202 : Ref sig .tc := ⟨.hbm, 538, rfl⟩
abbrev main_v203 : Ref sig .tc := ⟨.hbm, 539, rfl⟩

abbrev nD : Nat := 1
abbrev τ : Topo := Topo.v7x

variable {F : FTy → Type} [FloatOps F]
-- ==== Proof.Call1.lean ====
/- The first call at any contents of the buffers: what each grid point reads and leaves, and that the body does so. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when a call is entered
variable (V : (c : Dev nD) → (b : Ref sig .tc) → Buf (Elt F) ((c : Thread nD τ).loc b))

/-! # The first call, entered with the buffers holding `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, for any proof data over `V` whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current buffer holds its block at every point, for any proof data over `V` whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current buffer holds its block at every point, for any proof data over `V` whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current buffer holds its block at every point, for any proof data over `V` whose body leaves
    the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current buffer holds its block at every point, for any proof data over `V` whose body leaves
    the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x2880 := Rect.unit (s := S256x2880) ![0, 0] S256x2880.size inb_S256x2880_S256x2880_0_0
abbrev r0_1 : Rect S2880x768 := Rect.unit (s := S2880x768) ![0, 0] S2880x768.size inb_S2880x768_S2880x768_0_0
abbrev r0_2 : Rect S1x768 := Rect.unit (s := S1x768) ![0, 0] S1x768.size inb_S1x768_S1x768_0_0
abbrev r0_3 : Rect S256x768 := Rect.unit (s := S256x768) ![0, 0] S256x768.size inb_S256x768_S256x768_0_0

/-! ## What the body leaves in each output window's buffer -/

/-! ### Values of the body that the stores' payloads, spelt out, would write more than once

    Each is a vector the body binds, as a function of the input windows' blocks, so that the values after it
    name it instead of spelling it out. The comment after each is the body's own name for the value. -/

def k0_pay12 (x0 : Vec F S256x2880 .i8) (x1 : Vec F S2880x768 .i8) (x2 : Vec F S1x768 .i32) (x3 : Vec F S1x768 .i32) (x4 : Vec F S1x768 .i32) : IVec S256x768 32 :=
  k0_pay2 (View.ld x0 r0_0) (View.ld x1 r0_1) (View.ld x2 r0_2) -- `v27`
def k0_pay13 (x0 : Vec F S256x2880 .i8) (x1 : Vec F S2880x768 .i8) (x2 : Vec F S1x768 .i32) (x3 : Vec F S1x768 .i32) (x4 : Vec F S1x768 .i32) : IVec S1x768 32 :=
  k0_pay3 (View.ld x3 r0_2) -- `v29`
def k0_pay14 (x0 : Vec F S256x2880 .i8) (x1 : Vec F S2880x768 .i8) (x2 : Vec F S1x768 .i32) (x3 : Vec F S1x768 .i32) (x4 : Vec F S1x768 .i32) : IVec S1x768 32 :=
  k0_pay4 (View.ld x4 r0_2) -- `v31`
def k0_pay15 (x0 : Vec F S256x2880 .i8) (x1 : Vec F S2880x768 .i8) (x2 : Vec F S1x768 .i32) (x3 : Vec F S1x768 .i32) (x4 : Vec F S1x768 .i32) : IVec S1x768 32 :=
  k0_pay5 (View.ld x4 r0_2) -- `v33`
def k0_pay16 (x0 : Vec F S256x2880 .i8) (x1 : Vec F S2880x768 .i8) (x2 : Vec F S1x768 .i32) (x3 : Vec F S1x768 .i32) (x4 : Vec F S1x768 .i32) : IVec S1x768 32 :=
  k0_pay6 (View.ld x4 r0_2) -- `v37`
def k0_pay17 (x0 : Vec F S256x2880 .i8) (x1 : Vec F S2880x768 .i8) (x2 : Vec F S1x768 .i32) (x3 : Vec F S1x768 .i32) (x4 : Vec F S1x768 .i32) : IVec S1x768 32 :=
  k0_pay7 (View.ld x4 r0_2) -- `v39`
def k0_pay18 (x0 : Vec F S256x2880 .i8) (x1 : Vec F S2880x768 .i8) (x2 : Vec F S1x768 .i32) (x3 : Vec F S1x768 .i32) (x4 : Vec F S1x768 .i32) : IVec S1x768 32 :=
  k0_pay8 -- `v40`

/-- Window 5's staging buffer after the body, from the input windows' blocks: its 1 store as pieces, LAST
    FIRST (`View.canon`; the payloads are the ones stated above). -/
def out0_5 (x0 : Vec F S256x2880 .i8) (x1 : Vec F S2880x768 .i8) (x2 : Vec F S1x768 .i32) (x3 : Vec F S1x768 .i32) (x4 : Vec F S1x768 .i32) : Vec F S256x768 .i16 :=
  View.canon [⟨r0_3, k0_pay10 (k0_pay12 x0 x1 x2 x3 x4) (k0_pay13 x0 x1 x2 x3 x4) (k0_pay14 x0 x1 x2 x3 x4) (k0_pay15 x0 x1 x2 x3 x4) (k0_pay16 x0 x1 x2 x3 x4) (k0_pay17 x0 x1 x2 x3 x4) (k0_pay18 x0 x1 x2 x3 x4)⟩]

/-- Its stores tile the buffer (checked by evaluation), so they cover it. -/
theorem cover0_5 (p0 : Vec F S256x768 .i16) (y : S256x768.Idx) :
    ∃ pc ∈ ([⟨r0_3, p0⟩] : List (View.Piece (Elt F) S256x768 .i16)), y ∈ pc.1.set :=
  View.cover_of_tiled [⟨r0_3, p0⟩] S256x768.size (by rfl) y

/-- Window 6's staging buffer after the body, from the input windows' blocks: its 1 store as pieces, LAST
    FIRST (`View.canon`; the payloads are the ones stated above). -/
def out0_6 (x0 : Vec F S256x2880 .i8) (x1 : Vec F S2880x768 .i8) (x2 : Vec F S1x768 .i32) (x3 : Vec F S1x768 .i32) (x4 : Vec F S1x768 .i32) : Vec F S256x768 .i8 :=
  View.canon [⟨r0_3, k0_pay1 (k0_pay11 (F := F) (k0_pay12 x0 x1 x2 x3 x4) (k0_pay13 x0 x1 x2 x3 x4) (k0_pay14 x0 x1 x2 x3 x4) (k0_pay15 x0 x1 x2 x3 x4) (k0_pay16 x0 x1 x2 x3 x4) (k0_pay17 x0 x1 x2 x3 x4) (k0_pay18 x0 x1 x2 x3 x4))⟩]

/-- Its stores tile the buffer (checked by evaluation), so they cover it. -/
theorem cover0_6 (p0 : Vec F S256x768 .i8) (y : S256x768.Idx) :
    ∃ pc ∈ ([⟨r0_3, p0⟩] : List (View.Piece (Elt F) S256x768 .i8)), y ∈ pc.1.set :=
  View.cover_of_tiled [⟨r0_3, p0⟩] S256x768.size (by rfl) y

/-! ## The body's triple -/

set_option maxHeartbeats 1000000 in
/-- The kernel body on whole staging memrefs, the inputs' at read contents `xW` and the outputs' at anything, runs to
    the continuation holding the inputs' as they were and each output's at `out0_W` of the inputs': the body is
    run operation by operation, through every part of it. -/
theorem sound_kernel0 (c : Dev nD) (E : Set ℕ) (i : grid0.Coords) (arg1 : Memref sig .tc .vmem S256x2880 .i8) (harg1 : arg1.IsWhole) (arg2 : Memref sig .tc .vmem S2880x768 .i8) (harg2 : arg2.IsWhole) (arg3 : Memref sig .tc .vmem S1x768 .i32) (harg3 : arg3.IsWhole) (arg4 : Memref sig .tc .vmem S1x768 .i32) (harg4 : arg4.IsWhole) (arg5 : Memref sig .tc .vmem S1x768 .i32) (harg5 : arg5.IsWhole) (arg6 : Memref sig .tc .vmem S256x768 .i16) (harg6 : arg6.IsWhole) (arg7 : Memref sig .tc .vmem S256x768 .i8) (harg7 : arg7.IsWhole)
    (x0 : Vec F S256x2880 .i8) (x1 : Vec F S2880x768 .i8) (x2 : Vec F S1x768 .i32) (x3 : Vec F S1x768 .i32) (x4 : Vec F S1x768 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0_ffn1 i arg1 harg1 arg2 harg2 arg3 harg3 arg4 harg4 arg5 harg5 arg6 harg6 arg7 harg7) K := by
  simp only [cc0_ffn1_eq_skeleton]; unfold cc0_ffn1_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _)).trans ?_
    rfl
  iexists _; isplitr
  swap; · iexact H6
  ipureintro
  refine (View.read_writes_eq_canon _ _ _ (cover0_6 _)).trans ?_
  rfl

/-! ## The pipeline's proof data -/

/-- The proof data of pipeline 0 on core `c`: the arrays as the region finds them (`V`); after the body at
    point `t` each input's buffer at its block and each output's at `out0_W` of the input blocks; the invariant is
    that the buffers of no window and the generator register are untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (`BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Calls

end
-- ==== Proof.Call2.lean ====
/- The second call at any contents of the buffers: what each grid point reads and leaves, the accumulator carried between points, and that the body does so. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when a call is entered
variable (V : (c : Dev nD) → (b : Ref sig .tc) → Buf (Elt F) ((c : Thread nD τ).loc b))

/-! # The second call, entered with the buffers holding `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, for any proof data over `V` whose body leaves
    the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current buffer holds its block at every point, for any proof data over `V` whose body leaves
    the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current buffer holds its block at every point, for any proof data over `V` whose body leaves
    the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current buffer holds its block at every point, for any proof data over `V` whose body leaves
    the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current buffer holds its block at every point, for any proof data over `V` whose body leaves
    the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current buffer holds its block at every point, for any proof data over `V` whose body leaves
    the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current buffer holds its block at every point, for any proof data over `V` whose body leaves
    the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current buffer holds its block at every point, for any proof data over `V` whose body leaves
    the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current buffer holds its block at every point, for any proof data over `V` whose body leaves
    the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates. -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 10 = 0 :=
  (fun t => by
    have ht : t.val < 10 := Nat.lt_of_lt_of_eq t.isLt N_1
    have e0 : (grid1.coords t 0).val = t.val / 1 % 10 := Pipeline.Grid.coords_val t 0 (by decide) rfl
    simp only [cond1_0, e0]
    word_cmp
   : ∀ t : Fin grid1.N, cond1_0 (grid1.coords t) ↔ t.val % 10 = 0)

/-- The condition of the body's `scf.if` 1 (`k1_h2`), from the grid coordinates. -/
abbrev cond1_1 (i : grid1.Coords) : Prop := k1_cond2 i = 1#1
/-- It holds at the last point only — by arithmetic of the point. -/
theorem hcond1_1 : ∀ t : Fin cfg1.N, cond1_1 (grid1.coords t) ↔ t.val % 10 = 9 :=
  (fun t => by
    have ht : t.val < 10 := Nat.lt_of_lt_of_eq t.isLt N_1
    have e0 : (grid1.coords t 0).val = t.val / 1 % 10 := Pipeline.Grid.coords_val t 0 (by decide) rfl
    simp only [cond1_1, k1_cond2, e0]
    word_cmp
   : ∀ t : Fin grid1.N, cond1_1 (grid1.coords t) ↔ t.val % 10 = 9)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 7 is never idle (an input). -/
theorem liveAt1_7 : ∀ t : Fin cfg1.N, cfg1.idle 7 (grid1.coords t) = false := fun _ => rfl
/-- Window 8 is never idle (an input). -/
theorem liveAt1_8 : ∀ t : Fin cfg1.N, cfg1.idle 8 (grid1.coords t) = false := fun _ => rfl
/-- At the points of case A the printed configuration (`Cfg.idle`) calls output 9 idle: the case stores nothing into it. -/
theorem idleAt1_9_A : ∀ t : Fin cfg1.N, cond1_0 (grid1.coords t) → ¬cond1_1 (grid1.coords t) → cfg1.idle 9 (grid1.coords t) = true := by decide +kernel
/-- At the points of case A the pipeline does not write output 9's block back. -/
theorem noFlush1_9_A : ∀ t : Fin cfg1.N, cond1_0 (grid1.coords t) → ¬cond1_1 (grid1.coords t) → (cfg1.win 9).flush t = false := by decide +kernel
/-- At the points of case B the printed configuration (`Cfg.idle`) calls output 9 idle: the case stores nothing into it. -/
theorem idleAt1_9_B : ∀ t : Fin cfg1.N, ¬cond1_0 (grid1.coords t) → ¬cond1_1 (grid1.coords t) → cfg1.idle 9 (grid1.coords t) = true := by decide +kernel
/-- At the points of case B the pipeline does not write output 9's block back. -/
theorem noFlush1_9_B : ∀ t : Fin cfg1.N, ¬cond1_0 (grid1.coords t) → ¬cond1_1 (grid1.coords t) → (cfg1.win 9).flush t = false := by decide +kernel
/-- At the points of case C the printed configuration (`Cfg.idle`) calls output 9 live: the case stores into it. -/
theorem liveAt1_9_C : ∀ t : Fin cfg1.N, ¬cond1_0 (grid1.coords t) → cond1_1 (grid1.coords t) → cfg1.idle 9 (grid1.coords t) = false := by decide +kernel

/-! ## The kernel body on any staging memrefs: a subtype the run finds -/

/-- One staging buffer of output window 9, through which its contents are stated (`View.read_writes_of_cover`: the
    choice does not matter). -/
abbrev VO1_9 : View sig .tc .vmem S256x2880 .i8 := (Memref.whole cc1_stg9_0 : Memref sig .tc .vmem S256x2880 .i8).view
/-- Each window's current staging memref at point `t`, spelled as the pipeline passes it (`bodyAt1`), and its wholeness. -/
abbrev ms1_0 (t : Fin cfg1.N) : Memref sig .tc .vmem S256x768 .i8 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S768x2880 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2880 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2880 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2880 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2880 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x2880 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2880 .i32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x2880 .i32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x2880 .i8 := win1_9.stage (cfg1.slots t 9)
abbrev hs1_9 (t : Fin cfg1.N) : (ms1_9 t).IsWhole := hstage1_9 ((cfg1.slots t 9).cast nbuf1_9)
/-- The scratch operands: whole scoped buffers of the kernel's own, passed beside the windows. -/
abbrev scM1_0 : Memref sig .tc .vmem S256x2880 .i32 := Memref.whole cc1_scratch0
/-- The scratch `arg11` the kernel carries between points, as a view: what it holds is stated through it. -/
abbrev VS1_0 : View sig .tc .vmem S256x2880 .i32 := scM1_0.view

/-- A call's invariant with the scratch operands as memrefs owned at some contents: what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written. The body is run operation by
    operation, each branch decided by the case's hypotheses `hc·`; the pieces are the ones that run finds. -/
noncomputable def kernelRun1_A (c : Dev nD) (i : grid1.Coords) (arg1 : Memref sig .tc .vmem S256x768 .i8) (harg1 : arg1.IsWhole) (arg2 : Memref sig .tc .vmem S768x2880 .i8) (harg2 : arg2.IsWhole) (arg3 : Memref sig .tc .vmem S256x2880 .i8) (harg3 : arg3.IsWhole) (arg4 : Memref sig .tc .vmem S1x2880 .i32) (harg4 : arg4.IsWhole) (arg5 : Memref sig .tc .vmem S1x2880 .i32) (harg5 : arg5.IsWhole) (arg6 : Memref sig .tc .vmem S1x2880 .i32) (harg6 : arg6.IsWhole) (arg7 : Memref sig .tc .vmem S1x2880 .i32) (harg7 : arg7.IsWhole) (arg8 : Memref sig .tc .vmem S1x2880 .i32) (harg8 : arg8.IsWhole) (arg9 : Memref sig .tc .vmem S1x2880 .i32) (harg9 : arg9.IsWhole) (arg10 : Memref sig .tc .vmem S256x2880 .i8) (harg10 : arg10.IsWhole) (arg11 : Memref sig .tc .vmem S256x2880 .i32) (harg11 : arg11.IsWhole) (hc0 : cond1_0 i) (hc1 : ¬cond1_1 i)
    (x0 : Vec F S256x768 .i8) (x1 : Vec F S768x2880 .i8) (x2 : Vec F S256x2880 .i8) (x3 : Vec F S1x2880 .i32) (x4 : Vec F S1x2880 .i32) (x5 : Vec F S1x2880 .i32) (x6 : Vec F S1x2880 .i32) (x7 : Vec F S1x2880 .i32) (x8 : Vec F S1x2880 .i32) :
    Σ' (L9 : List (View.Piece (Elt F) S256x2880 .i8)), { LS0 : List (View.Piece (Elt F) S256x2880 .i32) //
      ∀ (xi9 : Vec F S256x2880 .i8) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc1_ffn2 i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc1_ffn2_eq_skeleton]; unfold cc1_ffn2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS0

/-- Case A stores nothing into output 9 (the window is idle at its points and not written back there):
    no pieces — a placeholder (junk read back) that nothing consults, since at these points the window is neither
    written back nor read at the next point. -/
def out1_A_9 (c : Dev nD) (i : grid1.Coords) (arg1 : Memref sig .tc .vmem S256x768 .i8) (harg1 : arg1.IsWhole) (arg2 : Memref sig .tc .vmem S768x2880 .i8) (harg2 : arg2.IsWhole) (arg3 : Memref sig .tc .vmem S256x2880 .i8) (harg3 : arg3.IsWhole) (arg4 : Memref sig .tc .vmem S1x2880 .i32) (harg4 : arg4.IsWhole) (arg5 : Memref sig .tc .vmem S1x2880 .i32) (harg5 : arg5.IsWhole) (arg6 : Memref sig .tc .vmem S1x2880 .i32) (harg6 : arg6.IsWhole) (arg7 : Memref sig .tc .vmem S1x2880 .i32) (harg7 : arg7.IsWhole) (arg8 : Memref sig .tc .vmem S1x2880 .i32) (harg8 : arg8.IsWhole) (arg9 : Memref sig .tc .vmem S1x2880 .i32) (harg9 : arg9.IsWhole) (arg10 : Memref sig .tc .vmem S256x2880 .i8) (harg10 : arg10.IsWhole) (arg11 : Memref sig .tc .vmem S256x2880 .i32) (harg11 : arg11.IsWhole) (hc0 : cond1_0 i) (hc1 : ¬cond1_1 i)
    (x0 : Vec F S256x768 .i8) (x1 : Vec F S768x2880 .i8) (x2 : Vec F S256x2880 .i8) (x3 : Vec F S1x2880 .i32) (x4 : Vec F S1x2880 .i32) (x5 : Vec F S1x2880 .i32) (x6 : Vec F S1x2880 .i32) (x7 : Vec F S1x2880 .i32) (x8 : Vec F S1x2880 .i32) : Vec F S256x2880 .i8 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).1)

/-- Case A's pieces for scratch `arg11`, which the kernel carries between points, cover it: 2 pieces of `S256x2880` tiling it (`Piece.tiledL`). -/
theorem scover1_A_0 (c : Dev nD) (i : grid1.Coords) (arg1 : Memref sig .tc .vmem S256x768 .i8) (harg1 : arg1.IsWhole) (arg2 : Memref sig .tc .vmem S768x2880 .i8) (harg2 : arg2.IsWhole) (arg3 : Memref sig .tc .vmem S256x2880 .i8) (harg3 : arg3.IsWhole) (arg4 : Memref sig .tc .vmem S1x2880 .i32) (harg4 : arg4.IsWhole) (arg5 : Memref sig .tc .vmem S1x2880 .i32) (harg5 : arg5.IsWhole) (arg6 : Memref sig .tc .vmem S1x2880 .i32) (harg6 : arg6.IsWhole) (arg7 : Memref sig .tc .vmem S1x2880 .i32) (harg7 : arg7.IsWhole) (arg8 : Memref sig .tc .vmem S1x2880 .i32) (harg8 : arg8.IsWhole) (arg9 : Memref sig .tc .vmem S1x2880 .i32) (harg9 : arg9.IsWhole) (arg10 : Memref sig .tc .vmem S256x2880 .i8) (harg10 : arg10.IsWhole) (arg11 : Memref sig .tc .vmem S256x2880 .i32) (harg11 : arg11.IsWhole) (hc0 : cond1_0 i) (hc1 : ¬cond1_1 i)
    (x0 : Vec F S256x768 .i8) (x1 : Vec F S768x2880 .i8) (x2 : Vec F S256x2880 .i8) (x3 : Vec F S1x2880 .i32) (x4 : Vec F S1x2880 .i32) (x5 : Vec F S1x2880 .i32) (x6 : Vec F S1x2880 .i32) (x7 : Vec F S1x2880 .i32) (x8 : Vec F S1x2880 .i32) (y : S256x2880.Idx) :
    ∃ pc ∈ (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1 S256x2880.size (by sl_kernel_rfl) y

/-- What case A leaves in scratch `arg11`: its pieces read back over junk. -/
def sout1_A_0 (c : Dev nD) (i : grid1.Coords) (arg1 : Memref sig .tc .vmem S256x768 .i8) (harg1 : arg1.IsWhole) (arg2 : Memref sig .tc .vmem S768x2880 .i8) (harg2 : arg2.IsWhole) (arg3 : Memref sig .tc .vmem S256x2880 .i8) (harg3 : arg3.IsWhole) (arg4 : Memref sig .tc .vmem S1x2880 .i32) (harg4 : arg4.IsWhole) (arg5 : Memref sig .tc .vmem S1x2880 .i32) (harg5 : arg5.IsWhole) (arg6 : Memref sig .tc .vmem S1x2880 .i32) (harg6 : arg6.IsWhole) (arg7 : Memref sig .tc .vmem S1x2880 .i32) (harg7 : arg7.IsWhole) (arg8 : Memref sig .tc .vmem S1x2880 .i32) (harg8 : arg8.IsWhole) (arg9 : Memref sig .tc .vmem S1x2880 .i32) (harg9 : arg9.IsWhole) (arg10 : Memref sig .tc .vmem S256x2880 .i8) (harg10 : arg10.IsWhole) (arg11 : Memref sig .tc .vmem S256x2880 .i32) (harg11 : arg11.IsWhole) (hc0 : cond1_0 i) (hc1 : ¬cond1_1 i)
    (x0 : Vec F S256x768 .i8) (x1 : Vec F S768x2880 .i8) (x2 : Vec F S256x2880 .i8) (x3 : Vec F S1x2880 .i32) (x4 : Vec F S1x2880 .i32) (x5 : Vec F S1x2880 .i32) (x6 : Vec F S1x2880 .i32) (x7 : Vec F S1x2880 .i32) (x8 : Vec F S1x2880 .i32) : Vec F S256x2880 .i32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg10 harg10 arg11 harg11 hc0 hc1 x0 x1 x2 x3 x4 x5 x6 x7 x8).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 8: 8 of 10), WITH the
    proof that on whole staging memrefs — the inputs' at their contents, the outputs it leaves idle (9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written. The body is run operation by
    operation, each branch decided by the case's hypotheses `hc·`; the pieces are the ones that run finds. -/
noncomputable def kernelRun1_B (c : Dev nD) (i : grid1.Coords) (arg1 : Memref sig .tc .vmem S256x768 .i8) (harg1 : arg1.IsWhole) (arg2 : Memref sig .tc .vmem S768x2880 .i8) (harg2 : arg2.IsWhole) (arg3 : Memref sig .tc .vmem S256x2880 .i8) (harg3 : arg3.IsWhole) (arg4 : Memref sig .tc .vmem S1x2880 .i32) (harg4 : arg4.IsWhole) (arg5 : Memref sig .tc .vmem S1x2880 .i32) (harg5 : arg5.IsWhole) (arg6 : Memref sig .tc .vmem S1x2880 .i32) (harg6 : arg6.IsWhole) (arg7 : Memref sig .tc .vmem S1x2880 .i32) (harg7 : arg7.IsWhole) (arg8 : Memref sig .tc .vmem S1x2880 .i32) (harg8 : arg8.IsWhole) (arg9 : Memref sig .tc .vmem S1x2880 .i32) (harg9 : arg9.IsWhole) (arg10 : Memref sig .tc .vmem S256x2880 .i8) (harg10 : arg10.IsWhole) (arg11 : Memref sig .tc .vmem S256x2880 .i32) (harg11 : arg11.IsWhole) (hc0 : ¬cond1_0 i) (hc1 : ¬cond1_1 i)
    (x0 : Vec F S256x768 .i8) (x1 : Vec F S768x2880 .i8) (x2 : Vec F S256x2880 .i8) (x3 : Vec F S1x2880 .i32) (x4 : Vec F S1x2880 .i32) (x5 : Vec F S1x2880 .i32) (x6 : Vec F S1x2880 .i32) (x7 : Vec F S1x2880 .i32) (x8 : Vec F S1x2880 .i32) (xs0 : Vec F S256x2880 .i32) :
    Σ' (L9 : List (View.Piece (Elt F) S256x2880 .i8)), { LS0 : List (View.Piece (Elt F) S256x2880 .i32) //
      ∀ (xi9 : Vec F S256x2880 .i8) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f LS0)) -∗ K ⟨⟩))
          ⊢ wp frame (wpE (defs₀ (F := F)) Variants.none c none) E (cc1_ffn2 i arg1 harg1 arg2 harg2 arg3 harg3 arg4 harg4 arg5 harg5 arg6 harg6 arg7 harg7 arg8 harg8 arg9 harg9 arg10 harg10 arg11 harg11) K } := by
  refine ⟨[], ?_, fun xi9 E K => ?run⟩
  case run =>
    simp only [cc1_ffn2_eq_skeleton]; unfold cc1_ffn2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HS0

/-- Case B stores nothing into output 9 (the window is idle at its points and not written back there):
    no pieces — a placeholder (junk read back) that nothing consults, since at these points the window is neither
    written back nor read at the next point. -/
def out1_B_9 (c : Dev nD) (i : grid1.Coords) (arg1 : Memref sig .tc .vmem S256x768 .i8) (harg1 : arg1.IsWhole) (arg2 : Memref sig .tc .vmem S768x2880 .i8) (harg2 : arg2.IsWhole) (arg3 : Memref sig .tc .vmem S256x2880 .i8) (harg3 : arg3.IsWhole) (arg4 : Memref sig .tc .vmem S1x2880 .i32) (harg4 : arg4.IsWhole) (arg5 : Memref sig .tc .vmem S1x2880 .i32) (harg5 : arg5.IsWhole) (arg6 : Memref sig .tc .vmem S1x2880 .i32) (harg6 : arg6.IsWhole) (arg7 : Memref sig .tc .vmem S1x2880 .i32) (harg7 : arg7.IsWhole) (arg8 : Memref sig .tc .vmem S1x2880 .i32) (harg8 : arg8.IsWhole) (arg9 : Memref sig .tc .vmem S1x2880 .i32) (harg9 : arg9.IsWhole) (arg10 : Memref sig .tc .vmem S256x2880 .i8) (harg10 : arg10.IsWhole) (arg11 : Memref sig .tc .vmem S256x2880 .i32) (harg11 : arg11.IsWhole) (hc0 : ¬cond1_0 i) (hc1 : ¬cond1_1 i)
    (x0 : Vec F S256x768 .i8) (x1 : Vec F S768x2880 .i8) (x2 : Vec F S256x2880 .i8) (x3 : Vec F S1x2880 .i32) (x4 : Vec F S1x2880 .i32) (x5 : Vec F S1x2880 .i32) (x6 : Vec F S1x2880 .i32) (x7 : Vec F S1x2880 .i32) (x8 : Vec F S1x2880 .i32) (xs0 : Vec F S256x2880 .i32) : Vec F S256x2880 .i8 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1)

/-- Case B's pieces for scratch `arg11`, which the kernel carries between points, cover it: 1 piece of `S256x2880` tiling it (`Piece.tiledL`). -/
theorem scover1_B_0 (c : Dev nD) (i : grid1.Coords) (arg1 : Memref sig .tc .vmem S256x768 .i8) (harg1 : arg1.IsWhole) (arg2 : Memref sig .tc .vmem S768x2880 .i8) (harg2 : arg2.IsWhole) (arg3 : Memref sig .tc .vmem S256x2880 .i8) (harg3 : arg3.IsWhole) (arg4 : Memref sig .tc .vmem S1x2880 .i32) (harg4 : arg4.IsWhole) (arg5 : Memref sig .tc .vmem S1x2880 .i32) (harg5 : arg5.IsWhole) (arg6 : Memref sig .tc .vmem S1x2880 .i32) (harg6 : arg6.IsWhole) (arg7 : Memref sig .tc .vmem S1x2880 .i32) (harg7 : arg7.IsWhole) (arg8 : Memref sig .tc .vmem S1x2880 .i32) (harg8 : arg8.IsWhole) (arg9 : Memref sig .tc .vmem S1x2880 .i32) (harg9 : arg9.IsWhole) (arg10 : Memref sig .tc .vmem S256x2880 .i8) (harg10 : arg10.IsWhole) (arg11 : Memref sig .tc .vmem S256x2880 .i32) (harg11 : arg11.IsWhole) (hc0 : ¬cond1_0 i) (hc1 : ¬cond1_1 i)
    (x0 : Vec F S256x768 .i8) (x1 : Vec F S768x2880 .i8) (x2 : Vec F S256x2880 .i8) (x3 : Vec F S1x2880 .i32) (x4 : Vec F S1x2880 .i32) (x5 : Vec F S1x2880 .i32) (x6 : Vec F S1x2880 .i32) (x7 : Vec F S1x2880 .i32) (x8 : Vec F S1x2880 .i32) (xs0 : Vec F S256x2880 .i32) (y : S256x2880.Idx) :
    ∃ pc ∈ (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1 S256x2880.size (by sl_kernel_rfl) y

/-- What case B leaves in scratch `arg11`: its pieces read back over junk. -/
def sout1_B_0 (c : Dev nD) (i : grid1.Coords) (arg1 : Memref sig .tc .vmem S256x768 .i8) (harg1 : arg1.IsWhole) (arg2 : Memref sig .tc .vmem S768x2880 .i8) (harg2 : arg2.IsWhole) (arg3 : Memref sig .tc .vmem S256x2880 .i8) (harg3 : arg3.IsWhole) (arg4 : Memref sig .tc .vmem S1x2880 .i32) (harg4 : arg4.IsWhole) (arg5 : Memref sig .tc .vmem S1x2880 .i32) (harg5 : arg5.IsWhole) (arg6 : Memref sig .tc .vmem S1x2880 .i32) (harg6 : arg6.IsWhole) (arg7 : Memref sig .tc .vmem S1x2880 .i32) (harg7 : arg7.IsWhole) (arg8 : Memref sig .tc .vmem S1x2880 .i32) (harg8 : arg8.IsWhole) (arg9 : Memref sig .tc .vmem S1x2880 .i32) (harg9 : arg9.IsWhole) (arg10 : Memref sig .tc .vmem S256x2880 .i8) (harg10 : arg10.IsWhole) (arg11 : Memref sig .tc .vmem S256x2880 .i32) (harg11 : arg11.IsWhole) (hc0 : ¬cond1_0 i) (hc1 : ¬cond1_1 i)
    (x0 : Vec F S256x768 .i8) (x1 : Vec F S768x2880 .i8) (x2 : Vec F S256x2880 .i8) (x3 : Vec F S1x2880 .i32) (x4 : Vec F S1x2880 .i32) (x5 : Vec F S1x2880 .i32) (x6 : Vec F S1x2880 .i32) (x7 : Vec F S1x2880 .i32) (x8 : Vec F S1x2880 .i32) (xs0 : Vec F S256x2880 .i32) : Vec F S256x2880 .i32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 9), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written. The body is run operation by
    operation, each branch decided by the case's hypotheses `hc·`; the pieces are the ones that run finds. -/
noncomputable def kernelRun1_C (c : Dev nD) (i : grid1.Coords) (arg1 : Memref sig .tc .vmem S256x768 .i8) (harg1 : arg1.IsWhole) (arg2 : Memref sig .tc .vmem S768x2880 .i8) (harg2 : arg2.IsWhole) (arg3 : Memref sig .tc .vmem S256x2880 .i8) (harg3 : arg3.IsWhole) (arg4 : Memref sig .tc .vmem S1x2880 .i32) (harg4 : arg4.IsWhole) (arg5 : Memref sig .tc .vmem S1x2880 .i32) (harg5 : arg5.IsWhole) (arg6 : Memref sig .tc .vmem S1x2880 .i32) (harg6 : arg6.IsWhole) (arg7 : Memref sig .tc .vmem S1x2880 .i32) (harg7 : arg7.IsWhole) (arg8 : Memref sig .tc .vmem S1x2880 .i32) (harg8 : arg8.IsWhole) (arg9 : Memref sig .tc .vmem S1x2880 .i32) (harg9 : arg9.IsWhole) (arg10 : Memref sig .tc .vmem S256x2880 .i8) (harg10 : arg10.IsWhole) (arg11 : Memref sig .tc .vmem S256x2880 .i32) (harg11 : arg11.IsWhole) (hc0 : ¬cond1_0 i) (hc1 : cond1_1 i)
    (x0 : Vec F S256x768 .i8) (x1 : Vec F S768x2880 .i8) (x2 : Vec F S256x2880 .i8) (x3 : Vec F S1x2880 .i32) (x4 : Vec F S1x2880 .i32) (x5 : Vec F S1x2880 .i32) (x6 : Vec F S1x2880 .i32) (x7 : Vec F S1x2880 .i32) (x8 : Vec F S1x2880 .i32) (xs0 : Vec F S256x2880 .i32) :
    Σ' (L9 : List (View.Piece (Elt F) S256x2880 .i8)), { LS0 : List (View.Piece (Elt F) S256x2880 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0)) -∗ K ⟨⟩))
          ⊢ wp frame (wpE (defs₀ (F := F)) Variants.none c none) E (cc1_ffn2 i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1_ffn2_eq_skeleton]; unfold cc1_ffn2_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _; iexact HS0

/-- Case C's pieces for output 9 tile its block (1 store of `S256x2880`, checked by the kernel's evaluation: `Piece.tiledL`, linear in the pieces, through a loop's `@[irreducible]` trip theorem too), so they cover it. -/
theorem cover1_C_9 (c : Dev nD) (i : grid1.Coords) (arg1 : Memref sig .tc .vmem S256x768 .i8) (harg1 : arg1.IsWhole) (arg2 : Memref sig .tc .vmem S768x2880 .i8) (harg2 : arg2.IsWhole) (arg3 : Memref sig .tc .vmem S256x2880 .i8) (harg3 : arg3.IsWhole) (arg4 : Memref sig .tc .vmem S1x2880 .i32) (harg4 : arg4.IsWhole) (arg5 : Memref sig .tc .vmem S1x2880 .i32) (harg5 : arg5.IsWhole) (arg6 : Memref sig .tc .vmem S1x2880 .i32) (harg6 : arg6.IsWhole) (arg7 : Memref sig .tc .vmem S1x2880 .i32) (harg7 : arg7.IsWhole) (arg8 : Memref sig .tc .vmem S1x2880 .i32) (harg8 : arg8.IsWhole) (arg9 : Memref sig .tc .vmem S1x2880 .i32) (harg9 : arg9.IsWhole) (arg10 : Memref sig .tc .vmem S256x2880 .i8) (harg10 : arg10.IsWhole) (arg11 : Memref sig .tc .vmem S256x2880 .i32) (harg11 : arg11.IsWhole) (hc0 : ¬cond1_0 i) (hc1 : cond1_1 i)
    (x0 : Vec F S256x768 .i8) (x1 : Vec F S768x2880 .i8) (x2 : Vec F S256x2880 .i8) (x3 : Vec F S1x2880 .i32) (x4 : Vec F S1x2880 .i32) (x5 : Vec F S1x2880 .i32) (x6 : Vec F S1x2880 .i32) (x7 : Vec F S1x2880 .i32) (x8 : Vec F S1x2880 .i32) (xs0 : Vec F S256x2880 .i32) (y : S256x2880.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1 S256x2880.size (by sl_kernel_rfl) y

/-- What case C leaves in output 9's staging buffer: its pieces read back over junk. -/
def out1_C_9 (c : Dev nD) (i : grid1.Coords) (arg1 : Memref sig .tc .vmem S256x768 .i8) (harg1 : arg1.IsWhole) (arg2 : Memref sig .tc .vmem S768x2880 .i8) (harg2 : arg2.IsWhole) (arg3 : Memref sig .tc .vmem S256x2880 .i8) (harg3 : arg3.IsWhole) (arg4 : Memref sig .tc .vmem S1x2880 .i32) (harg4 : arg4.IsWhole) (arg5 : Memref sig .tc .vmem S1x2880 .i32) (harg5 : arg5.IsWhole) (arg6 : Memref sig .tc .vmem S1x2880 .i32) (harg6 : arg6.IsWhole) (arg7 : Memref sig .tc .vmem S1x2880 .i32) (harg7 : arg7.IsWhole) (arg8 : Memref sig .tc .vmem S1x2880 .i32) (harg8 : arg8.IsWhole) (arg9 : Memref sig .tc .vmem S1x2880 .i32) (harg9 : arg9.IsWhole) (arg10 : Memref sig .tc .vmem S256x2880 .i8) (harg10 : arg10.IsWhole) (arg11 : Memref sig .tc .vmem S256x2880 .i32) (harg11 : arg11.IsWhole) (hc0 : ¬cond1_0 i) (hc1 : cond1_1 i)
    (x0 : Vec F S256x768 .i8) (x1 : Vec F S768x2880 .i8) (x2 : Vec F S256x2880 .i8) (x3 : Vec F S1x2880 .i32) (x4 : Vec F S1x2880 .i32) (x5 : Vec F S1x2880 .i32) (x6 : Vec F S1x2880 .i32) (x7 : Vec F S1x2880 .i32) (x8 : Vec F S1x2880 .i32) (xs0 : Vec F S256x2880 .i32) : Vec F S256x2880 .i8 :=
  VO1_9.read (Elt F) (VO1_9.writes (Elt F) VO1_9.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).1)

/-- Case C's pieces for scratch `arg11`, which the kernel carries between points, cover it: 2 pieces of `S256x2880` tiling it (`Piece.tiledL`). -/
theorem scover1_C_0 (c : Dev nD) (i : grid1.Coords) (arg1 : Memref sig .tc .vmem S256x768 .i8) (harg1 : arg1.IsWhole) (arg2 : Memref sig .tc .vmem S768x2880 .i8) (harg2 : arg2.IsWhole) (arg3 : Memref sig .tc .vmem S256x2880 .i8) (harg3 : arg3.IsWhole) (arg4 : Memref sig .tc .vmem S1x2880 .i32) (harg4 : arg4.IsWhole) (arg5 : Memref sig .tc .vmem S1x2880 .i32) (harg5 : arg5.IsWhole) (arg6 : Memref sig .tc .vmem S1x2880 .i32) (harg6 : arg6.IsWhole) (arg7 : Memref sig .tc .vmem S1x2880 .i32) (harg7 : arg7.IsWhole) (arg8 : Memref sig .tc .vmem S1x2880 .i32) (harg8 : arg8.IsWhole) (arg9 : Memref sig .tc .vmem S1x2880 .i32) (harg9 : arg9.IsWhole) (arg10 : Memref sig .tc .vmem S256x2880 .i8) (harg10 : arg10.IsWhole) (arg11 : Memref sig .tc .vmem S256x2880 .i32) (harg11 : arg11.IsWhole) (hc0 : ¬cond1_0 i) (hc1 : cond1_1 i)
    (x0 : Vec F S256x768 .i8) (x1 : Vec F S768x2880 .i8) (x2 : Vec F S256x2880 .i8) (x3 : Vec F S1x2880 .i32) (x4 : Vec F S1x2880 .i32) (x5 : Vec F S1x2880 .i32) (x6 : Vec F S1x2880 .i32) (x7 : Vec F S1x2880 .i32) (x8 : Vec F S1x2880 .i32) (xs0 : Vec F S256x2880 .i32) (y : S256x2880.Idx) :
    ∃ pc ∈ (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1, y ∈ pc.1.set :=
  View.cover_of_tiledL (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1 S256x2880.size (by sl_kernel_rfl) y

/-- What case C leaves in scratch `arg11`: its pieces read back over junk. -/
def sout1_C_0 (c : Dev nD) (i : grid1.Coords) (arg1 : Memref sig .tc .vmem S256x768 .i8) (harg1 : arg1.IsWhole) (arg2 : Memref sig .tc .vmem S768x2880 .i8) (harg2 : arg2.IsWhole) (arg3 : Memref sig .tc .vmem S256x2880 .i8) (harg3 : arg3.IsWhole) (arg4 : Memref sig .tc .vmem S1x2880 .i32) (harg4 : arg4.IsWhole) (arg5 : Memref sig .tc .vmem S1x2880 .i32) (harg5 : arg5.IsWhole) (arg6 : Memref sig .tc .vmem S1x2880 .i32) (harg6 : arg6.IsWhole) (arg7 : Memref sig .tc .vmem S1x2880 .i32) (harg7 : arg7.IsWhole) (arg8 : Memref sig .tc .vmem S1x2880 .i32) (harg8 : arg8.IsWhole) (arg9 : Memref sig .tc .vmem S1x2880 .i32) (harg9 : arg9.IsWhole) (arg10 : Memref sig .tc .vmem S256x2880 .i8) (harg10 : arg10.IsWhole) (arg11 : Memref sig .tc .vmem S256x2880 .i32) (harg11 : arg11.IsWhole) (hc0 : ¬cond1_0 i) (hc1 : cond1_1 i)
    (x0 : Vec F S256x768 .i8) (x1 : Vec F S768x2880 .i8) (x2 : Vec F S256x2880 .i8) (x3 : Vec F S1x2880 .i32) (x4 : Vec F S1x2880 .i32) (x5 : Vec F S1x2880 .i32) (x6 : Vec F S1x2880 .i32) (x7 : Vec F S1x2880 .i32) (x8 : Vec F S1x2880 .i32) (xs0 : Vec F S256x2880 .i32) : Vec F S256x2880 .i32 :=
  VS1_0.read (Elt F) (VS1_0.writes (Elt F) VS1_0.junk (kernelRun1_C c i arg1 harg1 arg2 harg2 arg3 harg3 arg4 harg4 arg5 harg5 arg6 harg6 arg7 harg7 arg8 harg8 arg9 harg9 arg10 harg10 arg11 harg11 hc0 hc1 x0 x1 x2 x3 x4 x5 x6 x7 x8 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S256x2880 .i8 × Vec F S256x2880 .i32
  | 0, hn => (out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩))
  | n + 1, hn =>
    if h0 : (n + 1) % 10 = 0 then
      if h1 : (n + 1) % 10 = 9 then
        False.elim (by have hN : n + 1 < 10 := lt_of_lt_of_eq hn (show cfg1.N = 10 from N_1); omega)
      else
        (out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩))
    else
      if h1 : (n + 1) % 10 = 9 then
        (out1_C_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2)
      else
        (out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn)).2)

/-- `outsAt1` at a point of case A: that case's contents. -/
theorem outsAt1_A (c : Dev nD) (t : Fin cfg1.N) (h0 : t.val % 10 = 0) (h1 : ¬t.val % 10 = 9) :
    outsAt1 V c t.val t.isLt = (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 10 = 0) (h1 : ¬t.val % 10 = 9) :
    outsAt1 V c t.val t.isLt = (out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 10 = 0) (h1 : t.val % 10 = 9) :
    outsAt1 V c t.val t.isLt = (out1_C_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    one with every scratch at anything (`ΦA`); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2)) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant
    (`PhiS`: `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (`BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t)

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl]
  rw [show (dat1 V c).Φ t.succ = PhiS V c (t.val + 1) t.isLt from rfl, PhiS_succ]
  have hN : t.val < 10 := lt_of_lt_of_eq t.isLt (show cfg1.N = 10 from N_1)
  by_cases h0 : t.val % 10 = 0
  · by_cases h1 : t.val % 10 = 9
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [Dat.leavesExact_idle (dat1 V c) 9 t (idleAt1_9_A t ((hcond1_0 t).mpr h0) (fun h => h1 ((hcond1_1 t).mp h))) (noFlush1_9_A t ((hcond1_0 t).mpr h0) (fun h => h1 ((hcond1_1 t).mp h)))]
      by_cases hz : t.val = 0
      · rw [PhiS_castSucc V c t, PhiS_zero V c _ _ hz, PhiA1_eq]
        rw [outsAt1_A V c t h0 h1]
        unfold sout1_A_0; (try dsimp only)
        iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HR0 HR1 HR2 HR3 HR4 HR5 HR6 HR7 HR8 HR9 HR10 HR11 HR12 HS0 Hg]
        · isplitl [HR0 HR1 HR2 HR3 HR4 HR5 HR6 HR7 HR8 HR9 HR10 HR11 HR12 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9
      · exfalso; have hN : t.val < 10 := lt_of_lt_of_eq t.isLt (show cfg1.N = 10 from N_1); omega
  · by_cases h1 : t.val % 10 = 9
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [show (dat1 V c).leavesExact 9 t = owns (c : Thread nD τ) (ms1_9 t) fullShare ((dat1 V c).after 9 t) from by
      unfold Dat.leavesExact; rw [liveAt1_9_C t (fun h => h0 ((hcond1_0 t).mp h)) ((hcond1_1 t).mpr h1)], after1_9]
      by_cases hz : t.val = 0
      · exfalso; have hN : t.val < 10 := lt_of_lt_of_eq t.isLt (show cfg1.N = 10 from N_1); omega
      · rw [PhiS_castSucc V c t, PhiS_pos V c _ _ hz]
        rw [outsAt1_C V c t h0 h1]
        unfold out1_C_9 sout1_C_0; (try dsimp only)
        iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [HS0]; · iexact HS0
        iintro ⟨H0, H1, H2, H3, H4, H5, H6, H7, H8, ⟨%e9, H9⟩, ⟨%es0, HS0⟩⟩
        isplitl [HR0 HR1 HR2 HR3 HR4 HR5 HR6 HR7 HR8 HR9 HR10 HR11 HR12 HS0 Hg]
        · isplitl [HR0 HR1 HR2 HR3 HR4 HR5 HR6 HR7 HR8 HR9 HR10 HR11 HR12 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            unfold owns; iexists _; isplitr
            swap; · iexact HS0
            ipureintro; exact View.read_writes_of_cover _ _ _ _ _ (scover1_C_0 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        unfold owns; iexists _; isplitr
        swap; · iexact H9
        ipureintro; exact View.read_writes_of_cover _ _ _ _ _ (cover1_C_9 c _ _ _ _ _ _ _ _ _ _ _ _ _ _ _ _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7 t], after1_7]
      rw [show (dat1 V c).leavesExact 8 t = owns (c : Thread nD τ) (ms1_8 t) fullShare ((dat1 V c).after 8 t) from by
      unfold Dat.leavesExact; rw [liveAt1_8 t], after1_8]
      rw [Dat.leavesExact_idle (dat1 V c) 9 t (idleAt1_9_B t (fun h => h0 ((hcond1_0 t).mp h)) (fun h => h1 ((hcond1_1 t).mp h))) (noFlush1_9_B t (fun h => h0 ((hcond1_0 t).mp h)) (fun h => h1 ((hcond1_1 t).mp h)))]
      by_cases hz : t.val = 0
      · exfalso; have hN : t.val < 10 := lt_of_lt_of_eq t.isLt (show cfg1.N = 10 from N_1); omega
      · rw [PhiS_castSucc V c t, PhiS_pos V c _ _ hz]
        rw [outsAt1_B V c t h0 h1]
        unfold sout1_B_0; (try dsimp only)
        iintro ⟨⟨⟨HR0, HR1, HR2, HR3, HR4, HR5, HR6, HR7, HR8, HR9, HR10, HR11, HR12, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, H7, H8, H9, ⟨%es0, HS0⟩⟩
        isplitl [HR0 HR1 HR2 HR3 HR4 HR5 HR6 HR7 HR8 HR9 HR10 HR11 HR12 HS0 Hg]
        · isplitl [HR0 HR1 HR2 HR3 HR4 HR5 HR6 HR7 HR8 HR9 HR10 HR11 HR12 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexists _; iexact H9

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (`triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HR0, HR1, HR2, HR3, HR4, HR5, HR6, HR7, HR8, HR9, HR10, HR11, HR12, HS0⟩, Hg⟩
  isplitl [HR0 HR1 HR2 HR3 HR4 HR5 HR6 HR7 HR8 HR9 HR10 HR11 HR12 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    iexists _; iexact HS0
  iexact Hg

/-- The same after the last point. -/
theorem hout (c : Dev nD) : (dat1 V c).Φ (Fin.last cfg1.N) ⊢ Pipeline.ΦA spec1 c :=
  Phi_out V c _ (by rw [Fin.val_last]; have : cfg1.N = 10 := N_1; omega)

end Cert.KernelIdeal.Calls

end
-- ==== Proof.Run.lean ====
/- The whole kernel's run: the first call, then the second from what the first left; the arguments stay and every counter ends at zero. -/
module

public import proofs.«01_k».proof.Proof.Call1
public import proofs.«01_k».proof.Proof.Call2

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The segments of the whole kernel from the launch to the return -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch (`after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v5, main_v6, main_v7, main_v8, main_v9, main_v10]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (the first call's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what the first call's proof data take). -/
abbrev V1 : (c : Dev nD) → (b : Ref sig .tc) → Buf (Elt F) ((c : Thread nD τ).loc b) := fun c b => W1 m ρ c b
/-- At the first call's exit: its arrays at what the pipeline leaves (the inputs as entered, each output's write-backs
    folded: `Dat.arrAt … N`), every other buffer as entered (`withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of the first call's output arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among the first call's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (the first call's exit contents). -/
abbrev V2 : (c : Dev nD) → (b : Ref sig .tc) → Buf (Elt F) ((c : Thread nD τ).loc b) := fun c b => W2 m ρ c b
/-- At the first call's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (the second call's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what the second call's proof data take). -/
abbrev V3 : (c : Dev nD) → (b : Ref sig .tc) → Buf (Elt F) ((c : Thread nD τ).loc b) := fun c b => W3 m ρ c b
/-- At the second call's exit: its arrays at what the pipeline leaves (the inputs as entered, each output's write-backs
    folded: `Dat.arrAt … N`), every other buffer as entered (`withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of the second call's output arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among the second call's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (the second call's exit contents). -/
abbrev V4 : (c : Dev nD) → (b : Ref sig .tc) → Buf (Elt F) ((c : Thread nD τ).loc b) := fun c b => W4 m ρ c b
/-- At the second call's exit each of its arrays holds what the pipeline leaves (`hF1`) and every other buffer what it
    held at entry (`hrest1`): the two hypotheses of `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents, by cases on the call. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a call
    takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the core owing nothing is kept beside it): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- The first call over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- The second call over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Calls.hin (V3 m ρ) c)
    unfold Pipeline.ΦA
    iintro ⟨Hp, -, Hr⟩
    isplitl [Hr]; · iexact Hr
    iexact Hp
  hout c := by
    rw [Pipeline.ownSems0_none]
    refine BIBase.Entails.trans (Calls.hout (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The results of the first call, kept through the second -/

/-- The first call's codes are at the end as it left them. -/
theorem codes_kept (c : Dev nD) : W4 m ρ c (Proc.devRef .tc main_v4_0) = (dat0 (V1 m ρ) c).arrAt 5 cfg0.N :=
  (W4_of m ρ c main_v4_0 (by decide +kernel)).trans ((W3_of m ρ c main_v4_0 (by decide)).trans (W2_arr m ρ c 5))
/-- So are its activations, which the second call only reads. -/
theorem acts_kept (c : Dev nD) : W4 m ρ c (Proc.devRef .tc main_v4_1) = (dat0 (V1 m ρ) c).arrAt 6 cfg0.N :=
  (W4_of m ρ c main_v4_1 (by decide +kernel)).trans ((W3_of m ρ c main_v4_1 (by decide)).trans (W2_arr m ρ c 6))

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The kernel is the run of its segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters, the kernel runs to the end without a fault. Every final state has the result
    arrays as the calls leave them, the argument arrays as launched and every semaphore counter at zero. -/
theorem run : θ_run defs (onTc (τ := τ) (main (F := F))) ⟨m, fun _ => 0, ρ⟩ (fun r => (∀ c : Dev nD,
      r.2.mem ((c.tc : Thread nD τ).loc main_v11) = (dat1 (V3 m ρ) c).arrAt 9 cfg1.N
      ∧ r.2.mem ((c.tc : Thread nD τ).loc main_v4_0) = (dat0 (V1 m ρ) c).arrAt 5 cfg0.N
      ∧ r.2.mem ((c.tc : Thread nD τ).loc main_v4_1) = (dat0 (V1 m ρ) c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v11 (by decide))).trans (W4_arr m ρ c 9),
       (h c _ (mem_uc main_v4_0 (by decide))).trans (codes_kept m ρ c),
       (h c _ (mem_uc main_v4_1 (by decide))).trans (acts_kept m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩), funext fun g => hz g (.inr (no_unscoped g.2))⟩)

/-- The run leaves the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => (h.1 c).2.2.2, h.2⟩) (run m ρ)

end Cert.KernelIdeal.Calls

end
-- ==== Proof.KernelFrame.lean ====
/- The compiled program's run: it is, operation for operation, the idealized program's, read at the compiled arithmetic. -/
module

public import proofs.«01_k».proof.Defs
public import proofs.«01_k».proof.Proof.Run
public import proofs.«01_k».proof.Proof.Gen.Kernel
public import proofs.«01_k».proof.Proof.Gen.KernelIdeal

@[expose] public section

noncomputable section

open Idealize.ShloMosaic Idealize.ShloMosaic.TcCoe Idealize.SL.Sem

namespace Cert.KernelFrame

/-- The two programs' second kernel bodies are the same. -/
theorem cc1_eq : Cert.Kernel.cc1_ffn2 (F := Bits) = Cert.KernelIdeal.cc1_ffn2 (F := Bits) := rfl

set_option maxHeartbeats 4000000 in
/-- The two programs' body tables are the same, label by label. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | 1, (t, s) => exact congrFun (congrFun (congrFun (congrFun (congrFun (congrFun (congrFun (congrFun (congrFun (congrFun (congrFun
      (congrFun (congrFun (congrFun (congrFun (congrFun (congrFun (congrFun (congrFun (congrFun (congrFun (congrFun (congrFun
      cc1_eq _) _) _) _) _) _) _) _) _) _) _) _) _) _) _) _) _) _) _) _) _) _) _

/-- The two programs' tables with their pipelines are the same. -/
theorem defs_eq : Cert.Kernel.defs (F := Bits) = Cert.KernelIdeal.defs (F := Bits) :=
  congrArg (Pipeline.defs (Cert.KernelIdeal.pcfgs (F := Bits))) defs₀_eq

/-- The two programs' entry points are the same. -/
theorem main_eq : Cert.Kernel.main (F := Bits) = Cert.KernelIdeal.main (F := Bits) := rfl

/-- What holds of every run under one table and entry point holds under equal ones. -/
theorem run_congr {nD : Nat} {τ : Topo} {sig : RefSig} {Λ : Labels} {D D' : Defs nD τ sig (Elt Bits) Λ}
    {p p' : Dev nD → Prog (TpuEff nD τ sig (Elt Bits) Λ .tc) PUnit} (hD : D = D') (hp : p = p') {s} {Q}
    (h : θ_run D' (onTc (τ := τ) p') s Q) : θ_run D (onTc (τ := τ) p) s Q := by
  subst hD hp
  exact h

/-- The compiled program runs, leaves its arguments and ends with every counter at zero. -/
theorem frame : quiescent_Kernel (hKernel := Cert.Kernel.Gen.facts) :=
  fun m ρ _ => run_congr defs_eq main_eq (Cert.KernelIdeal.Calls.frame m ρ)

end Cert.KernelFrame

end
-- ==== Proof.Spec.lean ====
/- The words the two layers compute, element by element: the fixed-point rescaling, the activation code as the
   reference states it, and the exact evaluation of the kernel's float form of it. Nothing here names a program. -/
module

public import Idealize.ShloMosaic.PureOps.Ideal.Laws
public import Idealize.ShloMosaic.Lib.KernelVsHost
public import Mathlib.Algebra.Order.Floor.Ring
public import Mathlib.Tactic.NormNum
public import Mathlib.Tactic.Ring
public import Mathlib.Tactic.FieldSimp
public import Mathlib.Tactic.Linarith
public import Mathlib.Tactic.Positivity

@[expose] public section

namespace Cert.Spec

open Idealize.ShloMosaic

/-- The fixed-point rescaling `v · m / 2^k` rounded, done in two halves of the word `v` so that no product needs
    64 bits, on the arithmetic unit `u`. -/
def requant (u : ArithUnit) (v m k : BitVec 32) : BitVec 32 :=
  IntOp.shrsi u
    (IntOp.addi (IntOp.muli (IntOp.shrsi u v (IntOp.minsi k 15#32)) m)
      (IntOp.shrsi u
        (IntOp.addi (IntOp.muli (IntOp.andi v (IntOp.subi (IntOp.shli u 1#32 (IntOp.minsi k 15#32)) 1#32)) m)
          (IntOp.shli u 1#32 (IntOp.subi k 1#32)))
        (IntOp.minsi k 15#32)))
    (IntOp.subi k (IntOp.minsi k 15#32))

/-- The rescaling is one function of its words on every unit: 32-bit shifts agree there, out of range too. -/
theorem requant_unit (u u' : ArithUnit) (v m k : BitVec 32) : requant u v m k = requant u' v m k := by
  simp only [requant, shrsi_unit u u', shli_unit u u']

/-- A word limited to `[lo, hi]`. -/
def clip (lo hi v : BitVec 32) : BitVec 32 := IntOp.minsi hi (IntOp.maxsi lo v)

/-- The reference's activation code of a code `q`: the polynomial form of the error function on integers, the product
    with `q`, and the rescaling to eight bits. -/
def geluRef (q : BitVec 32) : BitVec 32 :=
  let t := IntOp.addi (IntOp.minsi (IntOp.absi q) 640#32) 4294966655#32
  let e := IntOp.muli (if q = 0 then 0 else if q.msb then -1 else 1) (IntOp.subi 453850#32 (IntOp.muli t t))
  let g := IntOp.addi (IntOp.shrsi .host e 8#32) 1772#32
  clip 4294967169#32 127#32 (requant .host (IntOp.muli q g) 18927#32 29#32)

/-! ## Rounding of exact quotients -/

/-- `p / d` rounded to the nearest integer, a tie to the even one, on integers. -/
def rdiv (p d : ℤ) : ℤ :=
  let f := p / d
  let r := p - f * d
  if 2 * r < d then f else if d < 2 * r then f + 1 else if f % 2 = 0 then f else f + 1

/-- The floor of a quotient of integers is their integer quotient. -/
theorem floor_div (p : ℤ) (d : ℕ) : ⌊(p : ℝ) / (d : ℝ)⌋ = p / (d : ℤ) := by
  rw [Int.floor_div_natCast, Int.floor_intCast]

/-- Rounding a quotient of integers half to even is `rdiv`. -/
theorem roundHalfEven_div (p : ℤ) (d : ℕ) (hd : 0 < d) :
    Ideal.roundHalfEven ((p : ℝ) / (d : ℝ)) = rdiv p d := by
  have hd' : (0 : ℝ) < d := by exact_mod_cast hd
  unfold Ideal.roundHalfEven rdiv
  simp only [floor_div]
  have e : (p : ℝ) / d - ((p / (d : ℤ) : ℤ) : ℝ) = ((p - p / (d : ℤ) * d : ℤ) : ℝ) / d := by
    push_cast
    field_simp
  rw [e]
  generalize p - p / (d : ℤ) * d = r
  have h1 : ((r : ℝ) / d < 1 / 2) ↔ 2 * r < d := by
    rw [div_lt_div_iff₀ hd' two_pos]
    constructor
    · intro h; have : ((r * 2 : ℤ) : ℝ) < ((1 * d : ℤ) : ℝ) := by push_cast; exact h
      have := Int.cast_lt.mp this; omega
    · intro h; have : ((r * 2 : ℤ) : ℝ) < ((1 * d : ℤ) : ℝ) := Int.cast_lt.mpr (by omega)
      push_cast at this; exact this
  have h2 : ((1 : ℝ) / 2 < (r : ℝ) / d) ↔ (d : ℤ) < 2 * r := by
    rw [div_lt_div_iff₀ two_pos hd']
    constructor
    · intro h; have : ((1 * d : ℤ) : ℝ) < ((r * 2 : ℤ) : ℝ) := by push_cast; exact h
      have := Int.cast_lt.mp this; omega
    · intro h; have : ((1 * d : ℤ) : ℝ) < ((r * 2 : ℤ) : ℝ) := Int.cast_lt.mpr (by omega)
      push_cast at this; exact this
  simp only [h1, h2, Int.even_iff]

/-- Rounding an integer changes nothing. -/
theorem roundHalfEven_int (n : ℤ) : Ideal.roundHalfEven (n : ℝ) = n := by
  unfold Ideal.roundHalfEven
  simp

/-- An integer of 32 bits converts to its word. -/
theorem fptosi_int (n : ℤ) (h1 : -2147483648 ≤ n) (h2 : n ≤ 2147483647) :
    Ideal.fptosi 32 (((n : ℝ)) : EReal) = BitVec.ofInt 32 n := by
  unfold Ideal.fptosi
  rw [Ideal.toIntClamped_coe]
  congr 1
  have : (if (0 : ℝ) ≤ (n : ℝ) then ⌊(n : ℝ)⌋ else ⌈(n : ℝ)⌉) = n := by simp
  rw [this]
  norm_num
  omega

/-- The greater of two reals, as extended reals. -/
theorem coe_max (a b : ℝ) : max (a : EReal) (b : EReal) = ((max a b : ℝ) : EReal) :=
  (EReal.coe_strictMono.monotone.map_max).symm

/-- The lesser of two reals, as extended reals. -/
theorem coe_min (a b : ℝ) : min (a : EReal) (b : EReal) = ((min a b : ℝ) : EReal) :=
  (EReal.coe_strictMono.monotone.map_min).symm

/-! ## The kernel's float form of the activation -/

/-- The kernel's activation before its last clip, of a float `x`. -/
noncomputable def geluY (x : EReal) : EReal :=
  let s := x * Ideal.ofBits .f32 0x3D800000#32
  let b := min (Ideal.ofBits .f32 0x42200000#32) (max (Ideal.ofBits .f32 0xC2200000#32) s)
  let bd := b * (Ideal.ofBits .f32 0x42A04000#32 - max b (-b))
  let c := Scalar.select (Ideal.cmp .olt x (Ideal.ofBits .f32 0x00000000#32))
    (Ideal.ofBits .f32 0xC327D900#32) (Ideal.ofBits .f32 0x4327D900#32)
  let g := Ideal.liftRound Int.floor (bd + c) + Ideal.ofBits .f32 0x44DD8000#32
  (s * Ideal.ofBits .f32 0x3A13DE00#32) * g

/-- The kernel's activation code of a code `q`. -/
noncomputable def geluKer (q : BitVec 32) : BitVec 32 :=
  Ideal.fptosi 32 (Ideal.liftRound Ideal.roundHalfEven
    (min (Ideal.ofBits .f32 0x42FE0000#32) (max (Ideal.ofBits .f32 0xC2FE0000#32) (geluY ((q.toInt : ℝ) : EReal)))))

/-- The constant a sixteenth. -/
theorem c16 : Ideal.ofBits .f32 0x3D800000#32 = ((1 / 16 : ℝ) : EReal) := by
  simp [Ideal.ofBits, Ideal.ieee, -EReal.coe_mul]; norm_num
/-- The constant 40. -/
theorem c40 : Ideal.ofBits .f32 0x42200000#32 = ((40 : ℝ) : EReal) := by
  simp [Ideal.ofBits, Ideal.ieee, -EReal.coe_mul]; norm_num
/-- The constant -40. -/
theorem c40n : Ideal.ofBits .f32 0xC2200000#32 = ((-40 : ℝ) : EReal) := by
  simp [Ideal.ofBits, Ideal.ieee, -EReal.coe_mul, -EReal.coe_neg]; norm_num
/-- The constant 80.125. -/
theorem c80 : Ideal.ofBits .f32 0x42A04000#32 = ((1282 / 16 : ℝ) : EReal) := by
  simp [Ideal.ofBits, Ideal.ieee, -EReal.coe_mul]; norm_num
/-- The constant zero. -/
theorem c0 : Ideal.ofBits .f32 0x00000000#32 = ((0 : ℝ) : EReal) := by
  simp [Ideal.ofBits, Ideal.ieee, -EReal.coe_mul]
/-- The constant -42969/256. -/
theorem cPn : Ideal.ofBits .f32 0xC327D900#32 = ((-42969 / 256 : ℝ) : EReal) := by
  simp [Ideal.ofBits, Ideal.ieee, -EReal.coe_mul, -EReal.coe_neg]; norm_num
/-- The constant 42969/256. -/
theorem cP : Ideal.ofBits .f32 0x4327D900#32 = ((42969 / 256 : ℝ) : EReal) := by
  simp [Ideal.ofBits, Ideal.ieee, -EReal.coe_mul]; norm_num
/-- The constant 1772. -/
theorem c1772 : Ideal.ofBits .f32 0x44DD8000#32 = ((1772 : ℝ) : EReal) := by
  simp [Ideal.ofBits, Ideal.ieee, -EReal.coe_mul]; norm_num
/-- The constant 18927 / 2^25. -/
theorem cM : Ideal.ofBits .f32 0x3A13DE00#32 = ((18927 / 33554432 : ℝ) : EReal) := by
  simp [Ideal.ofBits, Ideal.ieee, -EReal.coe_mul]; norm_num
/-- The constant 127. -/
theorem c127 : Ideal.ofBits .f32 0x42FE0000#32 = ((127 : ℝ) : EReal) := by
  simp [Ideal.ofBits, Ideal.ieee, -EReal.coe_mul]; norm_num
/-- The constant -127. -/
theorem c127n : Ideal.ofBits .f32 0xC2FE0000#32 = ((-127 : ℝ) : EReal) := by
  simp [Ideal.ofBits, Ideal.ieee, -EReal.coe_mul, -EReal.coe_neg]; norm_num

/-- The activation's factor at an integer code, on integers. -/
def gInt (n : ℤ) : ℤ :=
  let b := min 640 (max (-640) n)
  (b * (1282 - max b (-b)) + (if n < 0 then -42969 else 42969)) / 256 + 1772

/-- At an integer the kernel's activation is an exact quotient. -/
theorem geluY_int (n : ℤ) : geluY (((n : ℝ)) : EReal) = (((n * 18927 * gInt n : ℤ) : ℝ) / ((536870912 : ℕ) : ℝ) : ℝ) := by
  have hs : ((n : ℝ) : EReal) * Ideal.ofBits .f32 0x3D800000#32 = (((n : ℝ) / 16 : ℝ) : EReal) := by
    rw [c16, ← EReal.coe_mul]; congr 1; ring
  have hb : min (Ideal.ofBits .f32 0x42200000#32) (max (Ideal.ofBits .f32 0xC2200000#32) (((n : ℝ) / 16 : ℝ) : EReal))
      = (((min 640 (max (-640) n) : ℤ) : ℝ) / 16 : ℝ) := by
    rw [c40, c40n, coe_max, coe_min]
    congr 1
    push_cast
    rw [← min_div_div_right (by norm_num : (0 : ℝ) ≤ 16), ← max_div_div_right (by norm_num : (0 : ℝ) ≤ 16)]
    norm_num
  unfold geluY
  simp only [hs, hb]
  set B : ℤ := min 640 (max (-640) n) with hB
  have hn : (((B : ℝ) / 16 : ℝ) : EReal) * (Ideal.ofBits .f32 0x42A04000#32 - max (((B : ℝ) / 16 : ℝ) : EReal) (-(((B : ℝ) / 16 : ℝ) : EReal)))
      = (((B * (1282 - max B (-B)) : ℤ) : ℝ) / 256 : ℝ) := by
    rw [c80, ← EReal.coe_neg, coe_max, ← EReal.coe_sub, ← EReal.coe_mul]
    congr 1
    push_cast
    rw [show -((B : ℝ) / 16) = (-(B : ℝ)) / 16 by ring, max_div_div_right (by norm_num : (0 : ℝ) ≤ 16)]
    ring
  have hc : (Scalar.select (Ideal.cmp .olt ((n : ℝ) : EReal) (Ideal.ofBits .f32 0x00000000#32))
      (Ideal.ofBits .f32 0xC327D900#32) (Ideal.ofBits .f32 0x4327D900#32) : EReal)
      = (((if n < 0 then -42969 else 42969 : ℤ) : ℝ) / 256 : ℝ) := by
    rw [c0, cP, cPn]
    unfold Scalar.select Ideal.cmp
    by_cases h : n < 0
    · have : ((n : ℝ) : EReal) < ((0 : ℝ) : EReal) := EReal.coe_lt_coe (by exact_mod_cast h)
      simp only [decide_eq_true this, if_pos h]; norm_num
    · have : ¬ ((n : ℝ) : EReal) < ((0 : ℝ) : EReal) := by
        rw [EReal.coe_lt_coe_iff]; exact_mod_cast h
      simp only [decide_eq_false this, if_neg h]
      rw [if_neg (by decide)]; norm_num
  rw [hn, hc, ← EReal.coe_add, Ideal.liftRound_coe, c1772, ← EReal.coe_add, cM, ← EReal.coe_mul, ← EReal.coe_mul]
  congr 1
  have hg : ⌊((B * (1282 - max B (-B)) : ℤ) : ℝ) / 256 + ((if n < 0 then -42969 else 42969 : ℤ) : ℝ) / 256⌋
      = (B * (1282 - max B (-B)) + (if n < 0 then -42969 else 42969)) / 256 := by
    rw [← add_div, ← Int.cast_add]
    exact floor_div _ 256
  rw [hg]
  unfold gInt
  simp only [← hB]
  push_cast
  ring

/-- The kernel's activation code on integers. -/
def geluInt (n : ℤ) : BitVec 32 :=
  BitVec.ofInt 32 (rdiv (min (127 * 536870912) (max (-127 * 536870912) (n * 18927 * gInt n))) 536870912)

/-- The kernel's activation code is the integer form of it. -/
theorem geluKer_eq (q : BitVec 32) : geluKer q = geluInt q.toInt := by
  unfold geluKer geluInt
  rw [geluY_int, c127, c127n, coe_max, coe_min, Ideal.liftRound_coe]
  generalize q.toInt * 18927 * gInt q.toInt = p
  have e : min (127 : ℝ) (max (-127) ((p : ℝ) / ((536870912 : ℕ) : ℝ)))
      = (((min (127 * 536870912) (max (-127 * 536870912) p) : ℤ) : ℝ) / ((536870912 : ℕ) : ℝ)) := by
    push_cast
    rw [← min_div_div_right (by norm_num : (0 : ℝ) ≤ 536870912), ← max_div_div_right (by norm_num : (0 : ℝ) ≤ 536870912)]
    norm_num
  rw [e, roundHalfEven_div _ _ (by norm_num)]
  set c : ℤ := min (127 * 536870912) (max (-127 * 536870912) p) with hc
  have h1 : -127 * 536870912 ≤ c := by omega
  have h2 : c ≤ 127 * 536870912 := by omega
  have h3 : -200 ≤ rdiv c (536870912 : ℕ) ∧ rdiv c (536870912 : ℕ) ≤ 200 := by
    unfold rdiv; push_cast; split_ifs <;> omega
  exact fptosi_int _ (by omega) (by omega)

/-- The two codes agree at every clipped code: checked one by one. -/
theorem gelu_check : (List.range 8191).all (fun i => geluInt ((i : ℤ) - 4095) == geluRef (BitVec.ofInt 32 ((i : ℤ) - 4095))) = true := by
  decide +kernel

/-- The kernel's activation code is the reference's at every code within `±4095`. -/
theorem gelu_eq (q : BitVec 32) (h1 : -4095 ≤ q.toInt) (h2 : q.toInt ≤ 4095) : geluKer q = geluRef q := by
  rw [geluKer_eq]
  have h := List.all_eq_true.mp gelu_check (q.toInt + 4095).toNat (List.mem_range.mpr (by omega))
  have e : (((q.toInt + 4095).toNat : ℕ) : ℤ) - 4095 = q.toInt := by omega
  rw [e, BitVec.ofInt_toInt] at h
  exact eq_of_beq h

/-- A clipped word lies within the bounds. -/
theorem clip_4095 (v : BitVec 32) : -4095 ≤ (clip 4294963201#32 4095#32 v).toInt ∧ (clip 4294963201#32 4095#32 v).toInt ≤ 4095 := by
  unfold clip IntOp.minsi IntOp.maxsi
  simp only [BitVec.slt_iff_toInt_lt]
  have e1 : (4294963201#32).toInt = -4095 := by decide
  have e2 : (4095#32).toInt = 4095 := by decide
  split_ifs <;> omega

end Cert.Spec

end
-- ==== Proof.Dot.lean ====
/- Exact products of integer codes: a float product of codes at most 1024 deep, rounded and converted, is the word sum
   of the codes' word products, and sums of parts are the whole sum. Nothing here names a program. -/
module

public import proofs.«01_k».proof.Proof.Spec
public import Idealize.ShloMosaic.Lib.MatmulPlain
public import Idealize.ShloMosaic.Lib.Pipeline.Value
public import Idealize.ShloMosaic.PureOps.Reduce
public import Mathlib.Data.BitVec
public import Mathlib.Algebra.BigOperators.Fin

@[expose] public section

namespace Cert.Spec

open Idealize.ShloMosaic

/-- The product of two eight-bit codes, as a 32-bit word. -/
def mul8 (a b : BitVec 8) : BitVec 32 := a.signExtend 32 * b.signExtend 32

/-- The word of a sum of integers is the sum of their words. -/
theorem ofInt_sum {ι : Type} (s : Finset ι) (f : ι → ℤ) :
    BitVec.ofInt 32 (∑ i ∈ s, f i) = ∑ i ∈ s, BitVec.ofInt 32 (f i) := by
  classical
  induction s using Finset.induction_on with
  | empty => rfl
  | insert a s ha ih => rw [Finset.sum_insert ha, Finset.sum_insert ha, BitVec.ofInt_add, ih]

/-- A sum of integers' images among the extended reals is the image of their sum. -/
theorem coe_sum_int {ι : Type} (s : Finset ι) (f : ι → ℤ) :
    (∑ i ∈ s, (((f i : ℤ) : ℝ) : EReal)) = (((∑ i ∈ s, f i : ℤ) : ℝ) : EReal) := by
  classical
  induction s using Finset.induction_on with
  | empty => simp
  | insert a s ha ih => rw [Finset.sum_insert ha, Finset.sum_insert ha, ih]; push_cast; rfl

/-- A product of two codes is at most `2^14` in size. -/
theorem mul8_bound (a b : BitVec 8) : |a.toInt * b.toInt| ≤ 16384 := by
  have h : ∀ x : BitVec 8, |x.toInt| ≤ 128 := fun x => by
    have := x.toInt_lt; have := x.le_toInt
    rw [abs_le]; omega
  rw [abs_mul]
  calc |a.toInt| * |b.toInt| ≤ 128 * 128 := mul_le_mul (h a) (h b) (abs_nonneg _) (by norm_num)
    _ = 16384 := by norm_num

/-- A product of codes at most 1024 deep, accumulated in reals, rounded and converted, is the words' sum. -/
theorem part_eq {K : ℕ} (hK : K ≤ 1024) (f g : Fin K → BitVec 8) :
    Ideal.fptosi 32 (Ideal.liftRound Ideal.roundHalfEven
      (((0 : ℝ) : EReal) + ∑ k : Fin K, (((f k).toInt : ℝ) : EReal) * (((g k).toInt : ℝ) : EReal)))
      = ∑ k : Fin K, mul8 (f k) (g k) := by
  have e : (((0 : ℝ) : EReal) + ∑ k : Fin K, (((f k).toInt : ℝ) : EReal) * (((g k).toInt : ℝ) : EReal))
      = (((∑ k : Fin K, (f k).toInt * (g k).toInt : ℤ) : ℝ) : EReal) := by
    rw [← coe_sum_int, EReal.coe_zero, zero_add]
    refine Finset.sum_congr rfl fun k _ => ?_
    rw [← EReal.coe_mul]; push_cast; rfl
  have hb : |∑ k : Fin K, (f k).toInt * (g k).toInt| ≤ 16777216 := by
    calc |∑ k : Fin K, (f k).toInt * (g k).toInt| ≤ ∑ k : Fin K, |(f k).toInt * (g k).toInt| := Finset.abs_sum_le_sum_abs _ _
      _ ≤ ∑ _k : Fin K, (16384 : ℤ) := Finset.sum_le_sum fun k _ => mul8_bound _ _
      _ ≤ 16777216 := by simp; omega
  rw [e]
  show Ideal.fptosi 32 (((Ideal.roundHalfEven _ : ℤ) : ℝ) : EReal) = _
  rw [roundHalfEven_int, fptosi_int _ (by have := abs_le.mp hb; omega) (by have := abs_le.mp hb; omega), ofInt_sum]
  refine Finset.sum_congr rfl fun k _ => ?_
  rw [BitVec.ofInt_mul]; rfl

/-- Three consecutive parts of a sum over 2880 terms. -/
theorem sum_2880 (f : Fin 2880 → BitVec 32) :
    (∑ k : Fin 1024, f ⟨0 + k.val, by omega⟩) + (∑ k : Fin 1024, f ⟨1024 + k.val, by omega⟩)
      + (∑ k : Fin 832, f ⟨2048 + k.val, by omega⟩) = ∑ k : Fin 2880, f k := by
  have h1 := Fin.sum_univ_add (a := 2048) (b := 832) f
  have h2 := Fin.sum_univ_add (a := 1024) (b := 1024) fun k : Fin 2048 => f (Fin.castAdd 832 k)
  refine Eq.trans ?_ h1.symm
  rw [show (∑ i : Fin 2048, f (Fin.castAdd 832 i)) = _ from h2]
  congr 2

/-- A term of a sum over 7680 terms, by its number; zero from there on. -/
def term (f : Fin 7680 → BitVec 32) (n : ℕ) : BitVec 32 := if h : n < 7680 then f ⟨n, h⟩ else 0

/-- The sum of the first `t` blocks of `B` terms is the sum of the first `B t` terms. -/
theorem sum_blocks (g : ℕ → BitVec 32) (B t : ℕ) :
    (∑ s ∈ Finset.range t, ∑ k : Fin B, g (B * s + k.val)) = ∑ n ∈ Finset.range (B * t), g n := by
  induction t with
  | zero => rfl
  | succ t ih =>
    rw [Finset.sum_range_succ, ih, Nat.mul_succ, Finset.sum_range_add, Finset.sum_range fun k => g (B * t + k)]

/-- Ten blocks of 768 terms are all 7680. -/
theorem sum_7680 (f : Fin 7680 → BitVec 32) :
    (∑ s ∈ Finset.range 10, ∑ k : Fin 768, term f (768 * s + k.val)) = ∑ k : Fin 7680, f k := by
  rw [sum_blocks (term f) 768 10, Finset.sum_range (n := 768 * 10)]
  show (∑ i : Fin 7680, term f i.val) = _
  refine Finset.sum_congr rfl fun k _ => ?_
  unfold term
  rw [dif_pos (show k.val < 7680 from k.isLt)]

end Cert.Spec
-- ==== Proof.Points2.lean ====
/- The second layer's kernel, point by point: what each grid point leaves in the carried accumulator, and what the last
   point leaves in the result. -/
module

public import proofs.«01_k».proof.Proof.Dot
public import proofs.«01_k».proof.Proof.Run
public import Idealize.ShloMosaic.Lib.ValueIdx
public import Idealize.ShloMosaic.Lib.Tactic
public import Idealize.ShloMosaic.Lib.Pipeline.ValueKit.Acc

@[expose] public section

noncomputable section

open Idealize.ShloMosaic Idealize.ShloMosaic.TcCoe Idealize.SL.Sem
open Idealize.ShloMosaic.ValueIdx

namespace Cert.KernelIdeal.Layer2

open Cert.KernelIdeal Cert.KernelIdeal.Gen Cert.KernelIdeal.Calls

/-- The offsets of a whole-block access are zero. -/
theorem hz : (![0, 0] : Fin 2 → Nat) = fun _ => 0 := funext fun a => by fin_cases a <;> rfl

/-- The first point leaves the bias row, in every row, plus the first part of the product. -/
theorem sout_A (c : Dev nD) (i : grid1.Coords) (a1 : Memref sig .tc .vmem S256x768 .i8) (h1 : a1.IsWhole) (a2 : Memref sig .tc .vmem S768x2880 .i8) (h2 : a2.IsWhole) (a3 : Memref sig .tc .vmem S256x2880 .i8) (h3 : a3.IsWhole) (a4 : Memref sig .tc .vmem S1x2880 .i32) (h4 : a4.IsWhole) (a5 : Memref sig .tc .vmem S1x2880 .i32) (h5 : a5.IsWhole) (a6 : Memref sig .tc .vmem S1x2880 .i32) (h6 : a6.IsWhole) (a7 : Memref sig .tc .vmem S1x2880 .i32) (h7 : a7.IsWhole) (a8 : Memref sig .tc .vmem S1x2880 .i32) (h8 : a8.IsWhole) (a9 : Memref sig .tc .vmem S1x2880 .i32) (h9 : a9.IsWhole) (a10 : Memref sig .tc .vmem S256x2880 .i8) (h10 : a10.IsWhole) (a11 : Memref sig .tc .vmem S256x2880 .i32) (h11 : a11.IsWhole) (hc0 : cond1_0 i) (hc1 : ¬cond1_1 i) (x0 : Vec Ideal S256x768 .i8) (x1 : Vec Ideal S768x2880 .i8) (x2 : Vec Ideal S256x2880 .i8) (x3 : Vec Ideal S1x2880 .i32) (x4 : Vec Ideal S1x2880 .i32) (x5 : Vec Ideal S1x2880 .i32) (x6 : Vec Ideal S1x2880 .i32) (x7 : Vec Ideal S1x2880 .i32) (x8 : Vec Ideal S1x2880 .i32) :
    sout1_A_0 (F := Ideal) c i a1 h1 a2 h2 a3 h3 a4 h4 a5 h5 a6 h6 a7 h7 a8 h8 a9 h9 a10 h10 a11 h11 hc0 hc1 x0 x1 x2 x3 x4 x5 x6 x7 x8 = k1_pay2 (F := Ideal) (k1_pay1 (F := Ideal) x3) x0 x1 := by
  unfold sout1_A_0
  rw [View.read_writes_eq_canon _ _ _ (scover1_A_0 c i a1 h1 a2 h2 a3 h3 a4 h4 a5 h5 a6 h6 a7 h7 a8 h8 a9 h9 a10 h10 a11 h11 hc0 hc1 x0 x1 x2 x3 x4 x5 x6 x7 x8)]
  unfold kernelRun1_A
  dsimp only
  sl_unfold_words
  rw [View.canon_cons_unit_zero (S := S256x2880) hz, View.readCov_unit_zero (S := S256x2880) _ hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x768) hz, View.ld_unit_zero (S := S768x2880) hz, View.ld_unit_zero (S := S256x2880) hz, View.ld_unit_zero (S := S1x2880) hz]

/-- A middle point adds its part of the product. -/
theorem sout_B (c : Dev nD) (i : grid1.Coords) (a1 : Memref sig .tc .vmem S256x768 .i8) (h1 : a1.IsWhole) (a2 : Memref sig .tc .vmem S768x2880 .i8) (h2 : a2.IsWhole) (a3 : Memref sig .tc .vmem S256x2880 .i8) (h3 : a3.IsWhole) (a4 : Memref sig .tc .vmem S1x2880 .i32) (h4 : a4.IsWhole) (a5 : Memref sig .tc .vmem S1x2880 .i32) (h5 : a5.IsWhole) (a6 : Memref sig .tc .vmem S1x2880 .i32) (h6 : a6.IsWhole) (a7 : Memref sig .tc .vmem S1x2880 .i32) (h7 : a7.IsWhole) (a8 : Memref sig .tc .vmem S1x2880 .i32) (h8 : a8.IsWhole) (a9 : Memref sig .tc .vmem S1x2880 .i32) (h9 : a9.IsWhole) (a10 : Memref sig .tc .vmem S256x2880 .i8) (h10 : a10.IsWhole) (a11 : Memref sig .tc .vmem S256x2880 .i32) (h11 : a11.IsWhole) (hc0 : ¬cond1_0 i) (hc1 : ¬cond1_1 i) (x0 : Vec Ideal S256x768 .i8) (x1 : Vec Ideal S768x2880 .i8) (x2 : Vec Ideal S256x2880 .i8) (x3 : Vec Ideal S1x2880 .i32) (x4 : Vec Ideal S1x2880 .i32) (x5 : Vec Ideal S1x2880 .i32) (x6 : Vec Ideal S1x2880 .i32) (x7 : Vec Ideal S1x2880 .i32) (x8 : Vec Ideal S1x2880 .i32) (xs0 : Vec Ideal S256x2880 .i32) :
    sout1_B_0 (F := Ideal) c i a1 h1 a2 h2 a3 h3 a4 h4 a5 h5 a6 h6 a7 h7 a8 h8 a9 h9 a10 h10 a11 h11 hc0 hc1 x0 x1 x2 x3 x4 x5 x6 x7 x8 xs0 = k1_pay2 (F := Ideal) xs0 x0 x1 := by
  unfold sout1_B_0
  rw [View.read_writes_eq_canon _ _ _ (scover1_B_0 c i a1 h1 a2 h2 a3 h3 a4 h4 a5 h5 a6 h6 a7 h7 a8 h8 a9 h9 a10 h10 a11 h11 hc0 hc1 x0 x1 x2 x3 x4 x5 x6 x7 x8 xs0)]
  unfold kernelRun1_B
  dsimp only
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x768) hz, View.ld_unit_zero (S := S768x2880) hz, View.ld_unit_zero (S := S256x2880) hz, View.ld_unit_zero (S := S1x2880) hz]

/-- What the last point's code computes from the accumulator (`A`) and the row operands. -/
def finish (A : IVec S256x2880 32) (X : IVec S256x2880 8) (M K MG KG BQ : IVec S1x2880 32) : IVec S256x2880 8 :=
  let z := k1_pay4 (F := Ideal) A M K X
  let t := k1_pay5 (F := Ideal) A M K X
  let f := k1_pay6 (F := Ideal) A M K X
  let e := k1_pay7 (F := Ideal)
  let sh := k1_pay10 (F := Ideal) z t f e
  let r := k1_pay12 (F := Ideal) z t f e
  let l := k1_pay13 (F := Ideal) z t f e
  let d := k1_pay24 sh (k1_pay19 r l k1_pay14) (k1_pay20 r l k1_pay14) (k1_pay21 r l k1_pay14) (k1_pay22 r l k1_pay14) k1_pay23
  let n := k1_pay25 sh (k1_pay19 r l k1_pay14) (k1_pay20 r l k1_pay14) (k1_pay21 r l k1_pay14) (k1_pay22 r l k1_pay14) k1_pay23
  k1_pay3 (k1_pay36 (F := Ideal) d (k1_pay31 (F := Ideal) d n k1_pay26) (k1_pay32 (F := Ideal) d n k1_pay26) (k1_pay33 d) (k1_pay34 d) k1_pay35
    (k1_pay9 (F := Ideal) z t f e) MG KG) (k1_pay37 (F := Ideal) BQ)

/-- The last point leaves, in the result, what its code computes from the finished accumulator. -/
theorem out_C (c : Dev nD) (i : grid1.Coords) (a1 : Memref sig .tc .vmem S256x768 .i8) (h1 : a1.IsWhole) (a2 : Memref sig .tc .vmem S768x2880 .i8) (h2 : a2.IsWhole) (a3 : Memref sig .tc .vmem S256x2880 .i8) (h3 : a3.IsWhole) (a4 : Memref sig .tc .vmem S1x2880 .i32) (h4 : a4.IsWhole) (a5 : Memref sig .tc .vmem S1x2880 .i32) (h5 : a5.IsWhole) (a6 : Memref sig .tc .vmem S1x2880 .i32) (h6 : a6.IsWhole) (a7 : Memref sig .tc .vmem S1x2880 .i32) (h7 : a7.IsWhole) (a8 : Memref sig .tc .vmem S1x2880 .i32) (h8 : a8.IsWhole) (a9 : Memref sig .tc .vmem S1x2880 .i32) (h9 : a9.IsWhole) (a10 : Memref sig .tc .vmem S256x2880 .i8) (h10 : a10.IsWhole) (a11 : Memref sig .tc .vmem S256x2880 .i32) (h11 : a11.IsWhole) (hc0 : ¬cond1_0 i) (hc1 : cond1_1 i) (x0 : Vec Ideal S256x768 .i8) (x1 : Vec Ideal S768x2880 .i8) (x2 : Vec Ideal S256x2880 .i8) (x3 : Vec Ideal S1x2880 .i32) (x4 : Vec Ideal S1x2880 .i32) (x5 : Vec Ideal S1x2880 .i32) (x6 : Vec Ideal S1x2880 .i32) (x7 : Vec Ideal S1x2880 .i32) (x8 : Vec Ideal S1x2880 .i32) (xs0 : Vec Ideal S256x2880 .i32) :
    out1_C_9 (F := Ideal) c i a1 h1 a2 h2 a3 h3 a4 h4 a5 h5 a6 h6 a7 h7 a8 h8 a9 h9 a10 h10 a11 h11 hc0 hc1 x0 x1 x2 x3 x4 x5 x6 x7 x8 xs0 = finish (k1_pay2 (F := Ideal) xs0 x0 x1) x2 x4 x5 x6 x7 x8 := by
  unfold out1_C_9
  rw [View.read_writes_eq_canon _ _ _ (cover1_C_9 c i a1 h1 a2 h2 a3 h3 a4 h4 a5 h5 a6 h6 a7 h7 a8 h8 a9 h9 a10 h10 a11 h11 hc0 hc1 x0 x1 x2 x3 x4 x5 x6 x7 x8 xs0)]
  unfold kernelRun1_C
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x768) hz, View.ld_unit_zero (S := S768x2880) hz, View.ld_unit_zero (S := S256x2880) hz, View.ld_unit_zero (S := S1x2880) hz]
  rw [View.readCov_unit_zero (S := S256x2880) _ hz]
  rw [View.readCov_cons_unit_lit' (S := S256x2880) _ _ _ _ _ (fun a => congrFun hz a) (fun a => congrFun hz a)]
  rfl

end Cert.KernelIdeal.Layer2

end
-- ==== Proof.Arith.lean ====
/- Division of words: the host's floor division, the kernel's division by the row length and its division of the
   largest word, each as a floor division of integers. -/
module

public import proofs.«01_k».proof.Proof.Spec
public import Idealize.ShloMosaic.Lib.Affine

@[expose] public section

noncomputable section

open Idealize.ShloMosaic

namespace Cert.Spec

/-- The sign of a word, as a word. -/
def sgn (v : BitVec 32) : BitVec 32 := if v = 0 then 0 else if v.msb then -1 else 1

/-- Floor division of words as the host states it: the truncated quotient, less one where the signs differ and a remainder is left. -/
def floorDiv (a b : BitVec 32) : BitVec 32 :=
  Scalar.select (IntOp.andi (IntOp.cmpi .ne (sgn a) (sgn b)) (IntOp.cmpi .ne (IntOp.remsi .host a b) 0#32))
    (IntOp.subi (IntOp.divsi .host a b) 1#32) (IntOp.divsi .host a b)

/-- An integer within 32 signed bits is its word's signed value. -/
theorem toInt_of (n : ℤ) (h1 : -2147483648 ≤ n) (h2 : n ≤ 2147483647) : (BitVec.ofInt 32 n).toInt = n := by
  rw [BitVec.toInt_ofInt, Int.bmod_def]
  norm_num
  omega

/-- A word's signed value is within 32 signed bits. -/
theorem toInt_range (v : BitVec 32) : -2147483648 ≤ v.toInt ∧ v.toInt ≤ 2147483647 := by
  have h1 := BitVec.le_toInt v
  have h2 := BitVec.toInt_lt (x := v)
  norm_num at h1 h2
  omega

/-- Words of a difference. -/
theorem ofInt_sub (a b : ℤ) : BitVec.ofInt 32 (a - b) = BitVec.ofInt 32 a - BitVec.ofInt 32 b := by
  rw [Int.sub_eq_add_neg, BitVec.ofInt_add, BitVec.ofInt_neg, BitVec.sub_eq_add_neg]

/-- A choice by a comparison is a choice by the compared fact. -/
theorem select_of {c : BitVec 1} {p : Prop} [Decidable p] (h : c = 1#1 ↔ p) {α : Type} (a b : α) :
    Scalar.select c a b = if p then a else b := by
  unfold Scalar.select
  by_cases hp : p
  · rw [if_pos hp, if_pos (show c = 1 from h.mpr hp)]
  · rw [if_neg hp, if_neg (show ¬ c = 1 from fun e => hp (h.mp e))]

/-- Two one-bit words are both one exactly when their conjunction is. -/
theorem andi_one (a b : BitVec 1) : IntOp.andi a b = 1#1 ↔ a = 1#1 ∧ b = 1#1 := by
  revert a b; decide

/-- The sign of a word in terms of its signed value. -/
theorem sgn_eq (v : BitVec 32) : sgn v = BitVec.ofInt 32 (Int.sign v.toInt) := by
  unfold sgn
  split_ifs with h1 h2
  · subst h1; rfl
  · have : v.toInt < 0 := by rw [BitVec.msb_eq_toInt] at h2; simpa using h2
    rw [Int.sign_eq_neg_one_of_neg this]; rfl
  · have h3 : ¬ v.toInt < 0 := by rw [BitVec.msb_eq_toInt] at h2; simpa using h2
    have h4 : v.toInt ≠ 0 := fun e => h1 (BitVec.eq_of_toInt_eq (by rw [e]; rfl))
    rw [Int.sign_eq_one_of_pos (by omega)]; rfl

/-- Away from the corners the host's floor division is the floor division of the signed values. -/
theorem floorDiv_eq (a b : BitVec 32) (hb : b ≠ 0) (hc : ¬ (a = BitVec.intMin 32 ∧ b = -1)) :
    floorDiv a b = BitVec.ofInt 32 (a.toInt.fdiv b.toInt) := by
  have hcor : ¬ IntOp.SDivCorner a b := fun h => h.elim hb hc
  have hd : IntOp.divsi .host a b = BitVec.ofInt 32 (a.toInt.tdiv b.toInt) := by
    unfold IntOp.divsi
    rw [if_neg hcor]
    refine BitVec.eq_of_toInt_eq ?_
    rw [BitVec.toInt_sdiv, BitVec.toInt_ofInt]
  have hr : IntOp.cmpi .ne (IntOp.remsi .host a b) 0#32 = 1#1 ↔ ¬ b.toInt ∣ a.toInt := by
    rw [IntOp.cmpi_ne]
    unfold IntOp.remsi
    rw [if_neg hcor, Int.dvd_iff_tmod_eq_zero, ← BitVec.toInt_srem, not_iff_not]
    constructor
    · intro h; rw [h]; rfl
    · intro h; exact BitVec.eq_of_toInt_eq (by rw [h]; rfl)
  have hs : IntOp.cmpi .ne (sgn a) (sgn b) = 1#1 ↔ Int.sign a.toInt ≠ Int.sign b.toInt := by
    rw [IntOp.cmpi_ne, sgn_eq, sgn_eq, not_iff_not]
    constructor
    · intro h
      have := congrArg BitVec.toInt h
      have r1 := Int.sign_trichotomy a.toInt
      have r2 := Int.sign_trichotomy b.toInt
      rwa [toInt_of _ (by omega) (by omega), toInt_of _ (by omega) (by omega)] at this
    · intro h; rw [h]
  have hcond := (andi_one _ _).trans (and_congr hs hr)
  unfold floorDiv
  rw [select_of hcond, hd]
  have hb0 : b.toInt ≠ 0 := fun e => hb (BitVec.eq_of_toInt_eq (by rw [e]; rfl))
  rw [Int.fdiv_eq_tdiv]
  generalize a.toInt = A at *
  generalize b.toInt = B at *
  have e1 : IntOp.subi (BitVec.ofInt 32 (A.tdiv B)) 1#32 = BitVec.ofInt 32 (A.tdiv B - 1) := by
    rw [ofInt_sub]; rfl
  rw [e1]
  by_cases hdv : B ∣ A
  · simp [hdv]
  · have hA : A ≠ 0 := by rintro rfl; exact hdv (dvd_zero _)
    rcases lt_or_gt_of_ne hA with hA' | hA' <;> rcases lt_or_gt_of_ne hb0 with hB' | hB' <;>
      simp [hdv, Int.sign_eq_neg_one_of_neg, Int.sign_eq_one_of_pos, hA', hB', not_le.mpr, le_of_lt]

/-- The kernel's division of a word by the row length 2880: the rounded product by the reciprocal, then put right. -/
def meanK (t : BitVec 32) : BitVec 32 :=
  let q := Ideal.fptosi 32 (Ideal.liftRound Ideal.roundHalfEven (((t.toInt : ℝ) : EReal) * Ideal.ofBits .f32 0x39B60B61#32))
  let rem := IntOp.subi t (IntOp.muli q 2880#32)
  let q1 := Scalar.select (IntOp.cmpi .slt rem 0#32) (IntOp.subi q 1#32) q
  Scalar.select (IntOp.cmpi .sge rem 2880#32) (IntOp.addi q1 1#32) q1

/-- The constant next to 1 / 2880. -/
theorem cRow : Ideal.ofBits .f32 0x39B60B61#32 = ((11930465 / 34359738368 : ℝ) : EReal) := by
  simp [Ideal.ofBits, Ideal.ieee, -EReal.coe_mul]; norm_num

/-- A rounded quotient is within one half of the quotient. -/
theorem rdiv_bound (p d : ℤ) (hd : 0 < d) : 2 * (rdiv p d * d - p) ≤ d ∧ -d ≤ 2 * (rdiv p d * d - p) := by
  unfold rdiv
  have h1 := Int.emod_nonneg p (ne_of_gt hd)
  have h2 := Int.emod_lt_of_pos p hd
  have h3 := Int.emod_add_mul_ediv p d
  have e : p - p / d * d = p % d := by rw [mul_comm]; omega
  have e2 : (p / d + 1) * d = d * (p / d) + d := by ring
  have e3 : p / d * d = d * (p / d) := by ring
  simp only [e]
  split_ifs <;> simp only [e2, e3] <;> omega

/-- The kernel's division by the row length is the floor division. -/
theorem meanK_eq (t : BitVec 32) : meanK t = BitVec.ofInt 32 (t.toInt / 2880) := by
  obtain ⟨hT1, hT2⟩ := toInt_range t
  unfold meanK
  rw [cRow, ← EReal.coe_mul, Ideal.liftRound_coe]
  have e : (t.toInt : ℝ) * (11930465 / 34359738368 : ℝ) = ((t.toInt * 11930465 : ℤ) : ℝ) / ((34359738368 : ℕ) : ℝ) := by
    push_cast; ring
  rw [e, roundHalfEven_div _ _ (by norm_num)]
  obtain ⟨hb1, hb2⟩ := rdiv_bound (t.toInt * 11930465) ((34359738368 : ℕ) : ℤ) (by norm_num)
  set q := rdiv (t.toInt * 11930465) ((34359738368 : ℕ) : ℤ) with hq
  push_cast at hb1 hb2
  rw [fptosi_int q (by omega) (by omega)]
  have hrem : IntOp.subi t (IntOp.muli (BitVec.ofInt 32 q) 2880#32) = BitVec.ofInt 32 (t.toInt - q * 2880) := by
    rw [ofInt_sub, BitVec.ofInt_mul, BitVec.ofInt_toInt]; rfl
  have hr1 : (IntOp.subi t (IntOp.muli (BitVec.ofInt 32 q) 2880#32)).toInt = t.toInt - q * 2880 := by
    rw [hrem]; exact toInt_of _ (by omega) (by omega)
  have c1 : IntOp.cmpi .slt (IntOp.subi t (IntOp.muli (BitVec.ofInt 32 q) 2880#32)) 0#32 = 1#1 ↔ t.toInt - q * 2880 < 0 := by
    rw [IntOp.cmpi_slt, hr1]; rfl
  have c2 : IntOp.cmpi .sge (IntOp.subi t (IntOp.muli (BitVec.ofInt 32 q) 2880#32)) 2880#32 = 1#1 ↔ 2880 ≤ t.toInt - q * 2880 := by
    rw [IntOp.cmpi_sge, hr1]; rfl
  dsimp only
  rw [select_of c2, select_of c1, if_neg (by omega : ¬ 2880 ≤ t.toInt - q * 2880)]
  split_ifs with h
  · have : t.toInt / 2880 = q - 1 := by omega
    rw [this, ofInt_sub]; rfl
  · have : t.toInt / 2880 = q := by omega
    rw [this]

/-- The reference's division by the row length is the same. -/
theorem floorDiv_row (t : BitVec 32) : floorDiv t 2880#32 = BitVec.ofInt 32 (t.toInt / 2880) := by
  rw [floorDiv_eq t _ (by decide) (by rintro ⟨-, h⟩; exact absurd h (by decide))]
  have : (2880#32 : BitVec 32).toInt = 2880 := rfl
  rw [this, Int.fdiv_eq_ediv_of_nonneg _ (by norm_num)]

end Cert.Spec

end
-- ==== Proof.Recip.lean ====
/- The kernel's division of the largest word by a word, as the floor division of their signed values. -/
module

public import proofs.«01_k».proof.Proof.Arith

@[expose] public section

noncomputable section

open Idealize.ShloMosaic

namespace Cert.Spec

/-- The kernel's `|d|`. -/
def magK (d : BitVec 32) : BitVec 32 := Scalar.select (IntOp.cmpi .slt d 0#32) (IntOp.subi 0#32 d) d

/-- The kernel's reciprocal of a word, on the extended reals. -/
def rcK (a : BitVec 32) : EReal := Ideal.div (Ideal.ofBits .f32 0x3F800000#32) ((a.toInt : ℝ) : EReal)

/-- The kernel's quotient after the first rounding. -/
def q1K (a : BitVec 32) : BitVec 32 :=
  Ideal.fptosi 32 (Ideal.liftRound Ideal.roundHalfEven (Ideal.ofBits .f32 0x4EFFFFFF#32 * rcK a))

/-- The kernel's quotient after the second rounding. -/
def q2K (a : BitVec 32) : BitVec 32 :=
  IntOp.addi (q1K a) (Ideal.fptosi 32 (Ideal.liftRound Ideal.roundHalfEven
    ((((IntOp.subi 2147483647#32 (IntOp.muli (q1K a) a)).toInt : ℝ) : EReal) * rcK a)))

/-- What is left over after the second rounding. -/
def remK (a : BitVec 32) : BitVec 32 := IntOp.subi 2147483647#32 (IntOp.muli (q2K a) a)

/-- The remainder put right from below. -/
def rem2K (a : BitVec 32) : BitVec 32 :=
  Scalar.select (IntOp.cmpi .slt (remK a) 0#32) (IntOp.addi (remK a) a) (remK a)

/-- The quotient put right. -/
def quoK (a : BitVec 32) : BitVec 32 :=
  let q := Scalar.select (IntOp.cmpi .slt (remK a) 0#32) (IntOp.subi (q2K a) 1#32) (q2K a)
  Scalar.select (IntOp.cmpi .sge (rem2K a) a) (IntOp.addi q 1#32) q

/-- The quotient of a negative divisor. -/
def negK (a : BitVec 32) : BitVec 32 :=
  let r := Scalar.select (IntOp.cmpi .sge (rem2K a) a) (IntOp.subi (rem2K a) a) (rem2K a)
  IntOp.subi (IntOp.subi 0#32 (quoK a)) ((IntOp.cmpi .ne r 0#32).setWidth 32)

/-- The kernel's division of the largest word by `d`. -/
def int31K (d : BitVec 32) : BitVec 32 :=
  Scalar.select (IntOp.cmpi .sgt d 0#32) (quoK (magK d))
    (Scalar.select (IntOp.cmpi .eq d 0#32) 4294967294#32
      (Scalar.select (IntOp.cmpi .eq d 2147483648#32) 4294967295#32 (negK (magK d))))

/-- The reference's division of the largest word by `d`. -/
def int31R (d : BitVec 32) : BitVec 32 :=
  Scalar.select (IntOp.cmpi .eq d 0#32) 4294967294#32 (floorDiv 2147483647#32 d)

/-- The constant one. -/
theorem cOne : Ideal.ofBits .f32 0x3F800000#32 = ((1 : ℝ) : EReal) := by
  simp [Ideal.ofBits, Ideal.ieee, -EReal.coe_mul]; norm_num
/-- The constant 2^31 - 128. -/
theorem cTop : Ideal.ofBits .f32 0x4EFFFFFF#32 = ((2147483520 : ℝ) : EReal) := by
  simp [Ideal.ofBits, Ideal.ieee, -EReal.coe_mul]; norm_num

/-- Rounding an integer times the reciprocal of a positive word is rounding the quotient. -/
theorem round_rc (a : BitVec 32) (ha : 0 < a.toInt) (p : ℤ) :
    Ideal.liftRound Ideal.roundHalfEven (((p : ℝ) : EReal) * rcK a) = ((rdiv p a.toInt : ℤ) : ℝ) := by
  unfold rcK
  have h0 : (a.toInt : ℝ) ≠ 0 := by exact_mod_cast ne_of_gt ha
  rw [cOne, Ideal.div_coe h0, ← EReal.coe_mul, ← EReal.coe_mul, Ideal.liftRound_coe]
  obtain ⟨n, hn⟩ := Int.eq_ofNat_of_zero_le (le_of_lt ha)
  have hn' : 0 < n := by omega
  have e : (p : ℝ) * (1 * (1 / (a.toInt : ℝ))) = (p : ℝ) / (n : ℝ) := by
    rw [hn]; push_cast; ring
  rw [e, roundHalfEven_div _ _ hn', hn]

/-- For a positive word the kernel's quotient and remainder are those of the integers. -/
theorem quo_rem (a : BitVec 32) (ha : 0 < a.toInt) :
    quoK a = BitVec.ofInt 32 (2147483647 / a.toInt) ∧ negK a = BitVec.ofInt 32 (2147483647 / -a.toInt - (if 2147483647 % a.toInt = 0 then 0 else 1)) := by
  have hA2 := (toInt_range a).2
  set A := a.toInt with hA
  have hw : a = BitVec.ofInt 32 A := (BitVec.ofInt_toInt).symm
  have top : (2147483647#32 : BitVec 32) = BitVec.ofInt 32 2147483647 := rfl
  obtain ⟨b1, b2⟩ := rdiv_bound 2147483520 A ha
  set p := rdiv 2147483520 A with hp
  have hp0 : 0 ≤ p := by
    by_contra h
    have : p * A ≤ -1 * A := mul_le_mul_of_nonneg_right (by omega) (le_of_lt ha)
    omega
  have hp1 : p ≤ 2147483520 := by
    by_contra h
    have : 2147483521 * A ≤ p * A := mul_le_mul_of_nonneg_right (by omega) (le_of_lt ha)
    omega
  have e1 : q1K a = BitVec.ofInt 32 p := by
    unfold q1K
    rw [cTop]
    have := round_rc a ha 2147483520
    push_cast at this
    rw [this]
    exact fptosi_int p (by omega) (by omega)
  have e2 : IntOp.subi 2147483647#32 (IntOp.muli (q1K a) a) = BitVec.ofInt 32 (2147483647 - p * A) := by
    rw [e1, ofInt_sub, BitVec.ofInt_mul, ← hw]; rfl
  have e3 : (IntOp.subi 2147483647#32 (IntOp.muli (q1K a) a)).toInt = 2147483647 - p * A := by
    rw [e2]; exact toInt_of _ (by omega) (by omega)
  obtain ⟨d1, d2⟩ := rdiv_bound (2147483647 - p * A) A ha
  set s := rdiv (2147483647 - p * A) A with hs
  have hs0 : -2147483648 ≤ s := by
    by_contra h
    have : s * A ≤ -2147483649 * A := mul_le_mul_of_nonneg_right (by omega) (le_of_lt ha)
    omega
  have hs1 : s ≤ 2147483647 := by
    by_contra h
    have : 2147483648 * A ≤ s * A := mul_le_mul_of_nonneg_right (by omega) (le_of_lt ha)
    omega
  have e4 : q2K a = BitVec.ofInt 32 (p + s) := by
    unfold q2K
    rw [e3, round_rc a ha, e1, fptosi_int _ hs0 hs1, BitVec.ofInt_add]; rfl
  set q := p + s with hq
  have hqA : q * A = p * A + s * A := by rw [hq]; ring
  have e5 : remK a = BitVec.ofInt 32 (2147483647 - q * A) := by
    unfold remK
    rw [e4, ofInt_sub, BitVec.ofInt_mul, ← hw]; rfl
  have hlo : -A ≤ 2 * (2147483647 - q * A) := by rw [hqA]; omega
  have hhi : 2 * (2147483647 - q * A) ≤ A := by rw [hqA]; omega
  generalize hR : 2147483647 - q * A = R at *
  have e6 : (remK a).toInt = R := by rw [e5]; exact toInt_of _ (by omega) (by omega)
  have c1 : IntOp.cmpi .slt (remK a) 0#32 = 1#1 ↔ R < 0 := by rw [IntOp.cmpi_slt, e6]; rfl
  have e7 : rem2K a = BitVec.ofInt 32 (if R < 0 then R + A else R) := by
    unfold rem2K
    rw [select_of c1, e5]
    split_ifs
    · rw [BitVec.ofInt_add, ← hw]; rfl
    · rfl
  have e8 : (rem2K a).toInt = if R < 0 then R + A else R := by
    rw [e7]; exact toInt_of _ (by split_ifs <;> omega) (by split_ifs <;> omega)
  have c2 : IntOp.cmpi .sge (rem2K a) a = 1#1 ↔ False := by
    rw [IntOp.cmpi_sge, e8, ← hA]
    simp only [iff_false, not_le]
    split_ifs <;> omega
  have hquo : 2147483647 / A = (if R < 0 then q - 1 else q) ∧ 2147483647 % A = (if R < 0 then R + A else R) := by
    have : 2147483647 = (if R < 0 then R + A else R) + A * (if R < 0 then q - 1 else q) := by
      split_ifs
      · have : A * (q - 1) = q * A - A := by ring
        omega
      · have : A * q = q * A := by ring
        omega
    have h0 : 0 ≤ (if R < 0 then R + A else R) := by split_ifs <;> omega
    have h1 : (if R < 0 then R + A else R) < A := by split_ifs <;> omega
    exact ⟨Int.ediv_eq_iff_of_pos ha |>.mpr (by constructor <;> nlinarith), (Int.emod_eq_iff (ne_of_gt ha)).mpr ⟨h0, by rwa [Int.natAbs_of_nonneg (le_of_lt ha)], ⟨-(if R < 0 then q - 1 else q), by rw [mul_neg]; omega⟩⟩⟩
  have eq : quoK a = BitVec.ofInt 32 (2147483647 / A) := by
    unfold quoK
    rw [select_of c2, if_neg not_false, select_of c1, e4, hquo.1]
    split_ifs
    · rw [ofInt_sub]; rfl
    · rfl
  refine ⟨eq, ?_⟩
  have c3 : IntOp.cmpi .ne (rem2K a) 0#32 = 1#1 ↔ ¬ (2147483647 % A = 0) := by
    rw [IntOp.cmpi_ne, hquo.2, ← e8, not_iff_not]
    constructor
    · intro h; rw [h]; rfl
    · intro h; exact BitVec.eq_of_toInt_eq (by rw [h]; rfl)
  unfold negK
  dsimp only
  rw [select_of c2, if_neg not_false, eq, Int.ediv_neg]
  by_cases h : 2147483647 % A = 0
  · have : IntOp.cmpi .ne (rem2K a) 0#32 = 0#1 := by
      have := mt c3.mp (not_not.mpr h)
      revert this; generalize IntOp.cmpi .ne (rem2K a) 0#32 = z; revert z; decide
    rw [this, if_pos h, ofInt_sub, BitVec.ofInt_neg]
    show 0#32 - _ - 0#32 = _
    simp
  · rw [c3.mpr h, if_neg h, ofInt_sub, BitVec.ofInt_neg]
    show 0#32 - _ - 1#32 = _
    simp

/-- The kernel's division of the largest word is the reference's, for every divisor. -/
theorem int31_eq (d : BitVec 32) : int31K d = int31R d := by
  have hd := toInt_range d
  have z : (0#32 : BitVec 32).toInt = 0 := rfl
  unfold int31K int31R
  rw [select_of IntOp.cmpi_sgt, select_of IntOp.cmpi_eq, select_of IntOp.cmpi_eq, select_of IntOp.cmpi_eq]
  rw [z]
  by_cases h0 : d = 0#32
  · subst h0; simp
  rw [if_neg h0, if_neg h0, floorDiv_eq _ _ h0 (by rintro ⟨h, -⟩; exact absurd h (by decide))]
  have top : (2147483647#32 : BitVec 32).toInt = 2147483647 := rfl
  have hd0 : d.toInt ≠ 0 := fun e => h0 (BitVec.eq_of_toInt_eq (by rw [e]; rfl))
  have hm : magK d = if d.toInt < 0 then IntOp.subi 0#32 d else d := by
    unfold magK; rw [select_of IntOp.cmpi_slt, z]
  rw [top]
  by_cases hp : 0 < d.toInt
  · rw [if_pos hp, hm, if_neg (by omega), (quo_rem d hp).1, Int.fdiv_eq_ediv_of_nonneg _ (le_of_lt hp)]
  rw [if_neg hp]
  by_cases hmin : d = 2147483648#32
  · subst hmin; rw [if_pos rfl]; rfl
  rw [if_neg hmin]
  have hn : (IntOp.subi 0#32 d).toInt = -d.toInt := by
    have : IntOp.subi 0#32 d = BitVec.ofInt 32 (-d.toInt) := by
      rw [BitVec.ofInt_neg, BitVec.ofInt_toInt]; show 0#32 - d = _; simp
    have hne : d.toInt ≠ -2147483648 := fun e => hmin (BitVec.eq_of_toInt_eq (by rw [e]; rfl))
    rw [this]; exact toInt_of _ (by omega) (by omega)
  rw [hm, if_pos (by omega), (quo_rem _ (by rw [hn]; omega)).2, hn, neg_neg]
  congr 1
  rw [Int.fdiv_eq_ediv, Int.emod_neg]
  have : ¬ (0 ≤ d.toInt) := by omega
  simp only [this, false_or, Int.dvd_iff_emod_eq_zero]

end Cert.Spec

end
-- ==== Proof.NewtonCheck.lean ====
/- The integer square root by Newton's rule on natural numbers: the table of its two possible ends. -/
module

public import proofs.«01_k».proof.Proof.Spec

@[expose] public section

namespace Cert.Spec

/-- One step of Newton's rule. -/
def step (v s : ℕ) : ℕ := (s + v / s) / 2

/-- `n` steps, each forced before the next. -/
def newton (v : ℕ) : ℕ → ℕ → ℕ
  | 0, s => s
  | n + 1, s => match s with
    | 0 => 0
    | k + 1 => newton v n (step v (k + 1))

/-- Whether the last value below a square ends one too high, by the root. -/
def up (r : ℕ) : ℕ :=
  bif Nat.ble 39813 r then 0 else bif Nat.ble 21014 r then 1 else bif Nat.ble 10064 r then 0 else
  bif Nat.ble 4666 r then 1 else bif Nat.ble 2133 r then 0 else bif Nat.ble 967 r then 1 else
  bif Nat.ble 428 r then 0 else bif Nat.ble 186 r then 1 else bif Nat.ble 79 r then 0 else
  bif Nat.ble 31 r then 1 else bif Nat.ble 11 r then 0 else bif Nat.ble 3 r then 1 else 0

/-- Both ends for one root. -/
def good (r : ℕ) : Bool :=
  Nat.beq (newton (r * r + 2 * r) 20 65536) (r + up r) && Nat.beq (newton (r * r + 2 * r - 1) 20 65536) r

/-- Both ends for `n` roots from `lo`. -/
def goods : ℕ → ℕ → Bool
  | _, 0 => true
  | lo, n + 1 => match lo with
    | 0 => false
    | k + 1 => good (k + 1) && goods (k + 2) n

/-- Both ends for `m` blocks of 331 roots from `lo`. -/
def blocks : ℕ → ℕ → Bool
  | _, 0 => true
  | lo, m + 1 => goods lo 331 && blocks (lo + 331) m

/-- The ends for roots from 1. -/
theorem blocks_0 : blocks 1 14 = true := by decide +kernel

/-- The ends for roots from 4635. -/
theorem blocks_1 : blocks 4635 14 = true := by decide +kernel

/-- The ends for roots from 9269. -/
theorem blocks_2 : blocks 9269 14 = true := by decide +kernel

/-- The ends for roots from 13903. -/
theorem blocks_3 : blocks 13903 14 = true := by decide +kernel

/-- The ends for roots from 18537. -/
theorem blocks_4 : blocks 18537 14 = true := by decide +kernel

/-- The ends for roots from 23171. -/
theorem blocks_5 : blocks 23171 14 = true := by decide +kernel

/-- The ends for roots from 27805. -/
theorem blocks_6 : blocks 27805 14 = true := by decide +kernel

/-- The ends for roots from 32439. -/
theorem blocks_7 : blocks 32439 14 = true := by decide +kernel

/-- The ends for roots from 37073. -/
theorem blocks_8 : blocks 37073 14 = true := by decide +kernel

/-- The ends for roots from 41707. -/
theorem blocks_9 : blocks 41707 14 = true := by decide +kernel

/-- The roots of a run of checks. -/
theorem goods_get (n lo r : ℕ) (h : goods lo n = true) (h1 : lo ≤ r) (h2 : r < lo + n) : good r = true := by
  induction n generalizing lo with
  | zero => omega
  | succ n ih =>
    cases lo with
    | zero => exact absurd h (by simp [goods])
    | succ k =>
      rw [goods, Bool.and_eq_true] at h
      rcases Nat.eq_or_lt_of_le h1 with e | e
      · rw [← e]; exact h.1
      · exact ih (k + 2) h.2 (by omega) (by omega)

/-- The roots of a run of blocks. -/
theorem blocks_get (m lo r : ℕ) (h : blocks lo m = true) (h1 : lo ≤ r) (h2 : r < lo + 331 * m) : good r = true := by
  induction m generalizing lo with
  | zero => omega
  | succ m ih =>
    rw [blocks, Bool.and_eq_true] at h
    by_cases e : r < lo + 331
    · exact goods_get 331 lo r h.1 h1 e
    · exact ih (lo + 331) h.2 (by omega) (by omega)

/-- Both ends, for every root a word can have. -/
theorem good_all (r : ℕ) (h1 : 1 ≤ r) (h2 : r ≤ 46340) : good r = true := by
  by_cases e0 : r < 4635
  · exact blocks_get 14 1 r blocks_0 (by omega) (by omega)
  by_cases e1 : r < 9269
  · exact blocks_get 14 4635 r blocks_1 (by omega) (by omega)
  by_cases e2 : r < 13903
  · exact blocks_get 14 9269 r blocks_2 (by omega) (by omega)
  by_cases e3 : r < 18537
  · exact blocks_get 14 13903 r blocks_3 (by omega) (by omega)
  by_cases e4 : r < 23171
  · exact blocks_get 14 18537 r blocks_4 (by omega) (by omega)
  by_cases e5 : r < 27805
  · exact blocks_get 14 23171 r blocks_5 (by omega) (by omega)
  by_cases e6 : r < 32439
  · exact blocks_get 14 27805 r blocks_6 (by omega) (by omega)
  by_cases e7 : r < 37073
  · exact blocks_get 14 32439 r blocks_7 (by omega) (by omega)
  by_cases e8 : r < 41707
  · exact blocks_get 14 37073 r blocks_8 (by omega) (by omega)
  exact blocks_get 14 41707 r blocks_9 (by omega) (by omega)

end Cert.Spec

end
-- ==== Proof.Newton.lean ====
/- The kernel's integer square root against the reference's twenty Newton steps. -/
module

public import proofs.«01_k».proof.Proof.Arith
public import proofs.«01_k».proof.Proof.NewtonCheck

@[expose] public section

noncomputable section

open Idealize.ShloMosaic

namespace Cert.Spec

/-- A step never falls below the root. -/
theorem le_step (v s r : ℕ) (hr : r * r ≤ v) (hs : 0 < s) : r ≤ step v s := by
  unfold step
  by_cases h : 2 * r ≤ s
  · exact le_trans (by omega : r ≤ s / 2) (Nat.div_le_div_right (Nat.le_add_right _ _))
  · have : 2 * r - s ≤ v / s := by
      rw [Nat.le_div_iff_mul_le hs]
      refine le_trans ?_ hr
      obtain ⟨t, ht⟩ := Nat.exists_eq_add_of_lt (not_le.mp h)
      have e : 2 * r - s = t + 1 := by omega
      rw [e]
      have : 2 * r = s + (t + 1) := by omega
      nlinarith [sq_nonneg ((s : ℤ) - (t + 1 : ℤ)), mul_self_nonneg ((s : ℤ) - (t + 1 : ℤ)), two_mul_le_add_sq s (t + 1)]
    omega

/-- Above the root a step grows with its start. -/
theorem step_mono (V r s t : ℕ) (hV : V < (r + 1) * (r + 1)) (hs : r + 1 ≤ s) (ht : s ≤ t) : step V s ≤ step V t := by
  induction t, ht using Nat.le_induction with
  | base => exact le_refl _
  | succ t hst ih =>
    refine le_trans ih ?_
    unfold step
    have ht : 0 < t := by omega
    have hq : V / (t + 1) * (t + 1) ≤ V := Nat.div_mul_le_self _ _
    have hlt : V < (V / (t + 1) + 1) * (t + 1) := by
      have := Nat.lt_div_mul_add (a := V) (b := t + 1) (by omega)
      linarith
    generalize V / (t + 1) = q at *
    have hqt : q < t := by
      by_contra h
      have : t * (t + 1) ≤ q * (t + 1) := Nat.mul_le_mul_right _ (by omega)
      have : (r + 1) * (r + 1) ≤ t * t := Nat.mul_le_mul (by omega) (by omega)
      nlinarith
    have : V / t < q + 2 := by
      rw [Nat.div_lt_iff_lt_mul ht]
      nlinarith
    omega

/-- The steps from lower starts and values stay below, and none falls below the root. -/
theorem newton_le (v V r : ℕ) (h1 : 1 ≤ r) (hr : r * r ≤ v) (hv : v ≤ V) (hV : V ≤ r * r + 2 * r - 1) (n s t : ℕ) (hs : r ≤ s) (hst : s ≤ t) :
    newton v n s ≤ newton V n t ∧ r ≤ newton v n s := by
  induction n generalizing s t with
  | zero => exact ⟨hst, hs⟩
  | succ n ih =>
    obtain ⟨s, rfl⟩ : ∃ s', s = s' + 1 := ⟨s - 1, by omega⟩
    obtain ⟨t, rfl⟩ : ∃ t', t = t' + 1 := ⟨t - 1, by omega⟩
    show newton v n (step v (s + 1)) ≤ newton V n (step V (t + 1)) ∧ r ≤ newton v n (step v (s + 1))
    refine ih _ _ (le_step v _ r hr (by omega)) ?_
    have hVr : V < (r + 1) * (r + 1) := by nlinarith [Nat.sub_le (r * r + 2 * r) 1]
    rcases Nat.eq_or_lt_of_le hs with e | e
    · refine le_trans ?_ (le_step V (t + 1) r (le_trans hr hv) (by omega))
      rw [← e]
      unfold step
      have : v / r < r + 2 := by
        rw [Nat.div_lt_iff_lt_mul (by omega)]
        have : r * r + 2 * r - 1 < r * r + 2 * r := by omega
        nlinarith
      omega
    · refine le_trans ?_ (step_mono V r (s + 1) (t + 1) hVr (by omega) hst)
      unfold step
      have := Nat.div_le_div_right (c := s + 1) hv
      omega

/-- Where twenty steps end. -/
theorem newton_end (v r : ℕ) (h1 : 1 ≤ r) (h2 : r ≤ 46340) (hr : r * r ≤ v) (hv : v ≤ r * r + 2 * r) :
    newton v 20 65536 = r + (if v = r * r + 2 * r then up r else 0) := by
  have g := good_all r h1 h2
  rw [good, Bool.and_eq_true] at g
  have g1 := Nat.eq_of_beq_eq_true g.1
  have g2 := Nat.eq_of_beq_eq_true g.2
  split_ifs with e
  · rw [e]; exact g1
  · obtain ⟨a, b⟩ := newton_le v (r * r + 2 * r - 1) r h1 hr (by omega) (le_refl _) 20 65536 65536 (by omega) (le_refl _)
    omega

/-- One step of the reference on words. -/
def stepW (v s : BitVec 32) : BitVec 32 := IntOp.shrsi .host (IntOp.addi s (floorDiv v s)) 1#32

/-- `n` steps of the reference on words. -/
def newtonW (v : BitVec 32) : ℕ → BitVec 32 → BitVec 32
  | 0, s => s
  | n + 1, s => newtonW v n (stepW v s)

/-- A word shifted right by one is its half, rounded down. -/
theorem shr_one (n : ℤ) (h1 : 0 ≤ n) (h2 : n ≤ 2147483647) : IntOp.shrsi .host (BitVec.ofInt 32 n) 1#32 = BitVec.ofInt 32 (n / 2) := by
  unfold IntOp.shrsi
  rw [if_pos (by decide)]
  apply BitVec.eq_of_toInt_eq
  show ((BitVec.ofInt 32 n).sshiftRight 1).toInt = _
  rw [BitVec.toInt_sshiftRight, toInt_of _ (by omega) (by omega), toInt_of _ (by omega) (by omega), Int.shiftRight_eq_div_pow]
  rfl

/-- The steps on words are those on natural numbers. -/
theorem newtonW_eq (V r : ℕ) (h1 : 1 ≤ r) (h2 : r ≤ 46340) (hr : r * r ≤ V) (hv : V ≤ r * r + 2 * r) (hV : V ≤ 2147483647) (n S : ℕ) (hS : r ≤ S) (hS2 : S ≤ 65536) :
    newtonW (BitVec.ofInt 32 V) n (BitVec.ofInt 32 S) = BitVec.ofInt 32 (newton V n S : ℕ) := by
  induction n generalizing S with
  | zero => rfl
  | succ n ih =>
    obtain ⟨S, rfl⟩ : ∃ s', S = s' + 1 := ⟨S - 1, by omega⟩
    have hdiv : V / (S + 1) < r + 3 := by
      rw [Nat.div_lt_iff_lt_mul (by omega)]
      nlinarith
    have e : stepW (BitVec.ofInt 32 V) (BitVec.ofInt 32 (S + 1 : ℕ)) = BitVec.ofInt 32 (step V (S + 1) : ℕ) := by
      have hz : (BitVec.ofInt 32 (S + 1 : ℕ)).toInt = (S + 1 : ℕ) := toInt_of _ (by omega) (by omega)
      have hz' : (BitVec.ofInt 32 (V : ℤ)).toInt = (V : ℤ) := toInt_of _ (by omega) (by omega)
      have hne : BitVec.ofInt 32 (S + 1 : ℕ) ≠ 0#32 := by
        intro h; rw [h] at hz; have : (0#32 : BitVec 32).toInt = 0 := rfl; omega
      have hc : ¬ (BitVec.ofInt 32 (V : ℤ) = BitVec.intMin 32 ∧ BitVec.ofInt 32 (S + 1 : ℕ) = -1) := by
        rintro ⟨h, -⟩
        rw [h] at hz'
        have : (BitVec.intMin 32).toInt = -2147483648 := by decide
        omega
      unfold stepW
      rw [floorDiv_eq _ _ hne hc, hz, hz', Int.fdiv_eq_ediv_of_nonneg _ (by omega)]
      have : IntOp.addi (BitVec.ofInt 32 (S + 1 : ℕ)) (BitVec.ofInt 32 ((V : ℤ) / (S + 1 : ℕ))) = BitVec.ofInt 32 ((S + 1 + V / (S + 1) : ℕ) : ℤ) := by
        rw [show ((S + 1 + V / (S + 1) : ℕ) : ℤ) = ((S + 1 : ℕ) : ℤ) + (V : ℤ) / (S + 1 : ℕ) by push_cast; rfl, BitVec.ofInt_add]; rfl
      have hq0 : S + 1 + V / (S + 1) ≤ 2147483647 := by omega
      rw [this, shr_one _ (Int.natCast_nonneg _) (by exact_mod_cast hq0)]
      congr 1
    show newtonW _ n (stepW _ _) = BitVec.ofInt 32 (newton V n (step V (S + 1)) : ℕ)
    rw [e]
    refine ih _ (le_step V _ r hr (by omega)) ?_
    unfold step; omega

/-- The kernel's rounded square root. -/
def sq0K (v : BitVec 32) : BitVec 32 :=
  Ideal.fptosi 32 (Ideal.liftRound Ideal.roundHalfEven (Ideal.sqrt ((v.toInt : ℝ) : EReal)))
/-- The square root put right from above: what is left over. -/
def sqD1 (r d : BitVec 32) : BitVec 32 :=
  Scalar.select (IntOp.cmpi .slt d 0#32) (IntOp.subi (IntOp.addi d (IntOp.muli 2#32 r)) 1#32) d
/-- The square root put right from above. -/
def sqR1 (r d : BitVec 32) : BitVec 32 := Scalar.select (IntOp.cmpi .slt d 0#32) (IntOp.subi r 1#32) r
/-- The square root put right from below: what is left over. -/
def sqD2 (r d : BitVec 32) : BitVec 32 :=
  Scalar.select (IntOp.cmpi .sgt (sqD1 r d) (IntOp.muli 2#32 (sqR1 r d)))
    (IntOp.subi (IntOp.subi (sqD1 r d) (IntOp.muli 2#32 (sqR1 r d))) 1#32) (sqD1 r d)
/-- The square root put right from below. -/
def sqR2 (r d : BitVec 32) : BitVec 32 :=
  Scalar.select (IntOp.cmpi .sgt (sqD1 r d) (IntOp.muli 2#32 (sqR1 r d))) (IntOp.addi (sqR1 r d) 1#32) (sqR1 r d)
/-- The kernel's choice by thresholds. -/
def upK (r : BitVec 32) : BitVec 32 :=
  let s (t b e : BitVec 32) := Scalar.select (IntOp.cmpi .sge r t) b e
  s 39813#32 0#32 (s 21014#32 1#32 (s 10064#32 0#32 (s 4666#32 1#32 (s 2133#32 0#32 (s 967#32 1#32
    (s 428#32 0#32 (s 186#32 1#32 (s 79#32 0#32 (s 31#32 1#32 (s 11#32 0#32 (s 3#32 1#32 0#32)))))))))))
/-- The kernel's last word from the root and what is left over. -/
def sqEnd (r d : BitVec 32) : BitVec 32 :=
  IntOp.addi r (Scalar.select (IntOp.cmpi .eq d (IntOp.muli 2#32 r)) (upK r) 0#32)
/-- The kernel's square root. -/
def sqrtK (v : BitVec 32) : BitVec 32 :=
  let r := sq0K v
  let d := IntOp.subi v (IntOp.muli r r)
  sqEnd (sqR2 r d) (sqD2 r d)

/-- The kernel's choice is the table's. -/
theorem upK_eq (r : ℕ) (h : r ≤ 46340) : upK (BitVec.ofInt 32 r) = BitVec.ofInt 32 (up r : ℕ) := by
  have hz : (BitVec.ofInt 32 (r : ℤ)).toInt = (r : ℤ) := toInt_of _ (by omega) (by omega)
  have k (t : ℕ) (ht : t ≤ 46340) : (IntOp.cmpi .sge (BitVec.ofInt 32 (r : ℤ)) (BitVec.ofInt 32 (t : ℤ)) = 1#1) ↔ t ≤ r := by
    rw [IntOp.cmpi_sge, hz, toInt_of _ (by omega) (by omega)]; omega
  have s (t : ℕ) (ht : t ≤ 46340) (b e : BitVec 32) (b' e' : ℕ) (hb : b = BitVec.ofInt 32 b') (he : e = BitVec.ofInt 32 e') :
      Scalar.select (IntOp.cmpi .sge (BitVec.ofInt 32 (r : ℤ)) (BitVec.ofInt 32 (t : ℤ))) b e = BitVec.ofInt 32 ((bif Nat.ble t r then b' else e' : ℕ) : ℤ) := by
    rw [select_of (k t ht), hb, he]
    by_cases hh : t ≤ r
    · rw [if_pos hh, (Nat.ble_eq).mpr hh]; rfl
    · rw [if_neg hh]
      have : Nat.ble t r = false := by
        rw [← Bool.not_eq_true, Nat.ble_eq]; exact hh
      rw [this]; rfl
  unfold upK up
  exact s 39813 (by decide) _ _ 0 _ rfl (s 21014 (by decide) _ _ 1 _ rfl (s 10064 (by decide) _ _ 0 _ rfl
    (s 4666 (by decide) _ _ 1 _ rfl (s 2133 (by decide) _ _ 0 _ rfl (s 967 (by decide) _ _ 1 _ rfl
    (s 428 (by decide) _ _ 0 _ rfl (s 186 (by decide) _ _ 1 _ rfl (s 79 (by decide) _ _ 0 _ rfl
    (s 31 (by decide) _ _ 1 _ rfl (s 11 (by decide) _ _ 0 _ rfl (s 3 (by decide) _ _ 1 0 rfl rfl)))))))))))

/-- The rounded root of a number between two squares is one of their roots. -/
theorem round_sqrt (V r : ℕ) (hr : r * r ≤ V) (hv : V ≤ r * r + 2 * r) :
    ∃ R : ℕ, (R = r ∨ R = r + 1) ∧ Ideal.liftRound Ideal.roundHalfEven (Ideal.sqrt ((((V : ℤ) : ℝ)) : EReal)) = (((R : ℤ) : ℝ) : EReal) := by
  have h0 : ¬ (((V : ℤ) : ℝ) < 0) := by push_cast; exact not_lt.mpr (Nat.cast_nonneg V)
  rw [Ideal.sqrt_coe, if_neg h0, Ideal.liftRound_coe]
  have hf : ⌊Real.sqrt ((V : ℤ) : ℝ)⌋ = (r : ℤ) := by
    rw [Int.floor_eq_iff]
    constructor
    · apply Real.le_sqrt_of_sq_le
      push_cast; rw [sq]; exact_mod_cast hr
    · rw [Real.sqrt_lt' (by positivity)]
      push_cast
      have : (V : ℝ) ≤ r * r + 2 * r := by exact_mod_cast hv
      nlinarith
  unfold Ideal.roundHalfEven
  simp only [hf]
  split_ifs
  · exact ⟨r, Or.inl rfl, rfl⟩
  · exact ⟨r + 1, Or.inr rfl, by push_cast; rfl⟩
  · exact ⟨r, Or.inl rfl, rfl⟩
  · exact ⟨r + 1, Or.inr rfl, by push_cast; rfl⟩

/-- Two small integers are the same word only if they are equal. -/
theorem eq_word (a b : ℤ) (a1 : -2147483648 ≤ a) (a2 : a ≤ 2147483647) (b1 : -2147483648 ≤ b) (b2 : b ≤ 2147483647) :
    BitVec.ofInt 32 a = BitVec.ofInt 32 b ↔ a = b := by
  constructor
  · intro h
    have := congrArg BitVec.toInt h
    rwa [toInt_of _ a1 a2, toInt_of _ b1 b2] at this
  · rintro rfl; rfl

/-- The end of the kernel's square root from the true root. -/
theorem sqEnd_eq (V r : ℕ) (h2 : r ≤ 46340) (hr : r * r ≤ V) (hv : V ≤ r * r + 2 * r) :
    sqEnd (BitVec.ofInt 32 r) (BitVec.ofInt 32 ((V : ℤ) - r * r)) = BitVec.ofInt 32 ((r + (if V = r * r + 2 * r then up r else 0) : ℕ) : ℤ) := by
  have m : IntOp.muli 2#32 (BitVec.ofInt 32 (r : ℤ)) = BitVec.ofInt 32 (2 * r) := by rw [BitVec.ofInt_mul]; rfl
  have hrr : (V : ℤ) - r * r ≤ 2 * r := by
    have : (V : ℤ) ≤ r * r + 2 * r := by exact_mod_cast hv
    omega
  have hrr0 : 0 ≤ (V : ℤ) - r * r := by
    have : (r : ℤ) * r ≤ V := by exact_mod_cast hr
    omega
  have c : IntOp.cmpi .eq (BitVec.ofInt 32 ((V : ℤ) - r * r)) (IntOp.muli 2#32 (BitVec.ofInt 32 r)) = 1#1 ↔ V = r * r + 2 * r := by
    rw [IntOp.cmpi_eq, m, eq_word _ _ (by omega) (by omega) (by omega) (by omega)]
    constructor
    · intro h
      have : (V : ℤ) = r * r + 2 * r := by omega
      exact_mod_cast this
    · intro h
      have : (V : ℤ) = r * r + 2 * r := by exact_mod_cast h
      omega
  unfold sqEnd
  rw [select_of c, upK_eq r h2]
  split_ifs
  · rw [Nat.cast_add, BitVec.ofInt_add]; rfl
  · rw [Nat.add_zero]; show BitVec.ofInt 32 (r : ℤ) + 0#32 = _; rw [BitVec.add_zero]

/-- For a positive word the kernel's square root is the reference's twenty steps. -/
theorem sqrtK_eq (v : BitVec 32) (h : 1 ≤ v.toInt) : sqrtK v = newtonW v 20 65536#32 := by
  have hV2 := (toInt_range v).2
  obtain ⟨V, hV⟩ := Int.eq_ofNat_of_zero_le (show 0 ≤ v.toInt by omega)
  have hw : v = BitVec.ofInt 32 V := by rw [← hV, BitVec.ofInt_toInt]
  have hr : Nat.sqrt V * Nat.sqrt V ≤ V := Nat.sqrt_le V
  have hv : V ≤ Nat.sqrt V * Nat.sqrt V + 2 * Nat.sqrt V := by have := Nat.sqrt_le_add V; omega
  have h1 : 1 ≤ Nat.sqrt V := Nat.sqrt_pos.mpr (by omega)
  have h2 : Nat.sqrt V ≤ 46340 := by
    by_contra hh
    have : 46341 * 46341 ≤ Nat.sqrt V * Nat.sqrt V := Nat.mul_le_mul (by omega) (by omega)
    omega
  generalize Nat.sqrt V = r at *
  have hrI : (r : ℤ) * r ≤ V := by exact_mod_cast hr
  have hvI : (V : ℤ) ≤ r * r + 2 * r := by exact_mod_cast hv
  rw [show (65536#32 : BitVec 32) = BitVec.ofInt 32 (65536 : ℕ) from rfl, hw,
    newtonW_eq V r h1 h2 hr hv (by omega) 20 65536 (by omega) (le_refl _), newton_end V r h1 h2 hr hv, ← sqEnd_eq V r h2 hr hv]
  obtain ⟨R, hR, e⟩ := round_sqrt V r hr hv
  have e0 : sq0K (BitVec.ofInt 32 V) = BitVec.ofInt 32 (R : ℤ) := by
    unfold sq0K
    rw [toInt_of _ (by omega) (by omega), e]
    exact fptosi_int _ (by omega) (by omega)
  have e1 : IntOp.subi (BitVec.ofInt 32 (V : ℤ)) (IntOp.muli (BitVec.ofInt 32 (R : ℤ)) (BitVec.ofInt 32 (R : ℤ))) = BitVec.ofInt 32 ((V : ℤ) - R * R) := by
    rw [ofInt_sub, BitVec.ofInt_mul]; rfl
  have m (x : ℤ) : IntOp.muli 2#32 (BitVec.ofInt 32 x) = BitVec.ofInt 32 (2 * x) := by rw [BitVec.ofInt_mul]; rfl
  have key : sqR1 (BitVec.ofInt 32 (R : ℤ)) (BitVec.ofInt 32 ((V : ℤ) - R * R)) = BitVec.ofInt 32 (r : ℤ)
      ∧ sqD1 (BitVec.ofInt 32 (R : ℤ)) (BitVec.ofInt 32 ((V : ℤ) - R * R)) = BitVec.ofInt 32 ((V : ℤ) - r * r) := by
    unfold sqR1 sqD1
    rcases hR with hR | hR
    · subst hR
      have c : IntOp.cmpi .slt (BitVec.ofInt 32 ((V : ℤ) - R * R)) 0#32 = 1#1 ↔ False := by
        rw [IntOp.cmpi_slt, toInt_of _ (by omega) (by omega)]
        have : (0#32 : BitVec 32).toInt = 0 := rfl
        rw [this]; simp only [iff_false]; omega
      rw [select_of c, select_of c, if_neg not_false, if_neg not_false]
      exact ⟨rfl, rfl⟩
    · subst hR
      have ex : ((r + 1 : ℕ) : ℤ) * ((r + 1 : ℕ) : ℤ) = r * r + 2 * r + 1 := by push_cast; ring
      have c : IntOp.cmpi .slt (BitVec.ofInt 32 ((V : ℤ) - ((r + 1 : ℕ) : ℤ) * ((r + 1 : ℕ) : ℤ))) 0#32 = 1#1 ↔ True := by
        rw [ex, IntOp.cmpi_slt, toInt_of _ (by omega) (by omega)]
        have : (0#32 : BitVec 32).toInt = 0 := rfl
        rw [this]; simp only [iff_true]; omega
      rw [select_of c, select_of c, if_pos trivial, if_pos trivial, m]
      constructor
      · rw [show (r : ℤ) = ((r + 1 : ℕ) : ℤ) - 1 by push_cast; ring, ofInt_sub]; rfl
      · rw [show (V : ℤ) - r * r = ((V : ℤ) - ((r + 1 : ℕ) : ℤ) * ((r + 1 : ℕ) : ℤ)) + 2 * ((r + 1 : ℕ) : ℤ) - 1 by push_cast; ring]
        symm
        refine (ofInt_sub _ _).trans ?_
        rw [BitVec.ofInt_add]; rfl
  have c : IntOp.cmpi .sgt (BitVec.ofInt 32 ((V : ℤ) - r * r)) (IntOp.muli 2#32 (BitVec.ofInt 32 (r : ℤ))) = 1#1 ↔ False := by
    rw [m, IntOp.cmpi_sgt, toInt_of _ (by omega) (by omega), toInt_of _ (by omega) (by omega)]
    simp only [iff_false]; omega
  unfold sqrtK
  dsimp only
  unfold sqR2 sqD2
  rw [e0, e1, key.1, key.2, select_of c, select_of c, if_neg not_false, if_neg not_false]

end Cert.Spec

end
-- ==== Proof.Rows.lean ====
/- The second layer's normalisation of one row of words, on integers alone. Nothing here names a program. -/
module

public import proofs.«01_k».proof.Proof.Recip
public import proofs.«01_k».proof.Proof.Newton
public import Mathlib.Data.BitVec
public import Mathlib.Algebra.BigOperators.Fin
public import Idealize.ShloMosaic.PureOps.Reduce

@[expose] public section

noncomputable section

open Idealize.ShloMosaic

namespace Cert.Spec

/-- The rounded mean of a row. -/
def meanR (z : Fin 2880 → BitVec 32) : BitVec 32 := floorDiv (IntOp.addi (∑ k, z k) 1440#32) 2880#32

/-- The row less its mean. -/
def cenR (z : Fin 2880 → BitVec 32) (q : Fin 2880) : BitVec 32 := IntOp.subi (z q) (meanR z)

/-- The greatest size in a row. -/
def topR (y : Fin 2880 → BitVec 32) : BitVec 32 :=
  (Finset.univ : Finset (Fin 2880)).fold IKind.maxsi.op 2147483648#32 fun q => IntOp.absi (y q)

/-- By how much a row is shifted before it is squared. -/
def shR (y : Fin 2880 → BitVec 32) : BitVec 32 :=
  IntOp.maxsi (IntOp.subi (IntOp.subi 32#32 (IntOp.ctlz (topR y))) 9#32) 0#32

/-- The sum of a row's squares after the shift, at least one. -/
def varR (y : Fin 2880 → BitVec 32) : BitVec 32 :=
  IntOp.maxsi (∑ q, IntOp.muli (IntOp.shrsi .vector (y q) (shR y)) (IntOp.shrsi .vector (y q) (shR y))) 1#32

/-- The word a row is divided by. -/
def divR (y : Fin 2880 → BitVec 32) : BitVec 32 :=
  IntOp.shli .vector (IntOp.addi (newtonW (varR y) 20 65536#32) 1#32) (shR y)

/-- A row's result at a column: normalised, rescaled, biased and clipped. -/
def outR (y : Fin 2880 → BitVec 32) (mg kg bq : BitVec 32) (q : Fin 2880) : BitVec 8 :=
  (clip 4294967169#32 127#32 (IntOp.addi
    (requant .vector (IntOp.shrsi .vector (IntOp.muli (y q) (int31R (divR y))) 16#32) mg kg) bq)).setWidth 8

/-- The kernel's rounded mean is the reference's. -/
theorem mean_eq (z : Fin 2880 → BitVec 32) : meanK (IntOp.addi (∑ k, z k) 1440#32) = meanR z := by
  unfold meanR; rw [meanK_eq, floorDiv_row]

/-- The sum of squares is positive. -/
theorem one_le_varR (y : Fin 2880 → BitVec 32) : 1 ≤ (varR y).toInt := by
  have h (x : BitVec 32) : 1 ≤ (IntOp.maxsi x 1#32).toInt := by
    have e : (1#32 : BitVec 32).toInt = 1 := rfl
    unfold IntOp.maxsi
    rw [BitVec.slt_eq_decide, e]
    by_cases h : 1 < x.toInt
    · rw [if_pos (decide_eq_true h)]; omega
    · rw [if_neg (by simpa using h)]; rw [e]
  exact h _

/-- The word a row is divided by, through the kernel's square root. -/
theorem div_eq (y : Fin 2880 → BitVec 32) :
    IntOp.shli .vector (IntOp.addi (sqrtK (varR y)) 1#32) (shR y) = divR y := by
  unfold divR; rw [sqrtK_eq _ (one_le_varR y)]

end Cert.Spec

end
-- ==== Proof.Layer1.lean ====
/- The first layer's kernel read as a function of its arguments: each grid point computes one block of columns of the
   code array and of the activation array, and the ten blocks tile both. -/
module

public import proofs.«01_k».proof.Proof.Dot
public import proofs.«01_k».proof.Proof.Run
public import Idealize.ShloMosaic.Lib.ValueIdx

@[expose] public section

noncomputable section

open Idealize.ShloMosaic Idealize.ShloMosaic.TcCoe Idealize.SL.Sem
open Idealize.ShloMosaic.ValueIdx

namespace Cert.Spec

/-- A row vector broadcast down the rows reads, at a column, that column. -/
theorem bcast_row {α : Type} {M N : ℕ} (hN : N ≠ 1) (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 0 c) := by
  refine broadcastTo_apply x h _ _ fun a => ?_
  match a with
  | ⟨0, _⟩ => rfl
  | ⟨1, _⟩ => exact (if_neg hN).symm

/-- A column vector broadcast along the columns reads, at a row, that row. -/
theorem bcast_col {α : Type} {M N : ℕ} (hM : M ≠ 1) (x : (⟨2, ![M, 1]⟩ : Shape).Idx → α)
    (h : (⟨2, ![M, 1]⟩ : Shape).Broadcasts ⟨2, ![M, N]⟩) (r : Fin M) (c : Fin N) :
    broadcastTo ⟨2, ![M, N]⟩ x h (ix2 r c) = x (ix2 r 0) := by
  refine broadcastTo_apply x h _ _ fun a => ?_
  match a with
  | ⟨0, _⟩ => exact (if_neg hM).symm
  | ⟨1, _⟩ => rfl

/-- A part of a product of codes, `K ≤ 1024` deep from depth `off`, rounded and converted, is the words' sum. -/
theorem kpart {M K N KK : ℕ} (hK : K ≤ 1024) (off : ℕ) (hoff : off + K ≤ KK)
    (A : IVec ⟨2, ![M, KK]⟩ 8) (W : IVec ⟨2, ![KK, N]⟩ 8)
    (hA : (⟨2, ![M, KK]⟩ : Shape).Slices ![0, off] ⟨2, ![M, K]⟩)
    (hW : (⟨2, ![KK, N]⟩ : Shape).Slices ![off, 0] ⟨2, ![K, N]⟩) (r : Fin M) (c : Fin N) :
    fptosi 32 (roundeven (matmul (F := Ideal) (DotDims.plain M K N) none
      (extractStridedSlice ⟨2, ![M, K]⟩ ![0, off] (sitofp (F := Ideal) .bf16 A) hA)
      (sitofp (F := Ideal) .bf16 (extractStridedSlice ⟨2, ![K, N]⟩ ![off, 0] W hW))
      (constant ⟨2, ![M, N]⟩ .f32 0x00000000#32))) (ix2 r c)
      = ∑ k : Fin K, mul8 (A (ix2 r ⟨off + k.val, by omega⟩)) (W (ix2 ⟨off + k.val, by omega⟩ c)) := by
  rw [← part_eq hK, ← c0]
  show Ideal.fptosi 32 (Ideal.liftRound Ideal.roundHalfEven (FloatOps.matmul (F := Ideal) (DotDims.plain M K N) none _ _ _ (ix2 r c))) = _
  rw [Ideal.matmul_plain_apply]
  refine congrArg (fun z => Ideal.fptosi 32 (Ideal.liftRound Ideal.roundHalfEven (Ideal.ofBits .f32 0x00000000#32 + z))) ?_
  refine Finset.sum_congr rfl fun k _ => ?_
  refine congrArg₂ (fun a b : BitVec 8 => (((a.toInt : ℝ) : EReal) * ((b.toInt : ℝ) : EReal)))
    (extractStridedSlice_apply _ A hA _ _ fun a => ?_) (extractStridedSlice_apply _ W hW _ _ fun a => ?_)
  · match a with
    | ⟨0, _⟩ => exact (Nat.zero_add _).symm
    | ⟨1, _⟩ => rfl
  · match a with
    | ⟨0, _⟩ => rfl
    | ⟨1, _⟩ => exact (Nat.zero_add _).symm

end Cert.Spec

namespace Cert.KernelIdeal.Layer1

open Cert.KernelIdeal Cert.KernelIdeal.Gen Cert.KernelIdeal.Calls Cert.Spec

/-! ## What one grid point computes -/

/-- The dot product and bias of a block, at a row and a column. -/
theorem pay2_apply (P0 : IVec S256x2880 8) (P1 : IVec S2880x768 8) (P2 : IVec S1x768 32) (r : Fin 256) (c : Fin 768) :
    k0_pay2 (F := Ideal) P0 P1 P2 (ix2 r c) = (∑ k : Fin 2880, mul8 (P0 (ix2 r k)) (P1 (ix2 k c))) + P2 (ix2 0 c) := by
  have h0 : shapeCast S256x2880 P0 shapeCasts_S256x2880_S256x2880 = P0 := shapeCast_self _ _
  have h2 : shapeCast S1x768 P2 shapeCasts_S1x768_S1x768 = P2 := shapeCast_self _ _
  unfold k0_pay2
  rw [h0, h2, ← sum_2880 fun k => mul8 (P0 (ix2 r k)) (P1 (ix2 k c))]
  exact congrArg₂ IntOp.addi (congrArg₂ IntOp.addi (congrArg₂ IntOp.addi
    (kpart (by norm_num) 0 (by norm_num) P0 P1 slices_S256x2880_o0_0_S256x1024 slices_S2880x768_o0_0_S1024x768 r c)
    (kpart (by norm_num) 1024 (by norm_num) P0 P1 slices_S256x2880_o0_1024_S256x1024 slices_S2880x768_o1024_0_S1024x768 r c))
    (kpart (by norm_num) 2048 (by norm_num) P0 P1 slices_S256x2880_o0_2048_S256x832 slices_S2880x768_o2048_0_S832x768 r c))
    (bcast_row (by norm_num) P2 broadcasts_S1x768_S256x768 r c)

/-- The clipped rescaling of a block of words, at a row and a column. -/
theorem pay9_apply (v27 : IVec S256x768 32) (v29 v31 v33 v37 v39 v40 : IVec S1x768 32) (r : Fin 256) (c : Fin 768) :
    k0_pay9 v27 v29 v31 v33 v37 v39 v40 (ix2 r c)
      = clip 4294963201#32 4095#32 (IntOp.shrsi .vector
          (IntOp.addi (IntOp.muli (IntOp.shrsi .vector (v27 (ix2 r c)) (v33 (ix2 0 c))) (v29 (ix2 0 c)))
            (IntOp.shrsi .vector
              (IntOp.addi (IntOp.muli (IntOp.andi (v27 (ix2 r c)) (v37 (ix2 0 c))) (v29 (ix2 0 c)))
                (IntOp.shli .vector (v40 (ix2 0 c)) (v39 (ix2 0 c))))
              (v33 (ix2 0 c))))
          (IntOp.subi (v31 (ix2 0 c)) (v33 (ix2 0 c)))) := by
  have hb : ∀ x : IVec S1x768 32, broadcastTo S256x768 x broadcasts_S1x768_S256x768 (ix2 r c) = x (ix2 0 c) :=
    fun x => bcast_row (by norm_num) x broadcasts_S1x768_S256x768 r c
  exact congrArg (IntOp.minsi _) (congrArg (IntOp.maxsi _) (congrArg₂ (IntOp.shrsi .vector)
    (congrArg₂ IntOp.addi (congrArg₂ IntOp.muli (congrArg (IntOp.shrsi .vector _) (hb v33)) (hb v29))
      (congrArg₂ (IntOp.shrsi .vector)
        (congrArg₂ IntOp.addi (congrArg₂ IntOp.muli (congrArg (IntOp.andi _) (hb v37)) (hb v29)) (hb (shli v40 v39)))
        (hb v33)))
    (hb (subi v31 v33))))

/-- The code of a block at a row and a column: the rescaled word, clipped. -/
theorem code_apply (v27 : IVec S256x768 32) (P3 P4 : IVec S1x768 32) (r : Fin 256) (c : Fin 768) :
    k0_pay9 v27 (k0_pay3 (F := Ideal) P3) (k0_pay4 (F := Ideal) P4) (k0_pay5 (F := Ideal) P4) (k0_pay6 (F := Ideal) P4)
        (k0_pay7 (F := Ideal) P4) k0_pay8 (ix2 r c)
      = clip 4294963201#32 4095#32 (requant .vector (v27 (ix2 r c)) (P3 (ix2 0 c)) (P4 (ix2 0 c))) := by
  rw [pay9_apply]
  have h3 : k0_pay3 (F := Ideal) P3 = P3 := shapeCast_self _ _
  have h4 : k0_pay4 (F := Ideal) P4 = P4 := shapeCast_self _ _
  have h5 : k0_pay5 (F := Ideal) P4 (ix2 0 c) = IntOp.minsi (P4 (ix2 0 c)) 15#32 := by
    show IntOp.minsi (k0_pay4 (F := Ideal) P4 (ix2 0 c)) 15#32 = _
    rw [h4]
  have h6 : k0_pay6 (F := Ideal) P4 (ix2 0 c) = IntOp.subi (IntOp.shli .vector 1#32 (IntOp.minsi (P4 (ix2 0 c)) 15#32)) 1#32 := by
    show IntOp.subi (IntOp.shli .vector 1#32 (k0_pay5 (F := Ideal) P4 (ix2 0 c))) 1#32 = _
    rw [h5]
  have h7 : k0_pay7 (F := Ideal) P4 (ix2 0 c) = IntOp.subi (P4 (ix2 0 c)) 1#32 := by
    show IntOp.subi (k0_pay4 (F := Ideal) P4 (ix2 0 c)) 1#32 = _
    rw [h4]
  rw [h5, h6, h7, h3, h4]
  rfl

/-- The activation of a block at an index is the float form of the activation of the code there. -/
theorem act_apply (v27 : IVec S256x768 32) (v29 v31 v33 v37 v39 v40 : IVec S1x768 32) (y : S256x768.Idx) :
    k0_pay1 (k0_pay11 (F := Ideal) v27 v29 v31 v33 v37 v39 v40) y = (geluKer (k0_pay9 v27 v29 v31 v33 v37 v39 v40 y)).setWidth 8 := rfl

/-! ## The blocks a grid point reads -/

variable (m : (ℓ : Loc nD τ sig) → Buf (Elt Ideal) ℓ) (ρ : Dev nD → PrngReg)

/-- Device `c`'s first argument: the activations entering the layer. -/
abbrev aX (c : Dev nD) : IVec S1x256x2880 8 := m ((c : Thread nD τ).loc main_arg0)
/-- Device `c`'s second argument: the weights. -/
abbrev aW (c : Dev nD) : IVec S2880x7680 8 := m ((c : Thread nD τ).loc main_arg1)
/-- Device `c`'s third argument: the bias. -/
abbrev aB (c : Dev nD) : IVec S7680 32 := m ((c : Thread nD τ).loc main_arg2)
/-- Device `c`'s fourth argument: the rescaling's multipliers. -/
abbrev aM (c : Dev nD) : IVec S7680 32 := m ((c : Thread nD τ).loc main_arg3)
/-- Device `c`'s fifth argument: the rescaling's shifts. -/
abbrev aK (c : Dev nD) : IVec S7680 32 := m ((c : Thread nD τ).loc main_arg4)

/-- The kernel's first operand is the first argument with its unit axis dropped. -/
theorem row0 (c : Dev nD) : V1 m ρ c main_v0 = shapeCast S256x2880 (aX m c) shapeCasts_S1x256x2880_S256x2880 := by
  show StableHlo.after hostOps0 (W0 m ρ c) (Proc.devRef .tc main_v0) = _
  after_results; rfl
/-- The kernel's bias operand is the argument as a row. -/
theorem row1 (c : Dev nD) : V1 m ρ c main_v1 = shapeCast S1x7680 (aB m c) shapeCasts_S7680_S1x7680 := by
  show StableHlo.after hostOps0 (W0 m ρ c) (Proc.devRef .tc main_v1) = _
  after_results; rfl
/-- The kernel's multiplier operand is the argument as a row. -/
theorem row2 (c : Dev nD) : V1 m ρ c main_v2 = shapeCast S1x7680 (aM m c) shapeCasts_S7680_S1x7680 := by
  show StableHlo.after hostOps0 (W0 m ρ c) (Proc.devRef .tc main_v2) = _
  after_results; rfl
/-- The kernel's shift operand is the argument as a row. -/
theorem row3 (c : Dev nD) : V1 m ρ c main_v3 = shapeCast S1x7680 (aK m c) shapeCasts_S7680_S1x7680 := by
  show StableHlo.after hostOps0 (W0 m ρ c) (Proc.devRef .tc main_v3) = _
  after_results; rfl

/-- The grid has ten points. -/
theorem t_lt (t : Fin cfg0.N) : t.val < 10 := by
  have h := t.isLt
  have hN : cfg0.N = 10 := N_0
  omega

/-- The block index of each window at a point: the windows that move do so along the columns. -/
theorem index_eq : ∀ t : Fin cfg0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) :=
  (by decide +kernel : ∀ t : Fin grid0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val))

/-- The column of the whole array that column `q` of point `t`'s block is. -/
def col (t : Fin cfg0.N) (q : Fin 768) : Fin 7680 := ⟨t.val * 768 + q.val, by have := t_lt t; omega⟩

/-- A point's block of a row operand is the row's columns from `768 t`. -/
theorem iblk2_apply (c : Dev nD) (t : Fin cfg0.N) (q : Fin 768) : (iblk0 (V1 m ρ) c 2 t : IVec S1x768 32) (ix2 0 q) = aB m c (ix1 (col t q)) := by
  show V1 m ρ c main_v1 ((win0_2.rect t).emb (ix2 0 q)) = _
  rw [row1]
  refine shapeCast_apply _ _ _ _ ?_
  rw [Shape.rowMajor_val_one, Shape.rowMajor_val_two]
  have h0 := win0_2.rect_emb_val_of_index_zero t 0 (index_eq t).2.2.1.1 (ix2 0 q)
  have h1 := win0_2.rect_emb_val t (ix2 0 q) 1
  rw [(index_eq t).2.2.1.2] at h1
  show t.val * 768 + q.val = ((win0_2.rect t).emb (ix2 0 q) 0 : Nat) * 7680 + ((win0_2.rect t).emb (ix2 0 q) 1 : Nat)
  rw [h0, h1]
  show t.val * 768 + q.val = 0 * 7680 + (t.val * 768 + q.val)
  omega

/-- A point's block of the multipliers. -/
theorem iblk3_apply (c : Dev nD) (t : Fin cfg0.N) (q : Fin 768) : (iblk0 (V1 m ρ) c 3 t : IVec S1x768 32) (ix2 0 q) = aM m c (ix1 (col t q)) := by
  show V1 m ρ c main_v2 ((win0_3.rect t).emb (ix2 0 q)) = _
  rw [row2]
  refine shapeCast_apply _ _ _ _ ?_
  rw [Shape.rowMajor_val_one, Shape.rowMajor_val_two]
  have h0 := win0_3.rect_emb_val_of_index_zero t 0 (index_eq t).2.2.2.1.1 (ix2 0 q)
  have h1 := win0_3.rect_emb_val t (ix2 0 q) 1
  rw [(index_eq t).2.2.2.1.2] at h1
  show t.val * 768 + q.val = ((win0_3.rect t).emb (ix2 0 q) 0 : Nat) * 7680 + ((win0_3.rect t).emb (ix2 0 q) 1 : Nat)
  rw [h0, h1]
  show t.val * 768 + q.val = 0 * 7680 + (t.val * 768 + q.val)
  omega

/-- A point's block of the shifts. -/
theorem iblk4_apply (c : Dev nD) (t : Fin cfg0.N) (q : Fin 768) : (iblk0 (V1 m ρ) c 4 t : IVec S1x768 32) (ix2 0 q) = aK m c (ix1 (col t q)) := by
  show V1 m ρ c main_v3 ((win0_4.rect t).emb (ix2 0 q)) = _
  rw [row3]
  refine shapeCast_apply _ _ _ _ ?_
  rw [Shape.rowMajor_val_one, Shape.rowMajor_val_two]
  have h0 := win0_4.rect_emb_val_of_index_zero t 0 (index_eq t).2.2.2.2.1.1 (ix2 0 q)
  have h1 := win0_4.rect_emb_val t (ix2 0 q) 1
  rw [(index_eq t).2.2.2.2.1.2] at h1
  show t.val * 768 + q.val = ((win0_4.rect t).emb (ix2 0 q) 0 : Nat) * 7680 + ((win0_4.rect t).emb (ix2 0 q) 1 : Nat)
  rw [h0, h1]
  show t.val * 768 + q.val = 0 * 7680 + (t.val * 768 + q.val)
  omega

/-- A point's block of the weights. -/
theorem iblk1_apply (c : Dev nD) (t : Fin cfg0.N) (k : Fin 2880) (q : Fin 768) :
    (iblk0 (V1 m ρ) c 1 t : IVec S2880x768 8) (ix2 k q) = aW m c (ix2 k (col t q)) := by
  show V1 m ρ c main_arg1 ((win0_1.rect t).emb (ix2 k q)) = _
  rw [show V1 m ρ c main_arg1 = aW m c from W1_args m ρ c main_arg1 (by decide)]
  refine congrArg (aW m c) (funext fun a => Fin.ext ?_)
  match a with
  | ⟨0, _⟩ => exact win0_1.rect_emb_val_of_index_zero t 0 (index_eq t).2.1.1 (ix2 k q)
  | ⟨1, _⟩ =>
    have h1 := win0_1.rect_emb_val t (ix2 k q) 1
    rw [(index_eq t).2.1.2] at h1
    exact h1

/-- Every point reads all the activations. -/
theorem iblk0_apply (c : Dev nD) (t : Fin cfg0.N) (r : Fin 256) (k : Fin 2880) :
    (iblk0 (V1 m ρ) c 0 t : IVec S256x2880 8) (ix2 r k) = aX m c (ix3 0 r k) := by
  show V1 m ρ c main_v0 ((win0_0.rect t).emb (ix2 r k)) = _
  rw [row0]
  refine shapeCast_apply _ _ _ _ ?_
  rw [Shape.rowMajor_val_three, Shape.rowMajor_val_two]
  have h0 := win0_0.rect_emb_val_of_index_zero t 0 (index_eq t).1.1 (ix2 r k)
  have h1 := win0_0.rect_emb_val_of_index_zero t 1 (index_eq t).1.2 (ix2 r k)
  show (0 * 256 + r.val) * 2880 + k.val = ((win0_0.rect t).emb (ix2 r k) 0 : Nat) * 2880 + ((win0_0.rect t).emb (ix2 r k) 1 : Nat)
  rw [h0, h1]
  show (0 * 256 + r.val) * 2880 + k.val = r.val * 2880 + k.val
  omega

/-! ## The result arrays -/

/-- The layer's accumulated word at a row and a column. -/
def word (X : IVec S1x256x2880 8) (W : IVec S2880x7680 8) (B : IVec S7680 32) (r : Fin 256) (q : Fin 7680) : BitVec 32 :=
  (∑ k : Fin 2880, mul8 (X (ix3 0 r k)) (W (ix2 k q))) + B (ix1 q)

/-- The layer's code at a row and a column: the word rescaled and clipped. -/
def code (X : IVec S1x256x2880 8) (W : IVec S2880x7680 8) (B M K : IVec S7680 32) (r : Fin 256) (q : Fin 7680) : BitVec 32 :=
  clip 4294963201#32 4095#32 (requant .vector (word X W B r q) (M (ix1 q)) (K (ix1 q)))

/-- The array of codes. -/
def codes (c : Dev nD) : IVec S256x7680 16 := fun i => (code (aX m c) (aW m c) (aB m c) (aM m c) (aK m c) (i 0) (i 1)).setWidth 16

/-- The array of activations. -/
def acts (c : Dev nD) : IVec S256x7680 8 := fun i => (geluRef (code (aX m c) (aW m c) (aB m c) (aM m c) (aK m c) (i 0) (i 1))).setWidth 8

/-- A point's clipped words are the codes of its columns. -/
theorem block_code (c : Dev nD) (t : Fin cfg0.N) (r : Fin 256) (q : Fin 768) :
    k0_pay9 (k0_pay2 (F := Ideal) (iblk0 (V1 m ρ) c 0 t) (iblk0 (V1 m ρ) c 1 t) (iblk0 (V1 m ρ) c 2 t)) (k0_pay3 (F := Ideal) (iblk0 (V1 m ρ) c 3 t))
        (k0_pay4 (F := Ideal) (iblk0 (V1 m ρ) c 4 t)) (k0_pay5 (F := Ideal) (iblk0 (V1 m ρ) c 4 t)) (k0_pay6 (F := Ideal) (iblk0 (V1 m ρ) c 4 t))
        (k0_pay7 (F := Ideal) (iblk0 (V1 m ρ) c 4 t)) k0_pay8 (ix2 r q)
      = code (aX m c) (aW m c) (aB m c) (aM m c) (aK m c) r (col t q) := by
  refine (code_apply _ (iblk0 (V1 m ρ) c 3 t) (iblk0 (V1 m ρ) c 4 t) r q).trans ?_
  unfold code word
  rw [pay2_apply, iblk2_apply m ρ c t q, iblk3_apply m ρ c t q, iblk4_apply m ρ c t q]
  refine congrArg (fun z => clip 4294963201#32 4095#32 (requant .vector (z + aB m c (ix1 (col t q))) _ _)) ?_
  refine Finset.sum_congr rfl fun k _ => ?_
  rw [iblk0_apply m ρ c t r k, iblk1_apply m ρ c t k q]

/-- The offsets of a whole-block access are zero. -/
theorem hz : (![0, 0] : Fin 2 → Nat) = fun _ => 0 := funext fun a => by fin_cases a <;> rfl

/-- What a point writes back to the code array is its columns of the codes. -/
theorem flushed_codes (c : Dev nD) (t : Fin cfg0.N) :
    (dat0 (V1 m ρ) c).flushed 5 t = ((cfg0.win 5).blk t).view.read (Elt Ideal) (codes m c) := by
  show (cfg0.win 5).cut (grid0.coords t) ((dat0 (V1 m ρ) c).after 5 t) = _
  rw [after0_5]
  unfold out0_5 k0_pay18 k0_pay17 k0_pay16 k0_pay15 k0_pay14 k0_pay13 k0_pay12
  rw [View.canon_unit_zero hz]
  simp only [View.ld_unit_zero (S := S256x2880) hz, View.ld_unit_zero (S := S2880x768) hz, View.ld_unit_zero (S := S1x768) hz]
  have h : ∀ y : S256x768.Idx, k0_pay10 (k0_pay2 (F := Ideal) (iblk0 (V1 m ρ) c 0 t) (iblk0 (V1 m ρ) c 1 t) (iblk0 (V1 m ρ) c 2 t)) (k0_pay3 (F := Ideal) (iblk0 (V1 m ρ) c 3 t))
        (k0_pay4 (F := Ideal) (iblk0 (V1 m ρ) c 4 t)) (k0_pay5 (F := Ideal) (iblk0 (V1 m ρ) c 4 t)) (k0_pay6 (F := Ideal) (iblk0 (V1 m ρ) c 4 t))
        (k0_pay7 (F := Ideal) (iblk0 (V1 m ρ) c 4 t)) k0_pay8 y = codes m c ((win0_5.rect t).emb y) := fun y => by
    obtain ⟨r, q, rfl⟩ : ∃ (r : Fin 256) (q : Fin 768), y = ix2 r q := ⟨y 0, y 1, eq_ix2 y⟩
    have h0 := win0_5.rect_emb_val_of_index_zero t 0 (index_eq t).2.2.2.2.2.1.1 (ix2 r q)
    have h1 := win0_5.rect_emb_val t (ix2 r q) 1
    rw [(index_eq t).2.2.2.2.2.1.2] at h1
    have e0 : (win0_5.rect t).emb (ix2 r q) 0 = r := Fin.ext h0
    have e1 : (win0_5.rect t).emb (ix2 r q) 1 = col t q := Fin.ext h1
    show (k0_pay9 _ _ _ _ _ _ _ (ix2 r q)).setWidth 16 = (code _ _ _ _ _ ((win0_5.rect t).emb (ix2 r q) 0) ((win0_5.rect t).emb (ix2 r q) 1)).setWidth 16
    rw [e0, e1, block_code m ρ c t r q]
  exact funext h

/-- What a point writes back to the activation array is its columns of the activations. -/
theorem flushed_acts (c : Dev nD) (t : Fin cfg0.N) :
    (dat0 (V1 m ρ) c).flushed 6 t = ((cfg0.win 6).blk t).view.read (Elt Ideal) (acts m c) := by
  show (cfg0.win 6).cut (grid0.coords t) ((dat0 (V1 m ρ) c).after 6 t) = _
  rw [after0_6]
  unfold out0_6 k0_pay18 k0_pay17 k0_pay16 k0_pay15 k0_pay14 k0_pay13 k0_pay12
  rw [View.canon_unit_zero hz]
  simp only [View.ld_unit_zero (S := S256x2880) hz, View.ld_unit_zero (S := S2880x768) hz, View.ld_unit_zero (S := S1x768) hz]
  have h : ∀ y : S256x768.Idx, k0_pay1 (k0_pay11 (F := Ideal) (k0_pay2 (F := Ideal) (iblk0 (V1 m ρ) c 0 t) (iblk0 (V1 m ρ) c 1 t) (iblk0 (V1 m ρ) c 2 t)) (k0_pay3 (F := Ideal) (iblk0 (V1 m ρ) c 3 t))
        (k0_pay4 (F := Ideal) (iblk0 (V1 m ρ) c 4 t)) (k0_pay5 (F := Ideal) (iblk0 (V1 m ρ) c 4 t)) (k0_pay6 (F := Ideal) (iblk0 (V1 m ρ) c 4 t))
        (k0_pay7 (F := Ideal) (iblk0 (V1 m ρ) c 4 t)) k0_pay8) y = acts m c ((win0_6.rect t).emb y) := fun y => by
    obtain ⟨r, q, rfl⟩ : ∃ (r : Fin 256) (q : Fin 768), y = ix2 r q := ⟨y 0, y 1, eq_ix2 y⟩
    have h0 := win0_6.rect_emb_val_of_index_zero t 0 (index_eq t).2.2.2.2.2.2.1 (ix2 r q)
    have h1 := win0_6.rect_emb_val t (ix2 r q) 1
    rw [(index_eq t).2.2.2.2.2.2.2] at h1
    have e0 : (win0_6.rect t).emb (ix2 r q) 0 = r := Fin.ext h0
    have e1 : (win0_6.rect t).emb (ix2 r q) 1 = col t q := Fin.ext h1
    refine (act_apply _ _ _ _ _ _ _ (ix2 r q)).trans ?_
    show _ = (geluRef (code _ _ _ _ _ ((win0_6.rect t).emb (ix2 r q) 0) ((win0_6.rect t).emb (ix2 r q) 1))).setWidth 8
    rw [e0, e1, block_code m ρ c t r q]
    have hc := clip_4095 (requant .vector (word (aX m c) (aW m c) (aB m c) r (col t q)) (aM m c (ix1 (col t q))) (aK m c (ix1 (col t q))))
    exact congrArg (BitVec.setWidth 8) (gelu_eq _ hc.1 hc.2)
  exact funext h

/-- An index of the code array is in the block of the point its column names. -/
theorem cover5 (i : S256x7680.Idx) : ∃ t : Fin cfg0.N, (cfg0.win 5).flush t = true ∧ i ∈ ((cfg0.win 5).blk t).view.set := by
  have i0 : (i 0 : Nat) < 256 := (i 0).isLt
  have i1 : (i 1 : Nat) < 7680 := (i 1).isLt
  have hN : cfg0.N = 10 := N_0
  refine ⟨⟨(i 1 : Nat) / 768, by omega⟩, flush0_5 _, ?_⟩
  generalize ht : (⟨(i 1 : Nat) / 768, by omega⟩ : Fin cfg0.N) = t
  have hv : t.val = (i 1 : Nat) / 768 := by rw [← ht]
  show i ∈ ((View.whole main_v4_0).slice (win0_5.rect t)).set
  rw [View.set_slice_whole, Rect.mem_set_unit]
  intro a
  match a with
  | ⟨0, _⟩ =>
    show win0_5.index t 0 * 256 ≤ (i 0 : Nat) ∧ (i 0 : Nat) < win0_5.index t 0 * 256 + 256
    rw [(index_eq t).2.2.2.2.2.1.1]; omega
  | ⟨1, _⟩ =>
    show win0_5.index t 1 * 768 ≤ (i 1 : Nat) ∧ (i 1 : Nat) < win0_5.index t 1 * 768 + 768
    rw [(index_eq t).2.2.2.2.2.1.2]; omega

/-- An index of the activation array is in the block of the point its column names. -/
theorem cover6 (i : S256x7680.Idx) : ∃ t : Fin cfg0.N, (cfg0.win 6).flush t = true ∧ i ∈ ((cfg0.win 6).blk t).view.set := by
  have i0 : (i 0 : Nat) < 256 := (i 0).isLt
  have i1 : (i 1 : Nat) < 7680 := (i 1).isLt
  have hN : cfg0.N = 10 := N_0
  refine ⟨⟨(i 1 : Nat) / 768, by omega⟩, flush0_6 _, ?_⟩
  generalize ht : (⟨(i 1 : Nat) / 768, by omega⟩ : Fin cfg0.N) = t
  have hv : t.val = (i 1 : Nat) / 768 := by rw [← ht]
  show i ∈ ((View.whole main_v4_1).slice (win0_6.rect t)).set
  rw [View.set_slice_whole, Rect.mem_set_unit]
  intro a
  match a with
  | ⟨0, _⟩ =>
    show win0_6.index t 0 * 256 ≤ (i 0 : Nat) ∧ (i 0 : Nat) < win0_6.index t 0 * 256 + 256
    rw [(index_eq t).2.2.2.2.2.2.1]; omega
  | ⟨1, _⟩ =>
    show win0_6.index t 1 * 768 ≤ (i 1 : Nat) ∧ (i 1 : Nat) < win0_6.index t 1 * 768 + 768
    rw [(index_eq t).2.2.2.2.2.2.2]; omega

/-- The code array after the run. -/
theorem final_codes (c : Dev nD) : (dat0 (V1 m ρ) c).arrAt 5 cfg0.N = codes m c :=
  (dat0 (V1 m ρ) c).arrAt_eq_of_cover 5 (codes m c) (fun t _ => flushed_codes m ρ c t) cover5

/-- The activation array after the run. -/
theorem final_acts (c : Dev nD) : (dat0 (V1 m ρ) c).arrAt 6 cfg0.N = acts m c :=
  (dat0 (V1 m ρ) c).arrAt_eq_of_cover 6 (acts m c) (fun t _ => flushed_acts m ρ c t) cover6

end Cert.KernelIdeal.Layer1
-- ==== Proof.Finish2.lean ====
/- The code of the second layer's last point, read row by row. -/
module

public import proofs.«01_k».proof.Proof.Points2
public import proofs.«01_k».proof.Proof.Rows
public import proofs.«01_k».proof.Proof.Layer1

@[expose] public section

noncomputable section

open Idealize.ShloMosaic Idealize.ShloMosaic.TcCoe Idealize.SL.Sem
open Idealize.ShloMosaic.ValueIdx

namespace Cert.KernelIdeal.Layer2

open Cert.KernelIdeal Cert.KernelIdeal.Gen Cert.KernelIdeal.Calls Cert.Spec

/-- A row operand broadcast down the rows. -/
theorem row (x : IVec S1x2880 32) (r : Fin 256) (q : Fin 2880) :
    broadcastTo S256x2880 x broadcasts_S1x2880_S256x2880 (ix2 r q) = x (ix2 0 q) :=
  bcast_row (by norm_num) x broadcasts_S1x2880_S256x2880 r q

/-- A column operand broadcast along the columns. -/
theorem column (x : IVec S256x1 32) (r : Fin 256) (q : Fin 2880) :
    broadcastTo S256x2880 x broadcasts_S256x1_S256x2880 (ix2 r q) = x (ix2 r 0) :=
  bcast_col (by norm_num) x broadcasts_S256x1_S256x2880 r q

/-- The rescaling of a block by row operands. -/
def requantV (v : IVec S256x2880 32) (m k : IVec S1x2880 32) : IVec S256x2880 32 :=
  shrsi
    (addi (muli (shrsi v (broadcastTo S256x2880 (minsi k (broadcast S1x2880 15#32)) broadcasts_S1x2880_S256x2880)) (broadcastTo S256x2880 m broadcasts_S1x2880_S256x2880))
      (shrsi
        (addi (muli (andi v (broadcastTo S256x2880 (subi (shli (broadcast S1x2880 1#32) (minsi k (broadcast S1x2880 15#32))) (broadcast S1x2880 1#32)) broadcasts_S1x2880_S256x2880)) (broadcastTo S256x2880 m broadcasts_S1x2880_S256x2880))
          (broadcastTo S256x2880 (shli (broadcast S1x2880 1#32) (subi k (broadcast S1x2880 1#32))) broadcasts_S1x2880_S256x2880))
        (broadcastTo S256x2880 (minsi k (broadcast S1x2880 15#32)) broadcasts_S1x2880_S256x2880)))
    (broadcastTo S256x2880 (subi k (minsi k (broadcast S1x2880 15#32))) broadcasts_S1x2880_S256x2880)

/-- The rescaling of a block at a row and a column. -/
theorem requantV_apply (v : IVec S256x2880 32) (m k : IVec S1x2880 32) (r : Fin 256) (q : Fin 2880) :
    requantV v m k (ix2 r q) = requant .vector (v (ix2 r q)) (m (ix2 0 q)) (k (ix2 0 q)) :=
  congrArg₂ (IntOp.shrsi .vector)
    (congrArg₂ IntOp.addi (congrArg₂ IntOp.muli (congrArg (IntOp.shrsi .vector _) (row _ r q)) (row m r q))
      (congrArg₂ (IntOp.shrsi .vector)
        (congrArg₂ IntOp.addi (congrArg₂ IntOp.muli (congrArg (IntOp.andi _) (row _ r q)) (row m r q)) (row _ r q))
        (row _ r q)))
    (row _ r q)

/-- The residual sum at a row and a column. -/
theorem pay4_apply (A : IVec S256x2880 32) (M K : IVec S1x2880 32) (X : IVec S256x2880 8) (r : Fin 256) (q : Fin 2880) :
    k1_pay4 (F := Ideal) A M K X (ix2 r q)
      = IntOp.addi (requant .vector (A (ix2 r q)) (M (ix2 0 q)) (K (ix2 0 q))) (IntOp.shli .vector ((X (ix2 r q)).signExtend 32) 4#32) := by
  have hM : shapeCast S1x2880 M shapeCasts_S1x2880_S1x2880 = M := shapeCast_self _ _
  have hK : shapeCast S1x2880 K shapeCasts_S1x2880_S1x2880 = K := shapeCast_self _ _
  have hX : shapeCast S256x2880 X shapeCasts_S256x2880_S256x2880 = X := shapeCast_self _ _
  unfold k1_pay4
  rw [hM, hK, hX]
  exact congrArg₂ IntOp.addi (requantV_apply A M K r q) rfl

/-- The index of a row's element is the row with the column put in. -/
theorem lift_eq (h : S256x2880.Reduces [1] S256) (r : Fin 256) (k : Fin 2880) : h.lift (ix1 r) k = ix2 r k := by
  funext a
  apply Fin.ext
  refine (h.lift_val (ix1 r) (k : Fin (S256x2880.size 1)) a).trans ?_
  match a with
  | ⟨0, _⟩ => rfl
  | ⟨1, _⟩ => rfl

/-- Row sums kept as a column. -/
theorem sums (x : IVec S256x2880 32) (r : Fin 256) :
    shapeCast S256x1 (multiReductionI .add [1] S256 x 0#32 reduces_S256x2880_S256 rfl) shapeCasts_S256_S256x1 (ix2 r 0) = ∑ k : Fin 2880, x (ix2 r k) := by
  have e := shapeCast_apply (multiReductionI .add [1] S256 x 0#32 reduces_S256x2880_S256 rfl) shapeCasts_S256_S256x1 (ix2 r 0) (ix1 r) (by
    rw [Shape.rowMajor_val_one, Shape.rowMajor_val_two]
    show r.val = r.val * 1 + 0
    omega)
  refine e.trans ((congrFun (multiReductionI_eq_reduceFold .add x 0#32 reduces_S256x2880_S256 rfl) (ix1 r)).trans ?_)
  refine (reduceFold_add_eq_sum reduces_S256x2880_S256 (0#32) x (ix1 r)).trans ?_
  rw [reduces_S256x2880_S256.sum_filter_drop_single x (ix1 r)]
  refine (zero_add _).trans (Finset.sum_congr rfl fun k _ => ?_)
  exact congrArg x (lift_eq _ r k)

/-- Row maxima kept as a column. -/
theorem tops (x : IVec S256x2880 32) (r : Fin 256) :
    shapeCast S256x1 (multiReductionI .maxsi [1] S256 x 2147483648#32 reduces_S256x2880_S256 rfl) shapeCasts_S256_S256x1 (ix2 r 0)
      = (Finset.univ : Finset (Fin 2880)).fold IKind.maxsi.op 2147483648#32 fun k => x (ix2 r k) := by
  classical
  have e := shapeCast_apply (multiReductionI .maxsi [1] S256 x 2147483648#32 reduces_S256x2880_S256 rfl) shapeCasts_S256_S256x1 (ix2 r 0) (ix1 r) (by
    rw [Shape.rowMajor_val_one, Shape.rowMajor_val_two]
    show r.val = r.val * 1 + 0
    omega)
  refine e.trans ((multiReductionI_eq_fold .maxsi x 2147483648#32 reduces_S256x2880_S256 rfl (ix1 r)).trans ?_)
  refine (reduces_S256x2880_S256.fold_filter_drop_single _ _ x (ix1 r)).trans ?_
  exact congrArg (fun f => (Finset.univ : Finset (Fin 2880)).fold IKind.maxsi.op 2147483648#32 f) (funext fun k => congrArg x (lift_eq _ r k))

/-- The row's rounded total. -/
theorem pay5_apply (A : IVec S256x2880 32) (M K : IVec S1x2880 32) (X : IVec S256x2880 8) (r : Fin 256) :
    k1_pay5 (F := Ideal) A M K X (ix2 r 0) = IntOp.addi (∑ k, k1_pay4 (F := Ideal) A M K X (ix2 r k)) 1440#32 :=
  congrArg (fun t => IntOp.addi t 1440#32) (sums _ r)

/-- The row less its mean. -/
theorem pay8_apply (z : IVec S256x2880 32) (t : IVec S256x1 32) (r : Fin 256) (q : Fin 2880) :
    k1_pay8 (F := Ideal) z t (sitofp .f32 t) k1_pay7 (ix2 r q) = IntOp.subi (z (ix2 r q)) (meanK (t (ix2 r 0))) :=
  congrArg (IntOp.subi (z (ix2 r q))) (column _ r q)

/-- The shift from the largest size. -/
def shOf (w : BitVec 32) : BitVec 32 := IntOp.maxsi (IntOp.subi (IntOp.subi 32#32 (IntOp.ctlz w)) 9#32) 0#32

/-- A row's shift is the shift from its largest size. -/
theorem shR_eq (y : Fin 2880 → BitVec 32) : shR y = shOf (topR y) := rfl

/-- A row's shift. -/
theorem pay10_apply (z : IVec S256x2880 32) (t : IVec S256x1 32) (f e : FVec Ideal S256x1 .f32) (r : Fin 256) :
    k1_pay10 (F := Ideal) z t f e (ix2 r 0) = shR fun k => k1_pay8 (F := Ideal) z t f e (ix2 r k) := by
  unfold k1_pay10
  generalize k1_pay8 (F := Ideal) z t f e = y
  have h : shapeCast S256x1 (multiReductionI .maxsi [1] S256 (absi y) 2147483648#32 reduces_S256x2880_S256 rfl) shapeCasts_S256_S256x1 (ix2 r 0) = topR fun k => y (ix2 r k) :=
    tops (absi y) r
  rw [shR_eq, ← h]
  rfl

/-- A row's sum of squares. -/
theorem pay11_apply (z : IVec S256x2880 32) (t : IVec S256x1 32) (f e : FVec Ideal S256x1 .f32) (r : Fin 256) :
    k1_pay11 (F := Ideal) z t f e (ix2 r 0) = varR fun k => k1_pay8 (F := Ideal) z t f e (ix2 r k) := by
  have h10 := pay10_apply z t f e r
  unfold k1_pay11
  generalize k1_pay10 (F := Ideal) z t f e = s at *
  generalize k1_pay8 (F := Ideal) z t f e = y at *
  unfold varR
  rw [← h10]
  have h := sums (muli (shrsi y (broadcastTo S256x2880 s broadcasts_S256x1_S256x2880)) (shrsi y (broadcastTo S256x2880 s broadcasts_S256x1_S256x2880))) r
  have g : ∀ k, muli (shrsi y (broadcastTo S256x2880 s broadcasts_S256x1_S256x2880)) (shrsi y (broadcastTo S256x2880 s broadcasts_S256x1_S256x2880)) (ix2 r k)
      = IntOp.muli (IntOp.shrsi .vector (y (ix2 r k)) (s (ix2 r 0))) (IntOp.shrsi .vector (y (ix2 r k)) (s (ix2 r 0))) := fun k =>
    congrArg₂ IntOp.muli (congrArg (IntOp.shrsi .vector _) (column s r k)) (congrArg (IntOp.shrsi .vector _) (column s r k))
  rw [← Finset.sum_congr rfl fun k _ => g k, ← h]
  rfl

/-- A row's divisor. -/
theorem pay24_apply (sh r l : IVec S256x1 32) (i : S256x1.Idx) :
    k1_pay24 sh (k1_pay19 r l k1_pay14) (k1_pay20 r l k1_pay14) (k1_pay21 r l k1_pay14) (k1_pay22 r l k1_pay14) k1_pay23 i
      = IntOp.shli .vector (IntOp.addi (sqEnd (sqR2 (r i) (l i)) (sqD2 (r i) (l i))) 1#32) (sh i) := rfl

/-- The division of the largest word, element by element, and the normalised row rescaled. -/
theorem pay36_apply (d : IVec S256x1 32) (y : IVec S256x2880 32) (MG KG : IVec S1x2880 32) (r : Fin 256) (q : Fin 2880) :
    k1_pay36 (F := Ideal) d (k1_pay31 (F := Ideal) d (cmpi .slt d (broadcast S256x1 0#32)) k1_pay26) (k1_pay32 (F := Ideal) d (cmpi .slt d (broadcast S256x1 0#32)) k1_pay26) (k1_pay33 d) (k1_pay34 d) k1_pay35 y MG KG (ix2 r q)
      = requant .vector (IntOp.shrsi .vector (IntOp.muli (y (ix2 r q)) (int31K (d (ix2 r 0)))) 16#32) (MG (ix2 0 q)) (KG (ix2 0 q)) := by
  have hM : shapeCast S1x2880 MG shapeCasts_S1x2880_S1x2880 = MG := shapeCast_self _ _
  have hK : shapeCast S1x2880 KG shapeCasts_S1x2880_S1x2880 = KG := shapeCast_self _ _
  unfold k1_pay36
  rw [hM, hK]
  refine (requantV_apply _ MG KG r q).trans ?_
  refine congrArg (fun w => requant .vector (IntOp.shrsi .vector (IntOp.muli (y (ix2 r q)) w) 16#32) (MG (ix2 0 q)) (KG (ix2 0 q))) ?_
  exact column _ r q

/-- The last point's result at a row and a column. -/
theorem finish_apply (A : IVec S256x2880 32) (X : IVec S256x2880 8) (M K MG KG BQ : IVec S1x2880 32) (r : Fin 256) (q : Fin 2880) :
    finish A X M K MG KG BQ (ix2 r q)
      = outR (cenR fun k => IntOp.addi (requant .vector (A (ix2 r k)) (M (ix2 0 k)) (K (ix2 0 k))) (IntOp.shli .vector ((X (ix2 r k)).signExtend 32) 4#32))
          (MG (ix2 0 q)) (KG (ix2 0 q)) (BQ (ix2 0 q)) q := by
  have hB : shapeCast S1x2880 BQ shapeCasts_S1x2880_S1x2880 = BQ := shapeCast_self _ _
  have hY : ∀ k, k1_pay8 (F := Ideal) (k1_pay4 (F := Ideal) A M K X) (k1_pay5 (F := Ideal) A M K X) (k1_pay6 (F := Ideal) A M K X) k1_pay7 (ix2 r k)
      = cenR (fun k => IntOp.addi (requant .vector (A (ix2 r k)) (M (ix2 0 k)) (K (ix2 0 k))) (IntOp.shli .vector ((X (ix2 r k)).signExtend 32) 4#32)) k := fun k => by
    refine (pay8_apply _ _ r k).trans ?_
    rw [pay5_apply, mean_eq]
    unfold cenR
    have hz : (fun k => k1_pay4 (F := Ideal) A M K X (ix2 r k)) = fun k => IntOp.addi (requant .vector (A (ix2 r k)) (M (ix2 0 k)) (K (ix2 0 k))) (IntOp.shli .vector ((X (ix2 r k)).signExtend 32) 4#32) :=
      funext fun k => pay4_apply A M K X r k
    rw [hz, pay4_apply]
  have hY' := funext hY
  unfold finish
  generalize k1_pay4 (F := Ideal) A M K X = z at *
  generalize k1_pay5 (F := Ideal) A M K X = t at *
  generalize k1_pay6 (F := Ideal) A M K X = f at *
  generalize (k1_pay7 (F := Ideal)) = e at *
  generalize cenR (fun k => IntOp.addi (requant .vector (A (ix2 r k)) (M (ix2 0 k)) (K (ix2 0 k))) (IntOp.shli .vector ((X (ix2 r k)).signExtend 32) 4#32)) = Y at *
  have hsh := (pay10_apply z t f e r).trans (congrArg shR hY')
  have hvar := (pay11_apply z t f e r).trans (congrArg varR hY')
  have hr : k1_pay12 (F := Ideal) z t f e (ix2 r 0) = sq0K (varR Y) := by rw [← hvar]; rfl
  have hl : k1_pay13 (F := Ideal) z t f e (ix2 r 0) = IntOp.subi (varR Y) (IntOp.muli (sq0K (varR Y)) (sq0K (varR Y))) := by
    rw [← hr, ← hvar]; rfl
  have h9 : k1_pay9 (F := Ideal) z t f e = k1_pay8 (F := Ideal) z t f e := shapeCast_self _ _
  have hd := pay24_apply (k1_pay10 (F := Ideal) z t f e) (k1_pay12 (F := Ideal) z t f e) (k1_pay13 (F := Ideal) z t f e) (ix2 r 0)
  rw [hsh, hr, hl] at hd
  have hd' := hd.trans (div_eq Y)
  rw [h9]
  have h25 : ∀ d, k1_pay25 (k1_pay10 (F := Ideal) z t f e) (k1_pay19 (k1_pay12 (F := Ideal) z t f e) (k1_pay13 (F := Ideal) z t f e) k1_pay14)
      (k1_pay20 (k1_pay12 (F := Ideal) z t f e) (k1_pay13 (F := Ideal) z t f e) k1_pay14) (k1_pay21 (k1_pay12 (F := Ideal) z t f e) (k1_pay13 (F := Ideal) z t f e) k1_pay14)
      (k1_pay22 (k1_pay12 (F := Ideal) z t f e) (k1_pay13 (F := Ideal) z t f e) k1_pay14) k1_pay23 = d → d = cmpi .slt (k1_pay24 (k1_pay10 (F := Ideal) z t f e) (k1_pay19 (k1_pay12 (F := Ideal) z t f e) (k1_pay13 (F := Ideal) z t f e) k1_pay14)
      (k1_pay20 (k1_pay12 (F := Ideal) z t f e) (k1_pay13 (F := Ideal) z t f e) k1_pay14) (k1_pay21 (k1_pay12 (F := Ideal) z t f e) (k1_pay13 (F := Ideal) z t f e) k1_pay14)
      (k1_pay22 (k1_pay12 (F := Ideal) z t f e) (k1_pay13 (F := Ideal) z t f e) k1_pay14) k1_pay23) (broadcast S256x1 0#32) := fun d h => h ▸ rfl
  rw [h25 _ rfl]
  generalize k1_pay24 _ _ _ _ _ _ = D at *
  have h37 : k1_pay37 (F := Ideal) BQ (ix2 r q) = BQ (ix2 0 q) := by
    unfold k1_pay37; rw [hB]; exact row BQ r q
  have h36 := pay36_apply D (k1_pay8 (F := Ideal) z t f e) MG KG r q
  rw [hd', hY q, int31_eq] at h36
  unfold outR
  rw [← h36, ← h37]
  rfl

end Cert.KernelIdeal.Layer2

end
-- ==== Proof.Layer2.lean ====
/- The second layer's kernel read as a function of its arguments: the ten grid points add up one dot product and
   the last one normalises it. -/
module

public import proofs.«01_k».proof.Proof.Finish2
public import proofs.«01_k».proof.Proof.Run

@[expose] public section

noncomputable section

open Idealize.ShloMosaic Idealize.ShloMosaic.TcCoe Idealize.SL.Sem
open Idealize.ShloMosaic.ValueIdx

namespace Cert.KernelIdeal.Layer2

open Cert.KernelIdeal Cert.KernelIdeal.Gen Cert.KernelIdeal.Calls Cert.Spec

/-- The dot product of a block with whole operands, at a row and a column. -/
theorem dot_apply {M K N : ℕ} (hK : K ≤ 1024) (A : IVec ⟨2, ![M, K]⟩ 8) (W : IVec ⟨2, ![K, N]⟩ 8) (r : Fin M) (c : Fin N) :
    fptosi 32 (roundeven (matmul (F := Ideal) (DotDims.plain M K N) none (sitofp (F := Ideal) .bf16 A) (sitofp (F := Ideal) .bf16 W)
      (constant ⟨2, ![M, N]⟩ .f32 0x00000000#32))) (ix2 r c)
      = ∑ k : Fin K, mul8 (A (ix2 r k)) (W (ix2 k c)) := by
  rw [← part_eq hK, ← c0]
  show Ideal.fptosi 32 (Ideal.liftRound Ideal.roundHalfEven (FloatOps.matmul (F := Ideal) (DotDims.plain M K N) none _ _ _ (ix2 r c))) = _
  rw [Ideal.matmul_plain_apply]
  rfl

/-- The first accumulator is the bias. -/
theorem pay1_apply (B : IVec S1x2880 32) (r : Fin 256) (q : Fin 2880) : k1_pay1 (F := Ideal) B (ix2 r q) = B (ix2 0 q) := by
  have h : ∀ h, shapeCast S1x2880 B h = B := fun h => shapeCast_self _ _
  have h' : ∀ x : IVec S256x2880 32, ∀ h, shapeCast S256x2880 x h = x := fun x h => shapeCast_self _ _
  unfold k1_pay1
  rw [h, h, h']
  exact row B r q

/-- A point adds a block's dot product to the accumulator. -/
theorem pay2_apply (A : IVec S256x2880 32) (H : IVec S256x768 8) (W : IVec S768x2880 8) (r : Fin 256) (q : Fin 2880) :
    k1_pay2 (F := Ideal) A H W (ix2 r q) = A (ix2 r q) + ∑ k : Fin 768, mul8 (H (ix2 r k)) (W (ix2 k q)) := by
  have h' : ∀ x : IVec S256x2880 32, ∀ h, shapeCast S256x2880 x h = x := fun x h => shapeCast_self _ _
  have h'' : ∀ h, shapeCast S256x768 H h = H := fun h => shapeCast_self _ _
  unfold k1_pay2
  rw [h', h'']
  exact congrArg (IntOp.addi (A (ix2 r q))) (dot_apply (by norm_num) H W r q)

/-! ## The blocks a grid point reads -/

variable (m : (ℓ : Loc nD τ sig) → Buf (Elt Ideal) ℓ) (ρ : Dev nD → PrngReg)

/-- The codes entering the second layer are the ones the first leaves. -/
abbrev aH (c : Dev nD) : IVec S256x7680 8 := Layer1.acts m c
/-- The residual's codes are the first argument. -/
abbrev aX (c : Dev nD) : IVec S1x256x2880 8 := Layer1.aX m c
/-- The second layer's weights. -/
abbrev aW (c : Dev nD) : IVec S7680x2880 8 := m ((c : Thread nD τ).loc main_arg5)
/-- The second layer's bias. -/
abbrev aB (c : Dev nD) : IVec S2880 32 := m ((c : Thread nD τ).loc main_arg6)
/-- Its first rescaling's multipliers. -/
abbrev aM (c : Dev nD) : IVec S2880 32 := m ((c : Thread nD τ).loc main_arg7)
/-- Its first rescaling's shifts. -/
abbrev aK (c : Dev nD) : IVec S2880 32 := m ((c : Thread nD τ).loc main_arg8)
/-- Its second rescaling's multipliers. -/
abbrev aMG (c : Dev nD) : IVec S2880 32 := m ((c : Thread nD τ).loc main_arg9)
/-- Its second rescaling's shifts. -/
abbrev aKG (c : Dev nD) : IVec S2880 32 := m ((c : Thread nD τ).loc main_arg10)
/-- Its last bias. -/
abbrev aBQ (c : Dev nD) : IVec S2880 32 := m ((c : Thread nD τ).loc main_arg11)

/-- The call reads the codes the first one left. -/
theorem codes_in (c : Dev nD) : V3 m ρ c main_v4_1 = aH m c :=
  (W3_of m ρ c main_v4_1 (by decide)).trans ((W2_arr m ρ c 6).trans (Layer1.final_acts m ρ c))
/-- The call's weights are the argument. -/
theorem weights_in (c : Dev nD) : V3 m ρ c main_arg5 = aW m c := W3_args m ρ c main_arg5 (by decide)
/-- The call's residual operand is the argument with its unit axis dropped. -/
theorem row0 (c : Dev nD) : V3 m ρ c main_v0 = shapeCast S256x2880 (aX m c) shapeCasts_S1x256x2880_S256x2880 :=
  (W3_of m ρ c main_v0 (by decide)).trans ((W2_of m ρ c main_v0 (by decide +kernel)).trans (Layer1.row0 m ρ c))
/-- The operand of the second layer's bias is the argument as a row. -/
theorem row1 (c : Dev nD) : V3 m ρ c main_v5 = shapeCast S1x2880 (aB m c) shapeCasts_S2880_S1x2880 := by
  refine Eq.trans (b := shapeCast S1x2880 (W2 m ρ c (Proc.devRef .tc main_arg6) : IVec S2880 32) shapeCasts_S2880_S1x2880) ?_
    (congrArg (fun z : IVec S2880 32 => shapeCast S1x2880 z shapeCasts_S2880_S1x2880) (W2_args m ρ c main_arg6 (by decide)))
  show StableHlo.after hostOps1 (W2 m ρ c) (Proc.devRef .tc main_v5) = _
  after_results; rfl
/-- The operand of its first rescaling's multipliers is the argument as a row. -/
theorem row2 (c : Dev nD) : V3 m ρ c main_v6 = shapeCast S1x2880 (aM m c) shapeCasts_S2880_S1x2880 := by
  refine Eq.trans (b := shapeCast S1x2880 (W2 m ρ c (Proc.devRef .tc main_arg7) : IVec S2880 32) shapeCasts_S2880_S1x2880) ?_
    (congrArg (fun z : IVec S2880 32 => shapeCast S1x2880 z shapeCasts_S2880_S1x2880) (W2_args m ρ c main_arg7 (by decide)))
  show StableHlo.after hostOps1 (W2 m ρ c) (Proc.devRef .tc main_v6) = _
  after_results; rfl
/-- The operand of its first rescaling's shifts is the argument as a row. -/
theorem row3 (c : Dev nD) : V3 m ρ c main_v7 = shapeCast S1x2880 (aK m c) shapeCasts_S2880_S1x2880 := by
  refine Eq.trans (b := shapeCast S1x2880 (W2 m ρ c (Proc.devRef .tc main_arg8) : IVec S2880 32) shapeCasts_S2880_S1x2880) ?_
    (congrArg (fun z : IVec S2880 32 => shapeCast S1x2880 z shapeCasts_S2880_S1x2880) (W2_args m ρ c main_arg8 (by decide)))
  show StableHlo.after hostOps1 (W2 m ρ c) (Proc.devRef .tc main_v7) = _
  after_results; rfl
/-- The operand of its second rescaling's multipliers is the argument as a row. -/
theorem row4 (c : Dev nD) : V3 m ρ c main_v8 = shapeCast S1x2880 (aMG m c) shapeCasts_S2880_S1x2880 := by
  refine Eq.trans (b := shapeCast S1x2880 (W2 m ρ c (Proc.devRef .tc main_arg9) : IVec S2880 32) shapeCasts_S2880_S1x2880) ?_
    (congrArg (fun z : IVec S2880 32 => shapeCast S1x2880 z shapeCasts_S2880_S1x2880) (W2_args m ρ c main_arg9 (by decide)))
  show StableHlo.after hostOps1 (W2 m ρ c) (Proc.devRef .tc main_v8) = _
  after_results; rfl
/-- The operand of its second rescaling's shifts is the argument as a row. -/
theorem row5 (c : Dev nD) : V3 m ρ c main_v9 = shapeCast S1x2880 (aKG m c) shapeCasts_S2880_S1x2880 := by
  refine Eq.trans (b := shapeCast S1x2880 (W2 m ρ c (Proc.devRef .tc main_arg10) : IVec S2880 32) shapeCasts_S2880_S1x2880) ?_
    (congrArg (fun z : IVec S2880 32 => shapeCast S1x2880 z shapeCasts_S2880_S1x2880) (W2_args m ρ c main_arg10 (by decide)))
  show StableHlo.after hostOps1 (W2 m ρ c) (Proc.devRef .tc main_v9) = _
  after_results; rfl
/-- The operand of its last bias is the argument as a row. -/
theorem row6 (c : Dev nD) : V3 m ρ c main_v10 = shapeCast S1x2880 (aBQ m c) shapeCasts_S2880_S1x2880 := by
  refine Eq.trans (b := shapeCast S1x2880 (W2 m ρ c (Proc.devRef .tc main_arg11) : IVec S2880 32) shapeCasts_S2880_S1x2880) ?_
    (congrArg (fun z : IVec S2880 32 => shapeCast S1x2880 z shapeCasts_S2880_S1x2880) (W2_args m ρ c main_arg11 (by decide)))
  show StableHlo.after hostOps1 (W2 m ρ c) (Proc.devRef .tc main_v10) = _
  after_results; rfl

/-- The grid has ten points. -/
theorem t_lt (t : Fin cfg1.N) : t.val < 10 := by
  have h := t.isLt
  have hN : cfg1.N = 10 := N_1
  omega

/-- The block index of each window at a point: the codes move along their columns and the weights along their rows. -/
theorem index_eq : ∀ t : Fin cfg1.N,
    (win1_0.index t 0 = 0 ∧ win1_0.index t 1 = t.val)
    ∧ (win1_1.index t 0 = t.val ∧ win1_1.index t 1 = 0)
    ∧ (win1_2.index t 0 = 0 ∧ win1_2.index t 1 = 0)
    ∧ (win1_3.index t 0 = 0 ∧ win1_3.index t 1 = 0)
    ∧ (win1_4.index t 0 = 0 ∧ win1_4.index t 1 = 0)
    ∧ (win1_5.index t 0 = 0 ∧ win1_5.index t 1 = 0)
    ∧ (win1_6.index t 0 = 0 ∧ win1_6.index t 1 = 0)
    ∧ (win1_7.index t 0 = 0 ∧ win1_7.index t 1 = 0)
    ∧ (win1_8.index t 0 = 0 ∧ win1_8.index t 1 = 0) :=
  (by decide +kernel : ∀ t : Fin grid1.N,
    (win1_0.index t 0 = 0 ∧ win1_0.index t 1 = t.val)
    ∧ (win1_1.index t 0 = t.val ∧ win1_1.index t 1 = 0)
    ∧ (win1_2.index t 0 = 0 ∧ win1_2.index t 1 = 0)
    ∧ (win1_3.index t 0 = 0 ∧ win1_3.index t 1 = 0)
    ∧ (win1_4.index t 0 = 0 ∧ win1_4.index t 1 = 0)
    ∧ (win1_5.index t 0 = 0 ∧ win1_5.index t 1 = 0)
    ∧ (win1_6.index t 0 = 0 ∧ win1_6.index t 1 = 0)
    ∧ (win1_7.index t 0 = 0 ∧ win1_7.index t 1 = 0)
    ∧ (win1_8.index t 0 = 0 ∧ win1_8.index t 1 = 0))

/-- The place in the summed axis that place `k` of point `t`'s block is. -/
def place (t : Fin cfg1.N) (k : Fin 768) : Fin 7680 := ⟨t.val * 768 + k.val, by have := t_lt t; omega⟩

/-- A point's block of the codes. -/
theorem iblk0_apply (c : Dev nD) (t : Fin cfg1.N) (r : Fin 256) (k : Fin 768) :
    (iblk1 (V3 m ρ) c 0 t : IVec S256x768 8) (ix2 r k) = aH m c (ix2 r (place t k)) := by
  show V3 m ρ c main_v4_1 ((win1_0.rect t).emb (ix2 r k)) = _
  rw [codes_in]
  refine congrArg (aH m c) (funext fun a => Fin.ext ?_)
  match a with
  | ⟨0, _⟩ => exact win1_0.rect_emb_val_of_index_zero t 0 (index_eq t).1.1 (ix2 r k)
  | ⟨1, _⟩ =>
    have h1 := win1_0.rect_emb_val t (ix2 r k) 1
    rw [(index_eq t).1.2] at h1
    exact h1

/-- A point's block of the weights. -/
theorem iblk1_apply (c : Dev nD) (t : Fin cfg1.N) (k : Fin 768) (q : Fin 2880) :
    (iblk1 (V3 m ρ) c 1 t : IVec S768x2880 8) (ix2 k q) = aW m c (ix2 (place t k) q) := by
  show V3 m ρ c main_arg5 ((win1_1.rect t).emb (ix2 k q)) = _
  rw [weights_in]
  refine congrArg (aW m c) (funext fun a => Fin.ext ?_)
  match a with
  | ⟨1, _⟩ => exact win1_1.rect_emb_val_of_index_zero t 1 (index_eq t).2.1.2 (ix2 k q)
  | ⟨0, _⟩ =>
    have h1 := win1_1.rect_emb_val t (ix2 k q) 0
    rw [(index_eq t).2.1.1] at h1
    exact h1

/-- Every point reads all the residual. -/
theorem iblk2_apply (c : Dev nD) (t : Fin cfg1.N) (r : Fin 256) (q : Fin 2880) :
    (iblk1 (V3 m ρ) c 2 t : IVec S256x2880 8) (ix2 r q) = aX m c (ix3 0 r q) := by
  show V3 m ρ c main_v0 ((win1_2.rect t).emb (ix2 r q)) = _
  rw [row0]
  refine shapeCast_apply _ _ _ _ ?_
  rw [Shape.rowMajor_val_three, Shape.rowMajor_val_two]
  have h0 := win1_2.rect_emb_val_of_index_zero t 0 (index_eq t).2.2.1.1 (ix2 r q)
  have h1 := win1_2.rect_emb_val_of_index_zero t 1 (index_eq t).2.2.1.2 (ix2 r q)
  show (0 * 256 + r.val) * 2880 + q.val = ((win1_2.rect t).emb (ix2 r q) 0 : Nat) * 2880 + ((win1_2.rect t).emb (ix2 r q) 1 : Nat)
  rw [h0, h1]
  show (0 * 256 + r.val) * 2880 + q.val = r.val * 2880 + q.val
  omega

/-- A row operand read at an index whose row is the first. -/
theorem row_read (x : IVec S2880 32) (h : (S2880 : Shape).ShapeCasts S1x2880) (e : S1x2880.Idx) (q : Fin 2880) (h0 : (e 0 : Nat) = 0) (h1 : (e 1 : Nat) = q.val) :
    shapeCast S1x2880 x h e = x (ix1 q) := by
  refine shapeCast_apply _ _ _ _ ?_
  rw [Shape.rowMajor_val_one, Shape.rowMajor_val_two]
  show q.val = (e 0 : Nat) * 2880 + (e 1 : Nat)
  rw [h0, h1]
  omega

/-- Every point reads the whole row of the bias. -/
theorem iblk3_apply (c : Dev nD) (t : Fin cfg1.N) (q : Fin 2880) : (iblk1 (V3 m ρ) c 3 t : IVec S1x2880 32) (ix2 0 q) = aB m c (ix1 q) := by
  show V3 m ρ c main_v5 ((win1_3.rect t).emb (ix2 0 q)) = _
  rw [row1]
  exact row_read _ _ _ q (win1_3.rect_emb_val_of_index_zero t 0 (index_eq t).2.2.2.1.1 (ix2 0 q)) (win1_3.rect_emb_val_of_index_zero t 1 (index_eq t).2.2.2.1.2 (ix2 0 q))

/-- Every point reads the whole row of the first rescaling's multipliers. -/
theorem iblk4_apply (c : Dev nD) (t : Fin cfg1.N) (q : Fin 2880) : (iblk1 (V3 m ρ) c 4 t : IVec S1x2880 32) (ix2 0 q) = aM m c (ix1 q) := by
  show V3 m ρ c main_v6 ((win1_4.rect t).emb (ix2 0 q)) = _
  rw [row2]
  exact row_read _ _ _ q (win1_4.rect_emb_val_of_index_zero t 0 (index_eq t).2.2.2.2.1.1 (ix2 0 q)) (win1_4.rect_emb_val_of_index_zero t 1 (index_eq t).2.2.2.2.1.2 (ix2 0 q))

/-- Every point reads the whole row of the first rescaling's shifts. -/
theorem iblk5_apply (c : Dev nD) (t : Fin cfg1.N) (q : Fin 2880) : (iblk1 (V3 m ρ) c 5 t : IVec S1x2880 32) (ix2 0 q) = aK m c (ix1 q) := by
  show V3 m ρ c main_v7 ((win1_5.rect t).emb (ix2 0 q)) = _
  rw [row3]
  exact row_read _ _ _ q (win1_5.rect_emb_val_of_index_zero t 0 (index_eq t).2.2.2.2.2.1.1 (ix2 0 q)) (win1_5.rect_emb_val_of_index_zero t 1 (index_eq t).2.2.2.2.2.1.2 (ix2 0 q))

/-- Every point reads the whole row of the second rescaling's multipliers. -/
theorem iblk6_apply (c : Dev nD) (t : Fin cfg1.N) (q : Fin 2880) : (iblk1 (V3 m ρ) c 6 t : IVec S1x2880 32) (ix2 0 q) = aMG m c (ix1 q) := by
  show V3 m ρ c main_v8 ((win1_6.rect t).emb (ix2 0 q)) = _
  rw [row4]
  exact row_read _ _ _ q (win1_6.rect_emb_val_of_index_zero t 0 (index_eq t).2.2.2.2.2.2.1.1 (ix2 0 q)) (win1_6.rect_emb_val_of_index_zero t 1 (index_eq t).2.2.2.2.2.2.1.2 (ix2 0 q))

/-- Every point reads the whole row of the second rescaling's shifts. -/
theorem iblk7_apply (c : Dev nD) (t : Fin cfg1.N) (q : Fin 2880) : (iblk1 (V3 m ρ) c 7 t : IVec S1x2880 32) (ix2 0 q) = aKG m c (ix1 q) := by
  show V3 m ρ c main_v9 ((win1_7.rect t).emb (ix2 0 q)) = _
  rw [row5]
  exact row_read _ _ _ q (win1_7.rect_emb_val_of_index_zero t 0 (index_eq t).2.2.2.2.2.2.2.1.1 (ix2 0 q)) (win1_7.rect_emb_val_of_index_zero t 1 (index_eq t).2.2.2.2.2.2.2.1.2 (ix2 0 q))

/-- Every point reads the whole row of the last bias. -/
theorem iblk8_apply (c : Dev nD) (t : Fin cfg1.N) (q : Fin 2880) : (iblk1 (V3 m ρ) c 8 t : IVec S1x2880 32) (ix2 0 q) = aBQ m c (ix1 q) := by
  show V3 m ρ c main_v10 ((win1_8.rect t).emb (ix2 0 q)) = _
  rw [row6]
  exact row_read _ _ _ q (win1_8.rect_emb_val_of_index_zero t 0 (index_eq t).2.2.2.2.2.2.2.2.1 (ix2 0 q)) (win1_8.rect_emb_val_of_index_zero t 1 (index_eq t).2.2.2.2.2.2.2.2.2 (ix2 0 q))

/-! ## The accumulator -/

/-- The products summed for a row and a column. -/
def prod (H : IVec S256x7680 8) (W : IVec S7680x2880 8) (r : Fin 256) (q : Fin 2880) (k : Fin 7680) : BitVec 32 :=
  mul8 (H (ix2 r k)) (W (ix2 k q))

/-- A point's dot product is its share of the products. -/
theorem share (c : Dev nD) (t : Fin cfg1.N) (r : Fin 256) (q : Fin 2880) :
    (∑ k : Fin 768, mul8 ((iblk1 (V3 m ρ) c 0 t : IVec S256x768 8) (ix2 r k)) ((iblk1 (V3 m ρ) c 1 t : IVec S768x2880 8) (ix2 k q)))
      = ∑ k : Fin 768, term (prod (aH m c) (aW m c) r q) (768 * t.val + k.val) := by
  refine Finset.sum_congr rfl fun k _ => ?_
  have h := t_lt t
  unfold term
  rw [iblk0_apply, iblk1_apply, dif_pos (show 768 * t.val + k.val < 7680 by omega)]
  have e : (⟨768 * t.val + k.val, by omega⟩ : Fin 7680) = place t k := Fin.ext (by show 768 * t.val + k.val = t.val * 768 + k.val; omega)
  rw [e]
  rfl

/-- The second part of a named pair. -/
theorem snd_of {α β : Type} {p : α × β} {a : α} {b : β} (h : p = (a, b)) : p.2 = b := h ▸ rfl
/-- What is left at a point depends on the point alone. -/
theorem outs_congr (V : (c : Dev nD) → (b : Ref sig .tc) → Buf (Elt Ideal) ((c : Thread nD τ).loc b)) (c : Dev nD) {i j : ℕ} (e : i = j) (hi : i < cfg1.N) (hj : j < cfg1.N) :
    outsAt1 (F := Ideal) V c i hi = outsAt1 (F := Ideal) V c j hj := by
  cases e; rfl
/-- The first part of a named pair. -/
theorem fst_of {α β : Type} {p : α × β} {a : α} {b : β} (h : p = (a, b)) : p.1 = a := h ▸ rfl

/-- The first point leaves the bias and its dot product in the accumulator, whatever the buffers held. -/
theorem step_A (V : (c : Dev nD) → (b : Ref sig .tc) → Buf (Elt Ideal) ((c : Thread nD τ).loc b)) (c : Dev nD) (t : Fin cfg1.N) (h0 : t.val % 10 = 0) (h1 : ¬t.val % 10 = 9) :
    (outsAt1 (F := Ideal) V c t.val t.isLt).2 = k1_pay2 (F := Ideal) (k1_pay1 (F := Ideal) (iblk1 V c 3 t)) (iblk1 V c 0 t) (iblk1 V c 1 t) := by
  exact (snd_of (outsAt1_A V c t h0 h1)).trans (sout_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t))

/-- A middle point adds its dot product to the accumulator. -/
theorem step_B (V : (c : Dev nD) → (b : Ref sig .tc) → Buf (Elt Ideal) ((c : Thread nD τ).loc b)) (c : Dev nD) (t : Fin cfg1.N) (h0 : ¬t.val % 10 = 0) (h1 : ¬t.val % 10 = 9) :
    (outsAt1 (F := Ideal) V c t.val t.isLt).2 = k1_pay2 (F := Ideal) (outsAt1 (F := Ideal) V c (t.val - 1) (Nat.lt_of_le_of_lt (Nat.sub_le _ _) t.isLt)).2 (iblk1 V c 0 t) (iblk1 V c 1 t) := by
  exact (snd_of (outsAt1_B V c t h0 h1)).trans (sout_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 (F := Ideal) V c (t.val - 1) (Nat.lt_of_le_of_lt (Nat.sub_le _ _) t.isLt)).2)

/-- The last point writes the result from the finished accumulator. -/
theorem step_C (V : (c : Dev nD) → (b : Ref sig .tc) → Buf (Elt Ideal) ((c : Thread nD τ).loc b)) (c : Dev nD) (t : Fin cfg1.N) (h0 : ¬t.val % 10 = 0) (h1 : t.val % 10 = 9) :
    (outsAt1 (F := Ideal) V c t.val t.isLt).1 = finish (k1_pay2 (F := Ideal) (outsAt1 (F := Ideal) V c (t.val - 1) (Nat.lt_of_le_of_lt (Nat.sub_le _ _) t.isLt)).2 (iblk1 V c 0 t) (iblk1 V c 1 t)) (iblk1 V c 2 t) (iblk1 V c 4 t) (iblk1 V c 5 t) (iblk1 V c 6 t) (iblk1 V c 7 t) (iblk1 V c 8 t) := by
  exact (fst_of (outsAt1_C V c t h0 h1)).trans (out_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 (F := Ideal) V c (t.val - 1) (Nat.lt_of_le_of_lt (Nat.sub_le _ _) t.isLt)).2)

/-- After each point but the last the accumulator is the bias and the products so far. -/
theorem acc_apply (c : Dev nD) (r : Fin 256) (q : Fin 2880) : ∀ (j : ℕ) (_ : j < 9) (h : j < cfg1.N),
    (outsAt1 (F := Ideal) (V3 m ρ) c j h).2 (ix2 r q)
      = aB m c (ix1 q) + ∑ s ∈ Finset.range (j + 1), ∑ k : Fin 768, term (prod (aH m c) (aW m c) r q) (768 * s + k.val)
  | 0, _, h => by
    have e := step_A (V3 m ρ) c ⟨0, h⟩ (Nat.zero_mod _) (by show ¬ 0 % 10 = 9; omega)
    dsimp only at e
    rw [e, pay2_apply, pay1_apply, iblk3_apply, share, Finset.sum_range_one]
  | j + 1, hj, h => by
    have ih := acc_apply c r q j (by omega) (Nat.lt_of_succ_lt h)
    have e := step_B (V3 m ρ) c ⟨j + 1, h⟩ (by show ¬ (j + 1) % 10 = 0; omega) (by show ¬ (j + 1) % 10 = 9; omega)
    dsimp only at e
    rw [e, pay2_apply, outs_congr (V3 m ρ) c (Nat.add_sub_cancel j 1) _ (Nat.lt_of_succ_lt h), ih, share, Finset.sum_range_succ _ (j + 1), add_assoc]

/-! ## The result -/

/-- A row of the residual sum. -/
def zrow (H : IVec S256x7680 8) (X : IVec S1x256x2880 8) (W : IVec S7680x2880 8) (B M K : IVec S2880 32) (r : Fin 256) (q : Fin 2880) : BitVec 32 :=
  IntOp.addi (requant .vector ((∑ k : Fin 7680, prod H W r q k) + B (ix1 q)) (M (ix1 q)) (K (ix1 q)))
    (IntOp.shli .vector ((X (ix3 0 r q)).signExtend 32) 4#32)

/-- The layer's result at a row and a column. -/
def outw (H : IVec S256x7680 8) (X : IVec S1x256x2880 8) (W : IVec S7680x2880 8) (B M K MG KG BQ : IVec S2880 32) (r : Fin 256) (q : Fin 2880) : BitVec 8 :=
  outR (cenR (zrow H X W B M K r)) (MG (ix1 q)) (KG (ix1 q)) (BQ (ix1 q)) q

/-- The array of results. -/
def result (c : Dev nD) : IVec S256x2880 8 := fun i =>
  outw (aH m c) (aX m c) (aW m c) (aB m c) (aM m c) (aK m c) (aMG m c) (aKG m c) (aBQ m c) (i 0) (i 1)

/-- The last point's result at a row and a column, from the accumulator the points before left. -/
theorem last_apply (c : Dev nD) (t : Fin cfg1.N) (ht : t.val = 9) (acc : Vec Ideal S256x2880 .i32) (r : Fin 256) (q : Fin 2880)
    (ih : ∀ q, acc (ix2 r q) = aB m c (ix1 q) + ∑ s ∈ Finset.range (8 + 1), ∑ k : Fin 768, term (prod (aH m c) (aW m c) r q) (768 * s + k.val)) :
    finish (k1_pay2 (F := Ideal) acc (iblk1 (V3 m ρ) c 0 t) (iblk1 (V3 m ρ) c 1 t)) (iblk1 (V3 m ρ) c 2 t) (iblk1 (V3 m ρ) c 4 t) (iblk1 (V3 m ρ) c 5 t) (iblk1 (V3 m ρ) c 6 t) (iblk1 (V3 m ρ) c 7 t) (iblk1 (V3 m ρ) c 8 t) (ix2 r q)
      = outw (aH m c) (aX m c) (aW m c) (aB m c) (aM m c) (aK m c) (aMG m c) (aKG m c) (aBQ m c) r q := by
  have hz : (fun k => IntOp.addi (requant .vector (k1_pay2 (F := Ideal) acc (iblk1 (V3 m ρ) c 0 t) (iblk1 (V3 m ρ) c 1 t) (ix2 r k)) ((iblk1 (V3 m ρ) c 4 t : IVec S1x2880 32) (ix2 0 k)) ((iblk1 (V3 m ρ) c 5 t : IVec S1x2880 32) (ix2 0 k)))
      (IntOp.shli .vector (((iblk1 (V3 m ρ) c 2 t : IVec S256x2880 8) (ix2 r k)).signExtend 32) 4#32)) = zrow (aH m c) (aX m c) (aW m c) (aB m c) (aM m c) (aK m c) r := funext fun k => by
    unfold zrow
    rw [iblk2_apply, iblk4_apply, iblk5_apply, pay2_apply, ih k, share, ht, add_assoc,
      ← Finset.sum_range_succ (fun s => ∑ j : Fin 768, term (prod (aH m c) (aW m c) r k) (768 * s + j.val)) 9, sum_7680, add_comm]
  rw [finish_apply, hz, iblk6_apply, iblk7_apply, iblk8_apply]
  rfl

/-- The result's window is the whole array. -/
theorem index9 : ∀ t : Fin cfg1.N, win1_9.index t 0 = 0 ∧ win1_9.index t 1 = 0 :=
  (by decide +kernel : ∀ t : Fin grid1.N, win1_9.index t 0 = 0 ∧ win1_9.index t 1 = 0)

/-- The last point leaves the array of results. -/
theorem last_result (c : Dev nD) (t : Fin cfg1.N) (ht : t.val = 9) : (outsAt1 (F := Ideal) (V3 m ρ) c t.val t.isLt).1 = result m c := by
  funext y
  obtain ⟨r, q, rfl⟩ : ∃ (r : Fin 256) (q : Fin 2880), y = ix2 r q := ⟨y 0, y 1, eq_ix2 y⟩
  have hN : cfg1.N = 10 := N_1
  have h8 : 8 < cfg1.N := by omega
  rw [step_C (V3 m ρ) c t (by omega) (by omega)]
  refine last_apply m ρ c t ht _ r q fun q => ?_
  refine Eq.trans ?_ (acc_apply m ρ c r q 8 (by omega) h8)
  have e : t.val - 1 = 8 := by omega
  exact congrArg (fun p : Vec Ideal S256x2880 .i8 × Vec Ideal S256x2880 .i32 => p.2 (ix2 r q)) (outs_congr (V3 m ρ) c e _ h8)

/-- The point that writes back the result writes the array of results. -/
theorem flushed_result (c : Dev nD) (t : Fin cfg1.N) (hf : (cfg1.win 9).flush t = true) :
    (dat1 (V3 m ρ) c).flushed 9 t = ((cfg1.win 9).blk t).view.read (Elt Ideal) (result m c) := by
  have h9 : t.val = 9 := by have h := (flush1_9 t).mp hf; have := t_lt t; omega
  show (cfg1.win 9).cut (grid1.coords t) ((dat1 (V3 m ρ) c).after 9 t) = _
  rw [after1_9, last_result m ρ c t h9]
  have h : ∀ y : S256x2880.Idx, result m c y = result m c ((win1_9.rect t).emb y) := fun y => by
    refine congrArg (result m c) (funext fun a => Fin.ext ?_)
    match a with
    | ⟨0, _⟩ => exact (win1_9.rect_emb_val_of_index_zero t 0 (index9 t).1 y).symm
    | ⟨1, _⟩ => exact (win1_9.rect_emb_val_of_index_zero t 1 (index9 t).2 y).symm
  exact funext h

/-- The last point writes back the whole array. -/
theorem cover9 (i : S256x2880.Idx) : ∃ t : Fin cfg1.N, (cfg1.win 9).flush t = true ∧ i ∈ ((cfg1.win 9).blk t).view.set := by
  have i0 : (i 0 : Nat) < 256 := (i 0).isLt
  have i1 : (i 1 : Nat) < 2880 := (i 1).isLt
  have hN : cfg1.N = 10 := N_1
  refine ⟨⟨9, by omega⟩, (flush1_9 _).mpr rfl, ?_⟩
  generalize (⟨9, by omega⟩ : Fin cfg1.N) = t
  show i ∈ ((View.whole main_v11).slice (win1_9.rect t)).set
  rw [View.set_slice_whole, Rect.mem_set_unit]
  intro a
  match a with
  | ⟨0, _⟩ =>
    show win1_9.index t 0 * 256 ≤ (i 0 : Nat) ∧ (i 0 : Nat) < win1_9.index t 0 * 256 + 256
    rw [(index9 t).1]; omega
  | ⟨1, _⟩ =>
    show win1_9.index t 1 * 2880 ≤ (i 1 : Nat) ∧ (i 1 : Nat) < win1_9.index t 1 * 2880 + 2880
    rw [(index9 t).2]; omega

/-- The result array after the second call. -/
theorem final_result (c : Dev nD) : (dat1 (V3 m ρ) c).arrAt 9 cfg1.N = result m c :=
  (dat1 (V3 m ρ) c).arrAt_eq_of_cover 9 (result m c) (fun t hf => flushed_result m ρ c t hf) cover9

end Cert.KernelIdeal.Layer2

end
-- ==== Proof.Ref1Value.lean ====
/- The reference's first layer read as a function of the arguments, index by index. -/
module

public import proofs.«01_k».proof.Proof.Layer1
public import proofs.«01_k».proof.Proof.Gen.ReferenceIdeal.Run
public import proofs.«01_k».proof.Proof.Gen.ReferenceIdeal.Read

@[expose] public section

noncomputable section

open Idealize.ShloMosaic Idealize.ShloMosaic.TcCoe Idealize.SL.Sem
open Idealize.ShloMosaic.ValueIdx

namespace Cert.Spec

/-- Word addition commutes: a reduction by it may be read in any order. -/
instance addi_comm : Std.Commutative (IntOp.addi : BitVec 32 → BitVec 32 → BitVec 32) := ⟨fun a b => BitVec.add_comm a b⟩
/-- Word addition associates. -/
instance addi_assoc : Std.Associative (IntOp.addi : BitVec 32 → BitVec 32 → BitVec 32) := ⟨fun a b c => BitVec.add_assoc a b c⟩

/-- Folding word addition from zero is the sum. -/
theorem fold_addi {ι : Type} (s : Finset ι) (f : ι → BitVec 32) : s.fold IntOp.addi 0#32 f = ∑ i ∈ s, f i := by
  classical
  induction s using Finset.induction_on with
  | empty => rfl
  | insert a s ha ih => rw [Finset.fold_insert ha, Finset.sum_insert ha, ih]; rfl

end Cert.Spec

namespace Cert.ReferenceIdeal.Layer

open Cert.ReferenceIdeal Cert.ReferenceIdeal.Read Cert.Spec Cert.KernelIdeal.Layer1

variable (x0 : IVec S1x256x2880 8) (x1 : IVec S2880x7680 8) (x2 x3 x4 : IVec S7680 32)

/-- The product the reference sums, at a row, a depth and a column. -/
theorem prod_apply (r : Fin 256) (k : Fin 2880) (q : Fin 7680) :
    val_main_v6 (F := Ideal) x0 x1 (ix4 0 r k q) = mul8 (x0 (ix3 0 r k)) (x1 (ix2 k q)) := by
  have e1 : idx_main_v1 (idx_main_v4 (ix4 0 r k q)) = ix3 0 r k := funext fun d => by
    match d with | ⟨0, _⟩ => rfl | ⟨1, _⟩ => rfl | ⟨2, _⟩ => rfl
  have e2 : idx_main_v3 (idx_main_v5 (ix4 0 r k q)) = ix2 k q := funext fun d => by
    match d with | ⟨0, _⟩ => rfl | ⟨1, _⟩ => rfl
  rw [val_main_v6_apply, val_main_v4_apply, val_main_v5_apply, val_main_v1_apply, val_main_v3_apply, e1, e2]
  rfl

/-- The reference's accumulated word at a row and a column. -/
theorem word_apply (r : Fin 256) (q : Fin 7680) : val_main_v10 (F := Ideal) x0 x1 x2 (ix3 0 r q) = word x0 x1 x2 r q := by
  have e8 : idx_main_v8 (idx_main_v9 (ix3 0 r q)) = ix1 q := funext fun d => by match d with | ⟨0, _⟩ => rfl
  have hr : (S1x256x2880x7680 : Shape).Reduces [2] S1x256x7680 := by decide
  rw [val_main_v10_apply, val_main_v9_apply, val_main_v8_apply, e8]
  refine congrArg (fun z => z + x2 (ix1 q)) ?_
  unfold val_main_v7
  rw [Host.reduce_eq_fold_single IntOp.addi _ _ _ hr]
  refine (fold_addi Finset.univ _).trans ?_
  refine Finset.sum_congr rfl fun k _ => ?_
  refine Eq.trans (congrArg (val_main_v6 (F := Ideal) x0 x1) (?_ : _ = ix4 0 r k q)) (prod_apply x0 x1 r k q)
  funext d
  refine Fin.ext ((hr.lift_val _ _ d).trans ?_)
  match d with | ⟨0, _⟩ => rfl | ⟨1, _⟩ => rfl | ⟨2, _⟩ => rfl | ⟨3, _⟩ => rfl

/-- The reference's clipped code at a row and a column. -/
theorem code_apply (r : Fin 256) (q : Fin 7680) :
    val_main_v44 (F := Ideal) x0 x1 x2 x3 x4 (ix3 0 r q) = code x0 x1 x2 x3 x4 r q := by
  have e21 : idx_main_v21 (idx_main_v22 (ix3 0 r q)) = ix1 q := funext fun d => by match d with | ⟨0, _⟩ => rfl
  have e24 : idx_main_v24 (idx_main_v25 (ix3 0 r q)) = ix1 q := funext fun d => by match d with | ⟨0, _⟩ => rfl
  have e27 : idx_main_v27 (idx_main_v28 (ix3 0 r q)) = ix1 q := funext fun d => by match d with | ⟨0, _⟩ => rfl
  have e30 : idx_main_v30 (idx_main_v31 (ix3 0 r q)) = ix1 q := funext fun d => by match d with | ⟨0, _⟩ => rfl
  have e33 : idx_main_v33 (idx_main_v34 (ix3 0 r q)) = ix1 q := funext fun d => by match d with | ⟨0, _⟩ => rfl
  have e36 : idx_main_v36 (idx_main_v37 (ix3 0 r q)) = ix1 q := funext fun d => by match d with | ⟨0, _⟩ => rfl
  have e41 : idx_main_v41 (idx_main_v42 (ix3 0 r q)) = ix1 q := funext fun d => by match d with | ⟨0, _⟩ => rfl
  simp only [
    val_main_c_0_apply, val_main_v11_apply, val_main_v12_apply, val_main_c_1_apply, val_main_v13_apply,
    val_main_v14_apply, val_main_c_2_apply, val_main_v15_apply, val_main_v16_apply, val_main_c_3_apply,
    val_main_v17_apply, val_main_v18_apply, val_main_c_4_apply, val_main_v19_apply, val_main_v20_apply,
    val_main_v21_apply, val_main_v22_apply, val_main_v23_apply, val_main_v24_apply, val_main_v25_apply,
    val_main_v26_apply, val_main_v27_apply, val_main_v28_apply, val_main_v29_apply, val_main_v30_apply,
    val_main_v31_apply, val_main_v32_apply, val_main_v33_apply, val_main_v34_apply, val_main_v35_apply,
    val_main_v36_apply, val_main_v37_apply, val_main_v38_apply, val_main_v39_apply, val_main_v40_apply,
    val_main_v41_apply, val_main_v42_apply, val_main_v43_apply, val_main_c_5_apply, val_main_c_6_apply,
    val_main_call0_v0_apply, val_main_call0_v1_apply, val_main_call0_v2_apply, val_main_call0_v3_apply,
    val_main_call0_v4_apply, val_main_v44_apply, e21, e24, e27, e30, e33, e36, e41]
  rw [word_apply]
  unfold code
  rw [requant_unit .vector .host]
  rfl

/-- The reference's activation at a row and a column. -/
theorem act_apply (r : Fin 256) (q : Fin 7680) :
    val_main_v82 (F := Ideal) x0 x1 x2 x3 x4 (ix3 0 r q) = (geluRef (code x0 x1 x2 x3 x4 r q)).setWidth 8 := by
  have e50 : ∀ i, val_main_v50 (F := Ideal) x0 x1 x2 x3 x4 i
      = if val_main_v44 (F := Ideal) x0 x1 x2 x3 x4 i = 0 then 0
        else if (val_main_v44 (F := Ideal) x0 x1 x2 x3 x4 i).msb then -1 else 1 := fun _ => rfl
  simp only [e50,
    val_main_v45_apply, val_main_c_7_apply, val_main_v46_apply, val_main_v47_apply, val_main_c_8_apply,
    val_main_v48_apply, val_main_v49_apply, val_main_v51_apply, val_main_c_9_apply, val_main_v52_apply,
    val_main_v53_apply, val_main_v54_apply, val_main_c_10_apply, val_main_v55_apply, val_main_v56_apply,
    val_main_c_11_apply, val_main_v57_apply, val_main_v58_apply, val_main_v59_apply, val_main_c_12_apply,
    val_main_c_13_apply, val_main_v60_apply, val_main_c_14_apply, val_main_v61_apply, val_main_c_15_apply,
    val_main_v62_apply, val_main_c_16_apply, val_main_c_17_apply, val_main_v63_apply, val_main_c_18_apply,
    val_main_v64_apply, val_main_v65_apply, val_main_v66_apply, val_main_c_19_apply, val_main_v67_apply,
    val_main_v68_apply, val_main_v69_apply, val_main_v70_apply, val_main_c_20_apply, val_main_v71_apply,
    val_main_v72_apply, val_main_v73_apply, val_main_v74_apply, val_main_v75_apply, val_main_v76_apply,
    val_main_v77_apply, val_main_c_21_apply, val_main_v78_apply, val_main_v79_apply, val_main_v80_apply,
    val_main_c_22_apply, val_main_c_23_apply, val_main_call1_v0_apply, val_main_call1_v1_apply,
    val_main_call1_v2_apply, val_main_call1_v3_apply, val_main_call1_v4_apply, val_main_v81_apply, val_main_v82_apply, code_apply]
  rfl

/-- The reference's code array is the kernel's function of the arguments. -/
theorem codes_eq (i : S256x7680.Idx) : val_main_v287 (F := Ideal) x0 x1 x2 x3 x4 i = (code x0 x1 x2 x3 x4 (i 0) (i 1)).setWidth 16 := by
  obtain ⟨r, q, rfl⟩ : ∃ (r : Fin 256) (q : Fin 7680), i = ix2 r q := ⟨i 0, i 1, eq_ix2 i⟩
  have e : idx_main_v287 (ix2 r q) = ix3 0 r q := funext fun d => Fin.ext (by
    have hr := r.isLt; have hq := q.isLt
    match d with
    | ⟨0, _⟩ => rfl
    | ⟨1, _⟩ => show (r.val * 7680 + q.val) / 7680 % 256 = r.val; omega
    | ⟨2, _⟩ => show (r.val * 7680 + q.val) % 7680 = q.val; omega)
  rw [val_main_v287_apply, e, val_main_v286_apply, code_apply]

/-- The reference's activation array is the kernel's function of the arguments. -/
theorem acts_eq (i : S256x7680.Idx) :
    val_main_v288 (F := Ideal) x0 x1 x2 x3 x4 i = (geluRef (code x0 x1 x2 x3 x4 (i 0) (i 1))).setWidth 8 := by
  obtain ⟨r, q, rfl⟩ : ∃ (r : Fin 256) (q : Fin 7680), i = ix2 r q := ⟨i 0, i 1, eq_ix2 i⟩
  have e : idx_main_v288 (ix2 r q) = ix3 0 r q := funext fun d => Fin.ext (by
    have hr := r.isLt; have hq := q.isLt
    match d with
    | ⟨0, _⟩ => rfl
    | ⟨1, _⟩ => show (r.val * 7680 + q.val) / 7680 % 256 = r.val; omega
    | ⟨2, _⟩ => show (r.val * 7680 + q.val) % 7680 = q.val; omega)
  rw [val_main_v288_apply, e, act_apply]

end Cert.ReferenceIdeal.Layer
-- ==== Proof.Ref2Value.lean ====
/- The reference's second layer read as a function of the arguments, index by index. -/
module

public import proofs.«01_k».proof.Proof.Layer2
public import proofs.«01_k».proof.Proof.Ref1Value

@[expose] public section

noncomputable section

open Idealize.ShloMosaic Idealize.ShloMosaic.TcCoe Idealize.SL.Sem
open Idealize.ShloMosaic.ValueIdx

namespace Cert.ReferenceIdeal.Layer

open Cert.ReferenceIdeal Cert.ReferenceIdeal.Read Cert.Spec Cert.KernelIdeal.Layer2

variable (x0 : IVec S1x256x2880 8) (x1 : IVec S2880x7680 8) (x2 x3 x4 : IVec S7680 32) (x5 : IVec S7680x2880 8) (x6 x7 x8 x9 x10 x11 : IVec S2880 32)

/-- The reference's activation array as a function of the arguments. -/
def hid : IVec S256x7680 8 := fun i => (geluRef (Cert.KernelIdeal.Layer1.code x0 x1 x2 x3 x4 (i 0) (i 1))).setWidth 8

/-- The product the reference sums, at a row, a depth and a column. -/
theorem prod2_apply (r : Fin 256) (k : Fin 7680) (q : Fin 2880) :
    val_main_v89 (F := Ideal) x0 x1 x2 x3 x4 x5 (ix4 0 r k q) = prod (hid x0 x1 x2 x3 x4) x5 r q k := by
  have e1 : idx_main_v84 (idx_main_v87 (ix4 0 r k q)) = ix3 0 r k := funext fun d => by
    match d with | ⟨0, _⟩ => rfl | ⟨1, _⟩ => rfl | ⟨2, _⟩ => rfl
  have e2 : idx_main_v86 (idx_main_v88 (ix4 0 r k q)) = ix2 k q := funext fun d => by
    match d with | ⟨0, _⟩ => rfl | ⟨1, _⟩ => rfl
  rw [val_main_v89_apply, val_main_v87_apply, val_main_v88_apply, val_main_v84_apply, val_main_v86_apply, val_main_v83_apply,
    val_main_v85_apply, e1, e2, act_apply]
  rfl

/-- The reference's accumulated word at a row and a column. -/
theorem word2_apply (r : Fin 256) (q : Fin 2880) :
    val_main_v93 (F := Ideal) x0 x1 x2 x3 x4 x5 x6 (ix3 0 r q) = (∑ k : Fin 7680, prod (hid x0 x1 x2 x3 x4) x5 r q k) + x6 (ix1 q) := by
  have e9 : idx_main_v91 (idx_main_v92 (ix3 0 r q)) = ix1 q := funext fun d => by match d with | ⟨0, _⟩ => rfl
  have hr : (S1x256x7680x2880 : Shape).Reduces [2] S1x256x2880 := by decide
  rw [val_main_v93_apply, val_main_v92_apply, val_main_v91_apply, e9]
  refine congrArg (fun z => z + x6 (ix1 q)) ?_
  unfold val_main_v90
  rw [Host.reduce_eq_fold_single IntOp.addi _ _ _ hr]
  refine (fold_addi Finset.univ _).trans ?_
  refine Finset.sum_congr rfl fun k _ => ?_
  refine Eq.trans (congrArg (val_main_v89 (F := Ideal) x0 x1 x2 x3 x4 x5) (?_ : _ = ix4 0 r k q)) (prod2_apply x0 x1 x2 x3 x4 x5 r k q)
  funext d
  refine Fin.ext ((hr.lift_val _ _ d).trans ?_)
  match d with | ⟨0, _⟩ => rfl | ⟨1, _⟩ => rfl | ⟨2, _⟩ => rfl | ⟨3, _⟩ => rfl

/-- The reference's rescaled word at a row and a column. -/
theorem scaled_apply (r : Fin 256) (q : Fin 2880) :
    val_main_v126 (F := Ideal) x0 x1 x2 x3 x4 x5 x6 x7 x8 (ix3 0 r q)
      = requant .vector ((∑ k : Fin 7680, prod (hid x0 x1 x2 x3 x4) x5 r q k) + x6 (ix1 q)) (x7 (ix1 q)) (x8 (ix1 q)) := by
  have e22 : idx_main_v104 (idx_main_v105 (ix3 0 r q)) = ix1 q := funext fun d => by match d with | ⟨0, _⟩ => rfl
  have e25 : idx_main_v107 (idx_main_v108 (ix3 0 r q)) = ix1 q := funext fun d => by match d with | ⟨0, _⟩ => rfl
  have e28 : idx_main_v110 (idx_main_v111 (ix3 0 r q)) = ix1 q := funext fun d => by match d with | ⟨0, _⟩ => rfl
  have e31 : idx_main_v113 (idx_main_v114 (ix3 0 r q)) = ix1 q := funext fun d => by match d with | ⟨0, _⟩ => rfl
  have e34 : idx_main_v116 (idx_main_v117 (ix3 0 r q)) = ix1 q := funext fun d => by match d with | ⟨0, _⟩ => rfl
  have e37 : idx_main_v119 (idx_main_v120 (ix3 0 r q)) = ix1 q := funext fun d => by match d with | ⟨0, _⟩ => rfl
  have e42 : idx_main_v124 (idx_main_v125 (ix3 0 r q)) = ix1 q := funext fun d => by match d with | ⟨0, _⟩ => rfl
  simp only [
    val_main_c_25_apply, val_main_v94_apply, val_main_v95_apply, val_main_c_26_apply, val_main_v96_apply,
    val_main_v97_apply, val_main_c_27_apply, val_main_v98_apply, val_main_v99_apply, val_main_c_28_apply,
    val_main_v100_apply, val_main_v101_apply, val_main_c_29_apply, val_main_v102_apply, val_main_v103_apply,
    val_main_v104_apply, val_main_v105_apply, val_main_v106_apply, val_main_v107_apply, val_main_v108_apply,
    val_main_v109_apply, val_main_v110_apply, val_main_v111_apply, val_main_v112_apply, val_main_v113_apply,
    val_main_v114_apply, val_main_v115_apply, val_main_v116_apply, val_main_v117_apply, val_main_v118_apply,
    val_main_v119_apply, val_main_v120_apply, val_main_v121_apply, val_main_v122_apply, val_main_v123_apply,
    val_main_v124_apply, val_main_v125_apply, val_main_v126_apply, e22, e25, e28, e31, e34, e37, e42]
  rw [word2_apply]
  rw [requant_unit .vector .host]
  rfl

/-- The reference's residual sum at a row and a column. -/
theorem zrow_apply (r : Fin 256) (q : Fin 2880) : val_main_v130 (F := Ideal) x0 x1 x2 x3 x4 x5 x6 x7 x8 (ix3 0 r q) = zrow (hid x0 x1 x2 x3 x4) x0 x5 x6 x7 x8 r q := by
  rw [val_main_v130_apply, scaled_apply]
  unfold zrow
  rw [shli_unit .vector .host]
  rfl

/-- An index of a row's element is the row with the column put in. -/
theorem lift_row (hr : (S1x256x2880 : Shape).Reduces [2] S1x256) (r : Fin 256) (k : Fin 2880) : hr.lift (ix2 0 r) k = ix3 0 r k := by
  funext d
  refine Fin.ext ((hr.lift_val (ix2 0 r) (k : Fin (S1x256x2880.size 2)) d).trans ?_)
  match d with | ⟨0, _⟩ => rfl | ⟨1, _⟩ => rfl | ⟨2, _⟩ => rfl

/-- The sum of a row, as the host reduces it. -/
theorem host_sum (x : IVec S1x256x2880 32) (z : IVec S_ 32) (hz : ∀ i, z i = 0#32) (ht : S1x256x2880.ReducesTo [2] S1x256) (hu) (r : Fin 256) :
    Host.reduce IntOp.addi x z ht hu (ix2 0 r) = ∑ k : Fin 2880, x (ix3 0 r k) := by
  have hr : (S1x256x2880 : Shape).Reduces [2] S1x256 := by decide
  rw [Host.reduce_eq_fold_single IntOp.addi _ _ _ hr, hz]
  refine (fold_addi Finset.univ _).trans (Finset.sum_congr rfl fun k _ => ?_)
  exact congrArg x (lift_row hr r k)

/-- The greatest word of a row, as the host reduces it. -/
theorem host_max (x : IVec S1x256x2880 32) (z : IVec S_ 32) (hz : ∀ i, z i = 2147483648#32) (ht : S1x256x2880.ReducesTo [2] S1x256) (hu) (r : Fin 256) :
    Host.reduce IKind.maxsi.op x z ht hu (ix2 0 r)
      = (Finset.univ : Finset (Fin 2880)).fold IKind.maxsi.op 2147483648#32 fun k => x (ix3 0 r k) := by
  have hr : (S1x256x2880 : Shape).Reduces [2] S1x256 := by decide
  rw [Host.reduce_eq_fold_single IKind.maxsi.op _ _ _ hr, hz]
  exact congrArg (fun f => (Finset.univ : Finset (Fin 2880)).fold IKind.maxsi.op 2147483648#32 f) (funext fun k => congrArg x (lift_row hr r k))

/-- A row's rounded total. -/
theorem total_apply (r : Fin 256) :
    val_main_v134 (F := Ideal) x0 x1 x2 x3 x4 x5 x6 x7 x8 (ix3 0 r 0) = IntOp.addi (∑ k, zrow (hid x0 x1 x2 x3 x4) x0 x5 x6 x7 x8 r k) 1440#32 := by
  have e : idx_main_v132 (ix3 0 r 0) = ix2 0 r := funext fun d => by match d with | ⟨0, _⟩ => rfl | ⟨1, _⟩ => rfl
  rw [val_main_v134_apply, val_main_v132_apply, e]
  refine congrArg₂ IntOp.addi ?_ rfl
  unfold val_main_v131
  exact (host_sum _ _ (fun _ => rfl) _ _ r).trans (Finset.sum_congr rfl fun k _ => zrow_apply x0 x1 x2 x3 x4 x5 x6 x7 x8 r k)

/-- A row's mean is the floor of its rounded total over its length. -/
theorem mean_apply (i : S1x256x1.Idx) : val_main_v135 (F := Ideal) x0 x1 x2 x3 x4 x5 x6 x7 x8 i = floorDiv (val_main_v134 (F := Ideal) x0 x1 x2 x3 x4 x5 x6 x7 x8 i) 2880#32 := rfl

/-- The row less its mean. -/
theorem cen_apply (r : Fin 256) (q : Fin 2880) : val_main_v137 (F := Ideal) x0 x1 x2 x3 x4 x5 x6 x7 x8 (ix3 0 r q) = cenR (zrow (hid x0 x1 x2 x3 x4) x0 x5 x6 x7 x8 r) q := by
  have e : idx_main_v136 (ix3 0 r q) = ix3 0 r 0 := funext fun d => by match d with | ⟨0, _⟩ => rfl | ⟨1, _⟩ => rfl | ⟨2, _⟩ => rfl
  rw [val_main_v137_apply, val_main_v136_apply, e, mean_apply, total_apply, zrow_apply]
  rfl

/-- A row's greatest size. -/
theorem top_apply (r : Fin 256) : val_main_v140 (F := Ideal) x0 x1 x2 x3 x4 x5 x6 x7 x8 (ix3 0 r 0) = topR (cenR (zrow (hid x0 x1 x2 x3 x4) x0 x5 x6 x7 x8 r)) := by
  have e : idx_main_v140 (ix3 0 r 0) = ix2 0 r := funext fun d => by match d with | ⟨0, _⟩ => rfl | ⟨1, _⟩ => rfl
  rw [val_main_v140_apply, e]
  unfold val_main_v139
  refine (host_max _ _ (fun _ => rfl) _ _ r).trans ?_
  unfold topR
  refine congrArg (fun f => (Finset.univ : Finset (Fin 2880)).fold IKind.maxsi.op 2147483648#32 f) (funext fun k => ?_)
  rw [val_main_v138_apply, cen_apply]

/-- The greater of two words does not depend on their order. -/
theorem max_comm (x y : BitVec 32) : IntOp.maxsi x y = IntOp.maxsi y x := Std.Commutative.comm (op := IKind.maxsi.op) x y

/-- A row's shift. -/
theorem sh_apply (r : Fin 256) : val_main_v147 (F := Ideal) x0 x1 x2 x3 x4 x5 x6 x7 x8 (ix3 0 r 0) = shR (cenR (zrow (hid x0 x1 x2 x3 x4) x0 x5 x6 x7 x8 r)) := by
  rw [val_main_v147_apply, val_main_v145_apply, val_main_v143_apply, val_main_v141_apply, top_apply, max_comm]
  rfl

/-- A row's sum of squares. -/
theorem var_apply (r : Fin 256) : val_main_v154 (F := Ideal) x0 x1 x2 x3 x4 x5 x6 x7 x8 (ix3 0 r 0) = varR (cenR (zrow (hid x0 x1 x2 x3 x4) x0 x5 x6 x7 x8 r)) := by
  have e : idx_main_v152 (ix3 0 r 0) = ix2 0 r := funext fun d => by match d with | ⟨0, _⟩ => rfl | ⟨1, _⟩ => rfl
  rw [val_main_v154_apply, val_main_v152_apply, e]
  refine congrArg₂ IntOp.maxsi ?_ rfl
  unfold val_main_v151
  refine (host_sum _ _ (fun _ => rfl) _ _ r).trans (Finset.sum_congr rfl fun k _ => ?_)
  have e66 : idx_main_v148 (ix3 0 r k) = ix3 0 r 0 := funext fun d => by match d with | ⟨0, _⟩ => rfl | ⟨1, _⟩ => rfl | ⟨2, _⟩ => rfl
  rw [val_main_v150_apply, val_main_v149_apply, val_main_v148_apply, e66, sh_apply, cen_apply, shrsi_unit .host .vector]

/-- The reference's square root is twenty of its steps. -/
theorem root_apply (i : S1x256x1.Idx) :
    val_main_v235 (F := Ideal) x0 x1 x2 x3 x4 x5 x6 x7 x8 i = newtonW (val_main_v154 (F := Ideal) x0 x1 x2 x3 x4 x5 x6 x7 x8 i) 20 65536#32 := rfl

/-- A row's divisor. -/
theorem div_apply (r : Fin 256) : val_main_v238 (F := Ideal) x0 x1 x2 x3 x4 x5 x6 x7 x8 (ix3 0 r 0) = divR (cenR (zrow (hid x0 x1 x2 x3 x4) x0 x5 x6 x7 x8 r)) := by
  rw [val_main_v238_apply, val_main_v237_apply, root_apply, sh_apply, var_apply, shli_unit .host .vector]
  rfl

/-- The factor a row is multiplied by. -/
theorem factor_apply (i : S1x256x1.Idx) : val_main_v242 (F := Ideal) x0 x1 x2 x3 x4 x5 x6 x7 x8 i = int31R (val_main_v238 (F := Ideal) x0 x1 x2 x3 x4 x5 x6 x7 x8 i) := rfl

/-- The normalised row. -/
theorem norm_apply (r : Fin 256) (q : Fin 2880) : val_main_v246 (F := Ideal) x0 x1 x2 x3 x4 x5 x6 x7 x8 (ix3 0 r q)
    = IntOp.shrsi .vector (IntOp.muli (cenR (zrow (hid x0 x1 x2 x3 x4) x0 x5 x6 x7 x8 r) q) (int31R (divR (cenR (zrow (hid x0 x1 x2 x3 x4) x0 x5 x6 x7 x8 r))))) 16#32 := by
  have e : idx_main_v243 (ix3 0 r q) = ix3 0 r 0 := funext fun d => by match d with | ⟨0, _⟩ => rfl | ⟨1, _⟩ => rfl | ⟨2, _⟩ => rfl
  rw [val_main_v246_apply, val_main_v244_apply, val_main_v243_apply, e, factor_apply, div_apply, cen_apply, shrsi_unit .host .vector]
  rfl

/-- The normalised row rescaled. -/
theorem rescaled_apply (r : Fin 256) (q : Fin 2880) : val_main_v279 (F := Ideal) x0 x1 x2 x3 x4 x5 x6 x7 x8 x9 x10 (ix3 0 r q)
    = requant .vector (IntOp.shrsi .vector (IntOp.muli (cenR (zrow (hid x0 x1 x2 x3 x4) x0 x5 x6 x7 x8 r) q) (int31R (divR (cenR (zrow (hid x0 x1 x2 x3 x4) x0 x5 x6 x7 x8 r))))) 16#32) (x9 (ix1 q)) (x10 (ix1 q)) := by
  have e175 : idx_main_v257 (idx_main_v258 (ix3 0 r q)) = ix1 q := funext fun d => by match d with | ⟨0, _⟩ => rfl
  have e178 : idx_main_v260 (idx_main_v261 (ix3 0 r q)) = ix1 q := funext fun d => by match d with | ⟨0, _⟩ => rfl
  have e181 : idx_main_v263 (idx_main_v264 (ix3 0 r q)) = ix1 q := funext fun d => by match d with | ⟨0, _⟩ => rfl
  have e184 : idx_main_v266 (idx_main_v267 (ix3 0 r q)) = ix1 q := funext fun d => by match d with | ⟨0, _⟩ => rfl
  have e187 : idx_main_v269 (idx_main_v270 (ix3 0 r q)) = ix1 q := funext fun d => by match d with | ⟨0, _⟩ => rfl
  have e190 : idx_main_v272 (idx_main_v273 (ix3 0 r q)) = ix1 q := funext fun d => by match d with | ⟨0, _⟩ => rfl
  have e195 : idx_main_v277 (idx_main_v278 (ix3 0 r q)) = ix1 q := funext fun d => by match d with | ⟨0, _⟩ => rfl
  simp only [
    val_main_c_66_apply, val_main_v247_apply, val_main_v248_apply, val_main_c_67_apply, val_main_v249_apply,
    val_main_v250_apply, val_main_c_68_apply, val_main_v251_apply, val_main_v252_apply, val_main_c_69_apply,
    val_main_v253_apply, val_main_v254_apply, val_main_c_70_apply, val_main_v255_apply, val_main_v256_apply,
    val_main_v257_apply, val_main_v258_apply, val_main_v259_apply, val_main_v260_apply, val_main_v261_apply,
    val_main_v262_apply, val_main_v263_apply, val_main_v264_apply, val_main_v265_apply, val_main_v266_apply,
    val_main_v267_apply, val_main_v268_apply, val_main_v269_apply, val_main_v270_apply, val_main_v271_apply,
    val_main_v272_apply, val_main_v273_apply, val_main_v274_apply, val_main_v275_apply, val_main_v276_apply,
    val_main_v277_apply, val_main_v278_apply, val_main_v279_apply, e175, e178, e181, e184, e187, e190, e195]
  rw [norm_apply]
  rw [requant_unit .vector .host]
  rfl

/-- The reference's result at a row and a column. -/
theorem out_apply (r : Fin 256) (q : Fin 2880) : val_main_v284 (F := Ideal) x0 x1 x2 x3 x4 x5 x6 x7 x8 x9 x10 x11 (ix3 0 r q) = outw (hid x0 x1 x2 x3 x4) x0 x5 x6 x7 x8 x9 x10 x11 r q := by
  have e : idx_main_v280 (idx_main_v281 (ix3 0 r q)) = ix1 q := funext fun d => by match d with | ⟨0, _⟩ => rfl
  rw [val_main_v284_apply, val_main_v283_apply, val_main_call25_v2_apply, val_main_v282_apply, val_main_v281_apply, val_main_v280_apply, e, rescaled_apply]
  rfl

/-- The reference's result array is the kernel's function of the arguments. -/
theorem result_eq (i : S256x2880.Idx) : val_main_v285 (F := Ideal) x0 x1 x2 x3 x4 x5 x6 x7 x8 x9 x10 x11 i = outw (hid x0 x1 x2 x3 x4) x0 x5 x6 x7 x8 x9 x10 x11 (i 0) (i 1) := by
  obtain ⟨r, q, rfl⟩ : ∃ (r : Fin 256) (q : Fin 2880), i = ix2 r q := ⟨i 0, i 1, eq_ix2 i⟩
  have e : idx_main_v285 (ix2 r q) = ix3 0 r q := funext fun d => Fin.ext (by
    have hr := r.isLt; have hq := q.isLt
    match d with
    | ⟨0, _⟩ => rfl
    | ⟨1, _⟩ => show (r.val * 2880 + q.val) / 2880 % 256 = r.val; omega
    | ⟨2, _⟩ => show (r.val * 2880 + q.val) % 2880 = q.val; omega)
  rw [val_main_v285_apply, e, out_apply]

end Cert.ReferenceIdeal.Layer

end
-- ==== Proof.Values.lean ====
/- The kernel's value claim: its three result arrays are the reference's. -/
module

public import proofs.«01_k».proof.Defs
public import proofs.«01_k».proof.Proof.Gen.KernelIdeal
public import proofs.«01_k».proof.Proof.Gen.ReferenceIdeal
public import proofs.«01_k».proof.Proof.Layer2
public import Idealize.ShloMosaic.Lib.Quiescent
public import proofs.«01_k».proof.Proof.Ref2Value

@[expose] public section

noncomputable section

open Idealize.ShloMosaic Idealize.ShloMosaic.TcCoe Idealize.SL.Sem
open Idealize.ShloMosaic.ValueIdx

namespace Cert.Values

open Cert.KernelIdeal.Layer1 Cert.KernelIdeal.Layer2

/-- The reference's result array, from arguments equal to the kernel's, is the kernel's. -/
theorem result_congr {X X' : IVec Cert.KernelIdeal.S1x256x2880 8} {W W' : IVec Cert.KernelIdeal.S2880x7680 8} {B B' M M' K K' : IVec Cert.KernelIdeal.S7680 32}
    {U U' : IVec Cert.KernelIdeal.S7680x2880 8} {C C' N N' L L' MG MG' KG KG' BQ BQ' : IVec Cert.KernelIdeal.S2880 32} (h0 : X = X') (h1 : W = W')
    (h2 : B = B') (h3 : M = M') (h4 : K = K') (h5 : U = U') (h6 : C = C') (h7 : N = N') (h8 : L = L') (h9 : MG = MG') (h10 : KG = KG') (h11 : BQ = BQ')
    (r : Fin 256) (q : Fin 2880) :
    outw (Cert.ReferenceIdeal.Layer.hid X W B M K) X U C N L MG KG BQ r q
      = outw (Cert.ReferenceIdeal.Layer.hid X' W' B' M' K') X' U' C' N' L' MG' KG' BQ' r q := by
  rw [h0, h1, h2, h3, h4, h5, h6, h7, h8, h9, h10, h11]

/-- Equal arguments give equal codes. -/
theorem code_congr {X X' : IVec Cert.KernelIdeal.S1x256x2880 8} {W W' : IVec Cert.KernelIdeal.S2880x7680 8} {B B' M M' K K' : IVec Cert.KernelIdeal.S7680 32}
    (h0 : X = X') (h1 : W = W') (h2 : B = B') (h3 : M = M') (h4 : K = K') (r : Fin 256) (q : Fin 7680) :
    code X W B M K r q = code X' W' B' M' K' r q := by
  rw [h0, h1, h2, h3, h4]

/-- The kernel and its reference leave the same result, the same codes and the same activations. -/
theorem algebraic : algebraic_KernelIdeal_ReferenceIdeal (hKernelIdeal := Cert.KernelIdeal.Gen.facts) (hReferenceIdeal := Cert.ReferenceIdeal.Gen.facts) := by
  intro m g m' g' _ hm
  refine ⟨fun c => result m c, fun c => codes m c, fun c => acts m c, ?_, ?_⟩
  · refine (θ_run _ _ _).mono (fun r h c => ?_) (Cert.KernelIdeal.Calls.run m g)
    obtain ⟨h0, h1, h2, hk⟩ := h.1 c
    exact ⟨h0.trans (final_result m g c), h1.trans (final_codes m g c), h2.trans (final_acts m g c), hk⟩
  · refine (θ_run _ _ _).mono (fun r h c => ?_) (Cert.ReferenceIdeal.Value.run (F := Ideal) m' g')
    obtain ⟨h0, h1, h2, hk⟩ := h c
    obtain ⟨a0, a1, a2, a3, a4, a5, a6, a7, a8, a9, a10, a11⟩ := hm c
    refine ⟨h0.trans ?_, h1.trans ?_, h2.trans ?_, hk⟩
    · refine (Cert.ReferenceIdeal.Read.val_main_v285_eq (F := Ideal) _).trans (funext fun i => ?_)
      exact (Cert.ReferenceIdeal.Layer.result_eq _ _ _ _ _ _ _ _ _ _ _ _ i).trans
        (result_congr a0 a1 a2 a3 a4 a5 a6 a7 a8 a9 a10 a11 (i 0) (i 1))
    · refine (Cert.ReferenceIdeal.Read.val_main_v287_eq (F := Ideal) _).trans (funext fun i => ?_)
      refine (Cert.ReferenceIdeal.Layer.codes_eq _ _ _ _ _ i).trans ?_
      exact congrArg (BitVec.setWidth 16) (code_congr a0 a1 a2 a3 a4 (i 0) (i 1))
    · refine (Cert.ReferenceIdeal.Read.val_main_v288_eq (F := Ideal) _).trans (funext fun i => ?_)
      refine (Cert.ReferenceIdeal.Layer.acts_eq _ _ _ _ _ i).trans ?_
      exact congrArg (fun z => (Cert.Spec.geluRef z).setWidth 8) (code_congr a0 a1 a2 a3 a4 (i 0) (i 1))

/-- The reference runs, leaves its arguments and ends with every counter at zero: it has no semaphore. -/
theorem frame_ref : quiescent_ReferenceIdeal (hReferenceIdeal := Cert.ReferenceIdeal.Gen.facts) := by
  intro m g _
  refine (θ_run _ _ _).mono (fun r h => ⟨fun c => (h c).2.2.2, ?_⟩) (Cert.ReferenceIdeal.Value.run (F := Ideal) m g)
  exact sem_eq_zero_of_no_sems rfl r.2

end Cert.Values

end
-- ==== Proof.Second.lean ====
/- The second call alone, on any codes: its grid points are those of the second call of the whole kernel, so what they
   compute is read as there. -/
module

public import proofs.«01_k».proof.Proof.Layer2
public import proofs.«01_k».proof.Proof.Gen.Ffn2Ideal.Value

@[expose] public section

noncomputable section

open Idealize.ShloMosaic Idealize.ShloMosaic.TcCoe Idealize.SL.Sem
open Idealize.ShloMosaic.ValueIdx

namespace Cert.Ffn2Ideal.Layer

open Cert.Ffn2Ideal Cert.Ffn2Ideal.Gen Cert.Ffn2Ideal.Value Cert.Spec
open Cert.KernelIdeal.Gen (k1_pay1 k1_pay2)
open Cert.KernelIdeal.Layer2 (hz finish finish_apply pay1_apply pay2_apply prod zrow outw row_read snd_of fst_of)

/-! ## What a point leaves -/

/-- The two programs' first accumulators are the same. -/
theorem pay1_eq (B : IVec S1x2880 32) : k0_pay1 (F := Ideal) B = k1_pay1 (F := Ideal) B := rfl

/-- The two programs' accumulator steps are the same. -/
theorem pay2_eq (A : IVec S256x2880 32) (H : IVec S256x768 8) (W : IVec S768x2880 8) : k0_pay2 (F := Ideal) A H W = k1_pay2 (F := Ideal) A H W := by
  have h : ∀ h, shapeCast Cert.KernelIdeal.S256x768 H h = H := fun h => shapeCast_self _ _
  unfold k0_pay2 k1_pay2
  rw [h]
  rfl

/-- The first point leaves the bias row, in every row, plus the first part of the product. -/
theorem sout_A (c : Dev nD) (i : grid0.Coords) (a1 : Memref sig .tc .vmem S256x768 .i8) (h1 : a1.IsWhole) (a2 : Memref sig .tc .vmem S768x2880 .i8) (h2 : a2.IsWhole) (a3 : Memref sig .tc .vmem S256x2880 .i8) (h3 : a3.IsWhole) (a4 : Memref sig .tc .vmem S1x2880 .i32) (h4 : a4.IsWhole) (a5 : Memref sig .tc .vmem S1x2880 .i32) (h5 : a5.IsWhole) (a6 : Memref sig .tc .vmem S1x2880 .i32) (h6 : a6.IsWhole) (a7 : Memref sig .tc .vmem S1x2880 .i32) (h7 : a7.IsWhole) (a8 : Memref sig .tc .vmem S1x2880 .i32) (h8 : a8.IsWhole) (a9 : Memref sig .tc .vmem S1x2880 .i32) (h9 : a9.IsWhole) (a10 : Memref sig .tc .vmem S256x2880 .i8) (h10 : a10.IsWhole) (a11 : Memref sig .tc .vmem S256x2880 .i32) (h11 : a11.IsWhole) (hc0 : cond0_0 i) (hc1 : ¬cond0_1 i) (x0 : Vec Ideal S256x768 .i8) (x1 : Vec Ideal S768x2880 .i8) (x2 : Vec Ideal S256x2880 .i8) (x3 : Vec Ideal S1x2880 .i32) (x4 : Vec Ideal S1x2880 .i32) (x5 : Vec Ideal S1x2880 .i32) (x6 : Vec Ideal S1x2880 .i32) (x7 : Vec Ideal S1x2880 .i32) (x8 : Vec Ideal S1x2880 .i32) :
    sout0_A_0 (F := Ideal) c i a1 h1 a2 h2 a3 h3 a4 h4 a5 h5 a6 h6 a7 h7 a8 h8 a9 h9 a10 h10 a11 h11 hc0 hc1 x0 x1 x2 x3 x4 x5 x6 x7 x8 = k1_pay2 (F := Ideal) (k1_pay1 (F := Ideal) x3) x0 x1 := by
  unfold sout0_A_0
  rw [View.read_writes_eq_canon _ _ _ (scover0_A_0 c i a1 h1 a2 h2 a3 h3 a4 h4 a5 h5 a6 h6 a7 h7 a8 h8 a9 h9 a10 h10 a11 h11 hc0 hc1 x0 x1 x2 x3 x4 x5 x6 x7 x8)]
  unfold kernelRun0_A
  dsimp only
  sl_unfold_words
  rw [View.canon_cons_unit_zero (S := S256x2880) hz, View.readCov_unit_zero (S := S256x2880) _ hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x768) hz, View.ld_unit_zero (S := S768x2880) hz, View.ld_unit_zero (S := S256x2880) hz, View.ld_unit_zero (S := S1x2880) hz]
  exact pay2_eq _ _ _

/-- A middle point adds its part of the product. -/
theorem sout_B (c : Dev nD) (i : grid0.Coords) (a1 : Memref sig .tc .vmem S256x768 .i8) (h1 : a1.IsWhole) (a2 : Memref sig .tc .vmem S768x2880 .i8) (h2 : a2.IsWhole) (a3 : Memref sig .tc .vmem S256x2880 .i8) (h3 : a3.IsWhole) (a4 : Memref sig .tc .vmem S1x2880 .i32) (h4 : a4.IsWhole) (a5 : Memref sig .tc .vmem S1x2880 .i32) (h5 : a5.IsWhole) (a6 : Memref sig .tc .vmem S1x2880 .i32) (h6 : a6.IsWhole) (a7 : Memref sig .tc .vmem S1x2880 .i32) (h7 : a7.IsWhole) (a8 : Memref sig .tc .vmem S1x2880 .i32) (h8 : a8.IsWhole) (a9 : Memref sig .tc .vmem S1x2880 .i32) (h9 : a9.IsWhole) (a10 : Memref sig .tc .vmem S256x2880 .i8) (h10 : a10.IsWhole) (a11 : Memref sig .tc .vmem S256x2880 .i32) (h11 : a11.IsWhole) (hc0 : ¬cond0_0 i) (hc1 : ¬cond0_1 i) (x0 : Vec Ideal S256x768 .i8) (x1 : Vec Ideal S768x2880 .i8) (x2 : Vec Ideal S256x2880 .i8) (x3 : Vec Ideal S1x2880 .i32) (x4 : Vec Ideal S1x2880 .i32) (x5 : Vec Ideal S1x2880 .i32) (x6 : Vec Ideal S1x2880 .i32) (x7 : Vec Ideal S1x2880 .i32) (x8 : Vec Ideal S1x2880 .i32) (xs0 : Vec Ideal S256x2880 .i32) :
    sout0_B_0 (F := Ideal) c i a1 h1 a2 h2 a3 h3 a4 h4 a5 h5 a6 h6 a7 h7 a8 h8 a9 h9 a10 h10 a11 h11 hc0 hc1 x0 x1 x2 x3 x4 x5 x6 x7 x8 xs0 = k1_pay2 (F := Ideal) xs0 x0 x1 := by
  unfold sout0_B_0
  rw [View.read_writes_eq_canon _ _ _ (scover0_B_0 c i a1 h1 a2 h2 a3 h3 a4 h4 a5 h5 a6 h6 a7 h7 a8 h8 a9 h9 a10 h10 a11 h11 hc0 hc1 x0 x1 x2 x3 x4 x5 x6 x7 x8 xs0)]
  unfold kernelRun0_B
  dsimp only
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x768) hz, View.ld_unit_zero (S := S768x2880) hz, View.ld_unit_zero (S := S256x2880) hz, View.ld_unit_zero (S := S1x2880) hz]
  exact pay2_eq _ _ _

/-- The last point leaves, in the result, what its code computes from the finished accumulator. -/
theorem out_C (c : Dev nD) (i : grid0.Coords) (a1 : Memref sig .tc .vmem S256x768 .i8) (h1 : a1.IsWhole) (a2 : Memref sig .tc .vmem S768x2880 .i8) (h2 : a2.IsWhole) (a3 : Memref sig .tc .vmem S256x2880 .i8) (h3 : a3.IsWhole) (a4 : Memref sig .tc .vmem S1x2880 .i32) (h4 : a4.IsWhole) (a5 : Memref sig .tc .vmem S1x2880 .i32) (h5 : a5.IsWhole) (a6 : Memref sig .tc .vmem S1x2880 .i32) (h6 : a6.IsWhole) (a7 : Memref sig .tc .vmem S1x2880 .i32) (h7 : a7.IsWhole) (a8 : Memref sig .tc .vmem S1x2880 .i32) (h8 : a8.IsWhole) (a9 : Memref sig .tc .vmem S1x2880 .i32) (h9 : a9.IsWhole) (a10 : Memref sig .tc .vmem S256x2880 .i8) (h10 : a10.IsWhole) (a11 : Memref sig .tc .vmem S256x2880 .i32) (h11 : a11.IsWhole) (hc0 : ¬cond0_0 i) (hc1 : cond0_1 i) (x0 : Vec Ideal S256x768 .i8) (x1 : Vec Ideal S768x2880 .i8) (x2 : Vec Ideal S256x2880 .i8) (x3 : Vec Ideal S1x2880 .i32) (x4 : Vec Ideal S1x2880 .i32) (x5 : Vec Ideal S1x2880 .i32) (x6 : Vec Ideal S1x2880 .i32) (x7 : Vec Ideal S1x2880 .i32) (x8 : Vec Ideal S1x2880 .i32) (xs0 : Vec Ideal S256x2880 .i32) :
    out0_C_9 (F := Ideal) c i a1 h1 a2 h2 a3 h3 a4 h4 a5 h5 a6 h6 a7 h7 a8 h8 a9 h9 a10 h10 a11 h11 hc0 hc1 x0 x1 x2 x3 x4 x5 x6 x7 x8 xs0 = finish (k1_pay2 (F := Ideal) xs0 x0 x1) x2 x4 x5 x6 x7 x8 := by
  unfold out0_C_9
  rw [View.read_writes_eq_canon _ _ _ (cover0_C_9 c i a1 h1 a2 h2 a3 h3 a4 h4 a5 h5 a6 h6 a7 h7 a8 h8 a9 h9 a10 h10 a11 h11 hc0 hc1 x0 x1 x2 x3 x4 x5 x6 x7 x8 xs0)]
  unfold kernelRun0_C
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, View.ld_unit_zero (S := S256x768) hz, View.ld_unit_zero (S := S768x2880) hz, View.ld_unit_zero (S := S256x2880) hz, View.ld_unit_zero (S := S1x2880) hz]
  rw [View.readCov_unit_zero (S := S256x2880) _ hz]
  rw [View.readCov_cons_unit_lit' (S := S256x2880) _ _ _ _ _ (fun a => congrFun hz a) (fun a => congrFun hz a)]
  rw [pay2_eq]
  rfl

/-! ## The blocks a grid point reads -/

variable (m : (ℓ : Loc nD τ sig) → Buf (Elt Ideal) ℓ) (ρ : Dev nD → PrngReg)

/-- Device `c`'s first argument: the codes entering the layer. -/
abbrev aH (c : Dev nD) : IVec S256x7680 8 := m ((c : Thread nD τ).loc main_arg0)
/-- Device `c`'s second argument: the residual's codes. -/
abbrev aX (c : Dev nD) : IVec S1x256x2880 8 := m ((c : Thread nD τ).loc main_arg1)
/-- Device `c`'s third argument: the weights. -/
abbrev aW (c : Dev nD) : IVec S7680x2880 8 := m ((c : Thread nD τ).loc main_arg2)
/-- Device `c`'s fourth argument: the bias. -/
abbrev aB (c : Dev nD) : IVec S2880 32 := m ((c : Thread nD τ).loc main_arg3)
/-- Device `c`'s fifth argument: the first rescaling's multipliers. -/
abbrev aM (c : Dev nD) : IVec S2880 32 := m ((c : Thread nD τ).loc main_arg4)
/-- Device `c`'s sixth argument: the first rescaling's shifts. -/
abbrev aK (c : Dev nD) : IVec S2880 32 := m ((c : Thread nD τ).loc main_arg5)
/-- Device `c`'s seventh argument: the second rescaling's multipliers. -/
abbrev aMG (c : Dev nD) : IVec S2880 32 := m ((c : Thread nD τ).loc main_arg6)
/-- Device `c`'s eighth argument: the second rescaling's shifts. -/
abbrev aKG (c : Dev nD) : IVec S2880 32 := m ((c : Thread nD τ).loc main_arg7)
/-- Device `c`'s ninth argument: the last bias. -/
abbrev aBQ (c : Dev nD) : IVec S2880 32 := m ((c : Thread nD τ).loc main_arg8)

/-- The kernel's residual operand is the argument with its unit axis dropped. -/
theorem V0 (c : Dev nD) : V m c main_v0 = shapeCast S256x2880 (aX m c) shapeCasts_S1x256x2880_S256x2880 := by
  show StableHlo.after hostOps0 (fun b => m (c, b)) (Proc.devRef .tc main_v0) = _
  after_results; rfl
/-- The operand of the bias is the argument as a row. -/
theorem V1 (c : Dev nD) : V m c main_v1 = shapeCast S1x2880 (aB m c) shapeCasts_S2880_S1x2880 := by
  show StableHlo.after hostOps0 (fun b => m (c, b)) (Proc.devRef .tc main_v1) = _
  after_results; rfl
/-- The operand of the first rescaling's multipliers is the argument as a row. -/
theorem V2 (c : Dev nD) : V m c main_v2 = shapeCast S1x2880 (aM m c) shapeCasts_S2880_S1x2880 := by
  show StableHlo.after hostOps0 (fun b => m (c, b)) (Proc.devRef .tc main_v2) = _
  after_results; rfl
/-- The operand of the first rescaling's shifts is the argument as a row. -/
theorem V3 (c : Dev nD) : V m c main_v3 = shapeCast S1x2880 (aK m c) shapeCasts_S2880_S1x2880 := by
  show StableHlo.after hostOps0 (fun b => m (c, b)) (Proc.devRef .tc main_v3) = _
  after_results; rfl
/-- The operand of the second rescaling's multipliers is the argument as a row. -/
theorem V4 (c : Dev nD) : V m c main_v4 = shapeCast S1x2880 (aMG m c) shapeCasts_S2880_S1x2880 := by
  show StableHlo.after hostOps0 (fun b => m (c, b)) (Proc.devRef .tc main_v4) = _
  after_results; rfl
/-- The operand of the second rescaling's shifts is the argument as a row. -/
theorem V5 (c : Dev nD) : V m c main_v5 = shapeCast S1x2880 (aKG m c) shapeCasts_S2880_S1x2880 := by
  show StableHlo.after hostOps0 (fun b => m (c, b)) (Proc.devRef .tc main_v5) = _
  after_results; rfl
/-- The operand of the last bias is the argument as a row. -/
theorem V6 (c : Dev nD) : V m c main_v6 = shapeCast S1x2880 (aBQ m c) shapeCasts_S2880_S1x2880 := by
  show StableHlo.after hostOps0 (fun b => m (c, b)) (Proc.devRef .tc main_v6) = _
  after_results; rfl

/-- The grid has ten points. -/
theorem t_lt (t : Fin cfg0.N) : t.val < 10 := by
  have h := t.isLt
  have hN : cfg0.N = 10 := N_0
  omega

/-- The block index of each window at a point: the codes move along their columns and the weights along their rows. -/
theorem index_eq : ∀ t : Fin cfg0.N,
    (win0_0.index t 0 = 0 ∧ win0_0.index t 1 = t.val)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0) :=
  (by decide +kernel : ∀ t : Fin grid0.N,
    (win0_0.index t 0 = 0 ∧ win0_0.index t 1 = t.val)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0))

/-- The place in the summed axis that place `k` of point `t`'s block is. -/
def place (t : Fin cfg0.N) (k : Fin 768) : Fin 7680 := ⟨t.val * 768 + k.val, by have := t_lt t; omega⟩

/-- A point's block of the codes. -/
theorem iblk0_apply (c : Dev nD) (t : Fin cfg0.N) (r : Fin 256) (k : Fin 768) :
    (iblk m c 0 t : IVec S256x768 8) (ix2 r k) = aH m c (ix2 r (place t k)) := by
  show V m c main_arg0 ((win0_0.rect t).emb (ix2 r k)) = _
  rw [V_main_arg0]
  refine congrArg (aH m c) (funext fun a => Fin.ext ?_)
  match a with
  | ⟨0, _⟩ => exact win0_0.rect_emb_val_of_index_zero t 0 (index_eq t).1.1 (ix2 r k)
  | ⟨1, _⟩ =>
    have h1 := win0_0.rect_emb_val t (ix2 r k) 1
    rw [(index_eq t).1.2] at h1
    exact h1

/-- A point's block of the weights. -/
theorem iblk1_apply (c : Dev nD) (t : Fin cfg0.N) (k : Fin 768) (q : Fin 2880) :
    (iblk m c 1 t : IVec S768x2880 8) (ix2 k q) = aW m c (ix2 (place t k) q) := by
  show V m c main_arg2 ((win0_1.rect t).emb (ix2 k q)) = _
  rw [V_main_arg2]
  refine congrArg (aW m c) (funext fun a => Fin.ext ?_)
  match a with
  | ⟨1, _⟩ => exact win0_1.rect_emb_val_of_index_zero t 1 (index_eq t).2.1.2 (ix2 k q)
  | ⟨0, _⟩ =>
    have h1 := win0_1.rect_emb_val t (ix2 k q) 0
    rw [(index_eq t).2.1.1] at h1
    exact h1

/-- Every point reads all the residual. -/
theorem iblk2_apply (c : Dev nD) (t : Fin cfg0.N) (r : Fin 256) (q : Fin 2880) :
    (iblk m c 2 t : IVec S256x2880 8) (ix2 r q) = aX m c (ix3 0 r q) := by
  show V m c main_v0 ((win0_2.rect t).emb (ix2 r q)) = _
  rw [V0]
  refine shapeCast_apply _ _ _ _ ?_
  rw [Shape.rowMajor_val_three, Shape.rowMajor_val_two]
  have h0 := win0_2.rect_emb_val_of_index_zero t 0 (index_eq t).2.2.1.1 (ix2 r q)
  have h1 := win0_2.rect_emb_val_of_index_zero t 1 (index_eq t).2.2.1.2 (ix2 r q)
  show (0 * 256 + r.val) * 2880 + q.val = ((win0_2.rect t).emb (ix2 r q) 0 : Nat) * 2880 + ((win0_2.rect t).emb (ix2 r q) 1 : Nat)
  rw [h0, h1]
  show (0 * 256 + r.val) * 2880 + q.val = r.val * 2880 + q.val
  omega

/-- Every point reads the whole row of the bias. -/
theorem iblk3_apply (c : Dev nD) (t : Fin cfg0.N) (q : Fin 2880) : (iblk m c 3 t : IVec S1x2880 32) (ix2 0 q) = aB m c (ix1 q) := by
  show V m c main_v1 ((win0_3.rect t).emb (ix2 0 q)) = _
  rw [V1]
  exact row_read _ _ _ q (win0_3.rect_emb_val_of_index_zero t 0 (index_eq t).2.2.2.1.1 (ix2 0 q)) (win0_3.rect_emb_val_of_index_zero t 1 (index_eq t).2.2.2.1.2 (ix2 0 q))

/-- Every point reads the whole row of the first rescaling's multipliers. -/
theorem iblk4_apply (c : Dev nD) (t : Fin cfg0.N) (q : Fin 2880) : (iblk m c 4 t : IVec S1x2880 32) (ix2 0 q) = aM m c (ix1 q) := by
  show V m c main_v2 ((win0_4.rect t).emb (ix2 0 q)) = _
  rw [V2]
  exact row_read _ _ _ q (win0_4.rect_emb_val_of_index_zero t 0 (index_eq t).2.2.2.2.1.1 (ix2 0 q)) (win0_4.rect_emb_val_of_index_zero t 1 (index_eq t).2.2.2.2.1.2 (ix2 0 q))

/-- Every point reads the whole row of the first rescaling's shifts. -/
theorem iblk5_apply (c : Dev nD) (t : Fin cfg0.N) (q : Fin 2880) : (iblk m c 5 t : IVec S1x2880 32) (ix2 0 q) = aK m c (ix1 q) := by
  show V m c main_v3 ((win0_5.rect t).emb (ix2 0 q)) = _
  rw [V3]
  exact row_read _ _ _ q (win0_5.rect_emb_val_of_index_zero t 0 (index_eq t).2.2.2.2.2.1.1 (ix2 0 q)) (win0_5.rect_emb_val_of_index_zero t 1 (index_eq t).2.2.2.2.2.1.2 (ix2 0 q))

/-- Every point reads the whole row of the second rescaling's multipliers. -/
theorem iblk6_apply (c : Dev nD) (t : Fin cfg0.N) (q : Fin 2880) : (iblk m c 6 t : IVec S1x2880 32) (ix2 0 q) = aMG m c (ix1 q) := by
  show V m c main_v4 ((win0_6.rect t).emb (ix2 0 q)) = _
  rw [V4]
  exact row_read _ _ _ q (win0_6.rect_emb_val_of_index_zero t 0 (index_eq t).2.2.2.2.2.2.1.1 (ix2 0 q)) (win0_6.rect_emb_val_of_index_zero t 1 (index_eq t).2.2.2.2.2.2.1.2 (ix2 0 q))

/-- Every point reads the whole row of the second rescaling's shifts. -/
theorem iblk7_apply (c : Dev nD) (t : Fin cfg0.N) (q : Fin 2880) : (iblk m c 7 t : IVec S1x2880 32) (ix2 0 q) = aKG m c (ix1 q) := by
  show V m c main_v5 ((win0_7.rect t).emb (ix2 0 q)) = _
  rw [V5]
  exact row_read _ _ _ q (win0_7.rect_emb_val_of_index_zero t 0 (index_eq t).2.2.2.2.2.2.2.1.1 (ix2 0 q)) (win0_7.rect_emb_val_of_index_zero t 1 (index_eq t).2.2.2.2.2.2.2.1.2 (ix2 0 q))

/-- Every point reads the whole row of the last bias. -/
theorem iblk8_apply (c : Dev nD) (t : Fin cfg0.N) (q : Fin 2880) : (iblk m c 8 t : IVec S1x2880 32) (ix2 0 q) = aBQ m c (ix1 q) := by
  show V m c main_v6 ((win0_8.rect t).emb (ix2 0 q)) = _
  rw [V6]
  exact row_read _ _ _ q (win0_8.rect_emb_val_of_index_zero t 0 (index_eq t).2.2.2.2.2.2.2.2.1 (ix2 0 q)) (win0_8.rect_emb_val_of_index_zero t 1 (index_eq t).2.2.2.2.2.2.2.2.2 (ix2 0 q))

/-! ## The accumulator -/

/-- A point's dot product is its share of the products. -/
theorem share (c : Dev nD) (t : Fin cfg0.N) (r : Fin 256) (q : Fin 2880) :
    (∑ k : Fin 768, mul8 ((iblk m c 0 t : IVec S256x768 8) (ix2 r k)) ((iblk m c 1 t : IVec S768x2880 8) (ix2 k q)))
      = ∑ k : Fin 768, term (prod (aH m c) (aW m c) r q) (768 * t.val + k.val) := by
  refine Finset.sum_congr rfl fun k _ => ?_
  have h := t_lt t
  unfold term
  rw [iblk0_apply, iblk1_apply, dif_pos (show 768 * t.val + k.val < 7680 by omega)]
  have e : (⟨768 * t.val + k.val, by omega⟩ : Fin 7680) = place t k := Fin.ext (by show 768 * t.val + k.val = t.val * 768 + k.val; omega)
  rw [e]
  rfl

/-- The first point leaves the bias and its dot product in the accumulator. -/
theorem step_A (c : Dev nD) (t : Fin cfg0.N) (acc : Vec Ideal S256x2880 .i8 × Vec Ideal S256x2880 .i32) (h0 : t.val % 10 = 0) (h1 : ¬t.val % 10 = 9) :
    (stAt0 (F := Ideal) m c t.val t.isLt acc).2 = k1_pay2 (F := Ideal) (k1_pay1 (F := Ideal) (iblk m c 3 t)) (iblk m c 0 t) (iblk m c 1 t) := by
  exact (snd_of (stAt0_A m c t acc h0 h1)).trans (sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t))

/-- A middle point adds its dot product to the accumulator. -/
theorem step_B (c : Dev nD) (t : Fin cfg0.N) (acc : Vec Ideal S256x2880 .i8 × Vec Ideal S256x2880 .i32) (h0 : ¬t.val % 10 = 0) (h1 : ¬t.val % 10 = 9) :
    (stAt0 (F := Ideal) m c t.val t.isLt acc).2 = k1_pay2 (F := Ideal) acc.2 (iblk m c 0 t) (iblk m c 1 t) := by
  exact (snd_of (stAt0_B m c t acc h0 h1)).trans (sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) acc.2)

/-- The last point writes the result from the finished accumulator. -/
theorem step_C (c : Dev nD) (t : Fin cfg0.N) (acc : Vec Ideal S256x2880 .i8 × Vec Ideal S256x2880 .i32) (h0 : ¬t.val % 10 = 0) (h1 : t.val % 10 = 9) :
    (stAt0 (F := Ideal) m c t.val t.isLt acc).1 = finish (k1_pay2 (F := Ideal) acc.2 (iblk m c 0 t) (iblk m c 1 t)) (iblk m c 2 t) (iblk m c 4 t) (iblk m c 5 t) (iblk m c 6 t) (iblk m c 7 t) (iblk m c 8 t) := by
  exact (fst_of (stAt0_C m c t acc h0 h1)).trans (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) acc.2)

/-- After each point but the last the accumulator is the bias and the products so far. -/
theorem acc_apply (c : Dev nD) (r : Fin 256) (q : Fin 2880) : ∀ (j : ℕ) (_ : j < 9) (h : 0 + j < cfg0.N),
    (Pipeline.accAt (fun n h => stAt0 (F := Ideal) m c n h junk0) (stAt0 (F := Ideal) m c) 0 j h).2 (ix2 r q)
      = aB m c (ix1 q) + ∑ s ∈ Finset.range (j + 1), ∑ k : Fin 768, term (prod (aH m c) (aW m c) r q) (768 * s + k.val)
  | 0, _, h => by
    rw [Pipeline.accAt_zero]
    have e := step_A m c ⟨0, h⟩ junk0 (Nat.zero_mod _) (by show ¬ 0 % 10 = 9; omega)
    dsimp only at e
    rw [e, pay2_apply, pay1_apply, iblk3_apply, share, Finset.sum_range_one]
  | j + 1, hj, h => by
    rw [Pipeline.accAt_succ]
    have ih := acc_apply c r q j (by omega) (Nat.lt_of_succ_lt h)
    generalize Pipeline.accAt (fun n h => stAt0 (F := Ideal) m c n h junk0) (stAt0 (F := Ideal) m c) 0 j (Nat.lt_of_succ_lt h) = acc at ih ⊢
    have e := step_B m c ⟨0 + (j + 1), h⟩ acc (by show ¬ (0 + (j + 1)) % 10 = 0; omega) (by show ¬ (0 + (j + 1)) % 10 = 9; omega)
    dsimp only at e
    rw [e, pay2_apply, ih, share, Finset.sum_range_succ _ (j + 1), add_assoc]
    simp only [Nat.zero_add]

/-! ## The result -/

/-- The array of results. -/
def result (c : Dev nD) : IVec S256x2880 8 := fun i =>
  outw (aH m c) (aX m c) (aW m c) (aB m c) (aM m c) (aK m c) (aMG m c) (aKG m c) (aBQ m c) (i 0) (i 1)

/-- A fold to place nine is a step from the fold to place eight. -/
theorem fold_nine {α : Type} {N : ℕ} (a : (n : ℕ) → n < N → α) (g : (n : ℕ) → n < N → α → α) (h : 0 + 9 < N) (h' : 0 + 8 < N) (h'' : 9 < N) :
    Pipeline.accAt a g 0 9 h = g 9 h'' (Pipeline.accAt a g 0 8 h') := rfl

/-- The last point's result at a row and a column, from the accumulator the points before left. -/
theorem last_apply (c : Dev nD) (t : Fin cfg0.N) (ht : t.val = 9) (acc : Vec Ideal S256x2880 .i8 × Vec Ideal S256x2880 .i32) (r : Fin 256) (q : Fin 2880)
    (ih : ∀ q, acc.2 (ix2 r q) = aB m c (ix1 q) + ∑ s ∈ Finset.range (8 + 1), ∑ k : Fin 768, term (prod (aH m c) (aW m c) r q) (768 * s + k.val)) :
    finish (k1_pay2 (F := Ideal) acc.2 (iblk m c 0 t) (iblk m c 1 t)) (iblk m c 2 t) (iblk m c 4 t) (iblk m c 5 t) (iblk m c 6 t) (iblk m c 7 t) (iblk m c 8 t) (ix2 r q)
      = outw (aH m c) (aX m c) (aW m c) (aB m c) (aM m c) (aK m c) (aMG m c) (aKG m c) (aBQ m c) r q := by
  have hz : (fun k => IntOp.addi (requant .vector (k1_pay2 (F := Ideal) acc.2 (iblk m c 0 t) (iblk m c 1 t) (ix2 r k)) ((iblk m c 4 t : IVec S1x2880 32) (ix2 0 k)) ((iblk m c 5 t : IVec S1x2880 32) (ix2 0 k)))
      (IntOp.shli .vector (((iblk m c 2 t : IVec S256x2880 8) (ix2 r k)).signExtend 32) 4#32)) = zrow (aH m c) (aX m c) (aW m c) (aB m c) (aM m c) (aK m c) r := funext fun k => by
    unfold zrow
    rw [iblk2_apply, iblk4_apply, iblk5_apply, pay2_apply, ih k, share, ht, add_assoc,
      ← Finset.sum_range_succ (fun s => ∑ j : Fin 768, term (prod (aH m c) (aW m c) r k) (768 * s + j.val)) 9, sum_7680, add_comm]
  rw [finish_apply, hz, iblk6_apply, iblk7_apply, iblk8_apply]
  rfl

/-- The array the kernel leaves is the array of results. -/
theorem G9_eq (c : Dev nD) : G9 (F := Ideal) m c = result m c := by
  funext y
  obtain ⟨r, q, rfl⟩ : ∃ (r : Fin 256) (q : Fin 2880), y = ix2 r q := ⟨y 0, y 1, eq_ix2 y⟩
  have hN : cfg0.N = 10 := N_0
  have h8 : 0 + 8 < cfg0.N := by omega
  have h9 : 9 < cfg0.N := by omega
  rw [G9_last, fold_nine _ _ _ h8 h9, step_C m c ⟨9, h9⟩ _ (by show ¬ 9 % 10 = 0; omega) (by show 9 % 10 = 9; omega)]
  exact last_apply m c ⟨9, h9⟩ rfl _ r q fun q => acc_apply m c r q 8 (by omega) h8

end Cert.Ffn2Ideal.Layer

end
-- ==== Proof.SecondRef.lean ====
/- The reference of the second call alone, on any codes, read as a function of its arguments, index by index. -/
module

public import proofs.«01_k».proof.Proof.Ref2Value
public import proofs.«01_k».proof.Proof.Gen.Ref2Ideal.Run
public import proofs.«01_k».proof.Proof.Gen.Ref2Ideal.Read

@[expose] public section

noncomputable section

open Idealize.ShloMosaic Idealize.ShloMosaic.TcCoe Idealize.SL.Sem
open Idealize.ShloMosaic.ValueIdx

namespace Cert.Ref2Ideal.Layer

open Cert.Ref2Ideal Cert.Ref2Ideal.Read Cert.Spec
open Cert.KernelIdeal.Layer2 (prod zrow outw)
open Cert.ReferenceIdeal.Layer (host_sum host_max max_comm)

variable (x0 : IVec S256x7680 8) (x1 : IVec S1x256x2880 8) (x2 : IVec S7680x2880 8) (x3 x4 x5 x6 x7 x8 : IVec S2880 32)

/-- The product the reference sums, at a row, a depth and a column. -/
theorem prod_apply (r : Fin 256) (k : Fin 7680) (q : Fin 2880) :
    val_main_v7 (F := Ideal) x0 x2 (ix4 0 r k q) = prod x0 x2 r q k := by
  have e1 : idx_main_v0 (idx_main_v2 (idx_main_v5 (ix4 0 r k q))) = ix2 r k := funext fun d => by
    match d with | ⟨0, _⟩ => rfl | ⟨1, _⟩ => rfl
  have e2 : idx_main_v4 (idx_main_v6 (ix4 0 r k q)) = ix2 k q := funext fun d => by
    match d with | ⟨0, _⟩ => rfl | ⟨1, _⟩ => rfl
  rw [val_main_v7_apply, val_main_v5_apply, val_main_v6_apply, val_main_v2_apply, val_main_v4_apply, val_main_v1_apply,
    val_main_v3_apply, val_main_v0_apply, e1, e2]
  rfl

/-- The reference's accumulated word at a row and a column. -/
theorem word_apply (r : Fin 256) (q : Fin 2880) :
    val_main_v11 (F := Ideal) x0 x2 x3 (ix3 0 r q) = (∑ k : Fin 7680, prod x0 x2 r q k) + x3 (ix1 q) := by
  have e9 : idx_main_v9 (idx_main_v10 (ix3 0 r q)) = ix1 q := funext fun d => by match d with | ⟨0, _⟩ => rfl
  have hr : (S1x256x7680x2880 : Shape).Reduces [2] S1x256x2880 := by decide
  rw [val_main_v11_apply, val_main_v10_apply, val_main_v9_apply, e9]
  refine congrArg (fun z => z + x3 (ix1 q)) ?_
  unfold val_main_v8
  rw [Host.reduce_eq_fold_single IntOp.addi _ _ _ hr]
  refine (fold_addi Finset.univ _).trans ?_
  refine Finset.sum_congr rfl fun k _ => ?_
  refine Eq.trans (congrArg (val_main_v7 (F := Ideal) x0 x2) (?_ : _ = ix4 0 r k q)) (prod_apply x0 x2 r k q)
  funext d
  refine Fin.ext ((hr.lift_val _ _ d).trans ?_)
  match d with | ⟨0, _⟩ => rfl | ⟨1, _⟩ => rfl | ⟨2, _⟩ => rfl | ⟨3, _⟩ => rfl

/-- The reference's rescaled word at a row and a column. -/
theorem scaled_apply (r : Fin 256) (q : Fin 2880) :
    val_main_v44 (F := Ideal) x0 x2 x3 x4 x5 (ix3 0 r q)
      = requant .vector ((∑ k : Fin 7680, prod x0 x2 r q k) + x3 (ix1 q)) (x4 (ix1 q)) (x5 (ix1 q)) := by
  have e22 : idx_main_v22 (idx_main_v23 (ix3 0 r q)) = ix1 q := funext fun d => by match d with | ⟨0, _⟩ => rfl
  have e25 : idx_main_v25 (idx_main_v26 (ix3 0 r q)) = ix1 q := funext fun d => by match d with | ⟨0, _⟩ => rfl
  have e28 : idx_main_v28 (idx_main_v29 (ix3 0 r q)) = ix1 q := funext fun d => by match d with | ⟨0, _⟩ => rfl
  have e31 : idx_main_v31 (idx_main_v32 (ix3 0 r q)) = ix1 q := funext fun d => by match d with | ⟨0, _⟩ => rfl
  have e34 : idx_main_v34 (idx_main_v35 (ix3 0 r q)) = ix1 q := funext fun d => by match d with | ⟨0, _⟩ => rfl
  have e37 : idx_main_v37 (idx_main_v38 (ix3 0 r q)) = ix1 q := funext fun d => by match d with | ⟨0, _⟩ => rfl
  have e42 : idx_main_v42 (idx_main_v43 (ix3 0 r q)) = ix1 q := funext fun d => by match d with | ⟨0, _⟩ => rfl
  simp only [
    val_main_c_0_apply, val_main_v12_apply, val_main_v13_apply, val_main_c_1_apply, val_main_v14_apply,
    val_main_v15_apply, val_main_c_2_apply, val_main_v16_apply, val_main_v17_apply, val_main_c_3_apply,
    val_main_v18_apply, val_main_v19_apply, val_main_c_4_apply, val_main_v20_apply, val_main_v21_apply,
    val_main_v22_apply, val_main_v23_apply, val_main_v24_apply, val_main_v25_apply, val_main_v26_apply,
    val_main_v27_apply, val_main_v28_apply, val_main_v29_apply, val_main_v30_apply, val_main_v31_apply,
    val_main_v32_apply, val_main_v33_apply, val_main_v34_apply, val_main_v35_apply, val_main_v36_apply,
    val_main_v37_apply, val_main_v38_apply, val_main_v39_apply, val_main_v40_apply, val_main_v41_apply,
    val_main_v42_apply, val_main_v43_apply, val_main_v44_apply, e22, e25, e28, e31, e34, e37, e42]
  rw [word_apply]
  rw [requant_unit .vector .host]
  rfl

/-- The reference's residual sum at a row and a column. -/
theorem zrow_apply (r : Fin 256) (q : Fin 2880) : val_main_v48 (F := Ideal) x0 x1 x2 x3 x4 x5 (ix3 0 r q) = zrow x0 x1 x2 x3 x4 x5 r q := by
  rw [val_main_v48_apply, scaled_apply]
  unfold zrow
  rw [shli_unit .vector .host]
  rfl

/-- A row's rounded total. -/
theorem total_apply (r : Fin 256) :
    val_main_v52 (F := Ideal) x0 x1 x2 x3 x4 x5 (ix3 0 r 0) = IntOp.addi (∑ k, zrow x0 x1 x2 x3 x4 x5 r k) 1440#32 := by
  have e : idx_main_v50 (ix3 0 r 0) = ix2 0 r := funext fun d => by match d with | ⟨0, _⟩ => rfl | ⟨1, _⟩ => rfl
  rw [val_main_v52_apply, val_main_v50_apply, e]
  refine congrArg₂ IntOp.addi ?_ rfl
  unfold val_main_v49
  exact (host_sum _ _ (fun _ => rfl) _ _ r).trans (Finset.sum_congr rfl fun k _ => zrow_apply x0 x1 x2 x3 x4 x5 r k)

/-- A row's mean is the floor of its rounded total over its length. -/
theorem mean_apply (i : S1x256x1.Idx) : val_main_v53 (F := Ideal) x0 x1 x2 x3 x4 x5 i = floorDiv (val_main_v52 (F := Ideal) x0 x1 x2 x3 x4 x5 i) 2880#32 := rfl

/-- The row less its mean. -/
theorem cen_apply (r : Fin 256) (q : Fin 2880) : val_main_v55 (F := Ideal) x0 x1 x2 x3 x4 x5 (ix3 0 r q) = cenR (zrow x0 x1 x2 x3 x4 x5 r) q := by
  have e : idx_main_v54 (ix3 0 r q) = ix3 0 r 0 := funext fun d => by match d with | ⟨0, _⟩ => rfl | ⟨1, _⟩ => rfl | ⟨2, _⟩ => rfl
  rw [val_main_v55_apply, val_main_v54_apply, e, mean_apply, total_apply, zrow_apply]
  rfl

/-- A row's greatest size. -/
theorem top_apply (r : Fin 256) : val_main_v58 (F := Ideal) x0 x1 x2 x3 x4 x5 (ix3 0 r 0) = topR (cenR (zrow x0 x1 x2 x3 x4 x5 r)) := by
  have e : idx_main_v58 (ix3 0 r 0) = ix2 0 r := funext fun d => by match d with | ⟨0, _⟩ => rfl | ⟨1, _⟩ => rfl
  rw [val_main_v58_apply, e]
  unfold val_main_v57
  refine (host_max _ _ (fun _ => rfl) _ _ r).trans ?_
  unfold topR
  refine congrArg (fun f => (Finset.univ : Finset (Fin 2880)).fold IKind.maxsi.op 2147483648#32 f) (funext fun k => ?_)
  rw [val_main_v56_apply, cen_apply]

/-- A row's shift. -/
theorem sh_apply (r : Fin 256) : val_main_v65 (F := Ideal) x0 x1 x2 x3 x4 x5 (ix3 0 r 0) = shR (cenR (zrow x0 x1 x2 x3 x4 x5 r)) := by
  rw [val_main_v65_apply, val_main_v63_apply, val_main_v61_apply, val_main_v59_apply, top_apply, max_comm]
  rfl

/-- A row's sum of squares. -/
theorem var_apply (r : Fin 256) : val_main_v72 (F := Ideal) x0 x1 x2 x3 x4 x5 (ix3 0 r 0) = varR (cenR (zrow x0 x1 x2 x3 x4 x5 r)) := by
  have e : idx_main_v70 (ix3 0 r 0) = ix2 0 r := funext fun d => by match d with | ⟨0, _⟩ => rfl | ⟨1, _⟩ => rfl
  rw [val_main_v72_apply, val_main_v70_apply, e]
  refine congrArg₂ IntOp.maxsi ?_ rfl
  unfold val_main_v69
  refine (host_sum _ _ (fun _ => rfl) _ _ r).trans (Finset.sum_congr rfl fun k _ => ?_)
  have e66 : idx_main_v66 (ix3 0 r k) = ix3 0 r 0 := funext fun d => by match d with | ⟨0, _⟩ => rfl | ⟨1, _⟩ => rfl | ⟨2, _⟩ => rfl
  rw [val_main_v68_apply, val_main_v67_apply, val_main_v66_apply, e66, sh_apply, cen_apply, shrsi_unit .host .vector]

/-- The reference's square root is twenty of its steps. -/
theorem root_apply (i : S1x256x1.Idx) :
    val_main_v153 (F := Ideal) x0 x1 x2 x3 x4 x5 i = newtonW (val_main_v72 (F := Ideal) x0 x1 x2 x3 x4 x5 i) 20 65536#32 := rfl

/-- A row's divisor. -/
theorem div_apply (r : Fin 256) : val_main_v156 (F := Ideal) x0 x1 x2 x3 x4 x5 (ix3 0 r 0) = divR (cenR (zrow x0 x1 x2 x3 x4 x5 r)) := by
  rw [val_main_v156_apply, val_main_v155_apply, root_apply, sh_apply, var_apply, shli_unit .host .vector]
  rfl

/-- The factor a row is multiplied by. -/
theorem factor_apply (i : S1x256x1.Idx) : val_main_v160 (F := Ideal) x0 x1 x2 x3 x4 x5 i = int31R (val_main_v156 (F := Ideal) x0 x1 x2 x3 x4 x5 i) := rfl

/-- The normalised row. -/
theorem norm_apply (r : Fin 256) (q : Fin 2880) : val_main_v164 (F := Ideal) x0 x1 x2 x3 x4 x5 (ix3 0 r q)
    = IntOp.shrsi .vector (IntOp.muli (cenR (zrow x0 x1 x2 x3 x4 x5 r) q) (int31R (divR (cenR (zrow x0 x1 x2 x3 x4 x5 r))))) 16#32 := by
  have e : idx_main_v161 (ix3 0 r q) = ix3 0 r 0 := funext fun d => by match d with | ⟨0, _⟩ => rfl | ⟨1, _⟩ => rfl | ⟨2, _⟩ => rfl
  rw [val_main_v164_apply, val_main_v162_apply, val_main_v161_apply, e, factor_apply, div_apply, cen_apply, shrsi_unit .host .vector]
  rfl

/-- The normalised row rescaled. -/
theorem rescaled_apply (r : Fin 256) (q : Fin 2880) : val_main_v197 (F := Ideal) x0 x1 x2 x3 x4 x5 x6 x7 (ix3 0 r q)
    = requant .vector (IntOp.shrsi .vector (IntOp.muli (cenR (zrow x0 x1 x2 x3 x4 x5 r) q) (int31R (divR (cenR (zrow x0 x1 x2 x3 x4 x5 r))))) 16#32) (x6 (ix1 q)) (x7 (ix1 q)) := by
  have e175 : idx_main_v175 (idx_main_v176 (ix3 0 r q)) = ix1 q := funext fun d => by match d with | ⟨0, _⟩ => rfl
  have e178 : idx_main_v178 (idx_main_v179 (ix3 0 r q)) = ix1 q := funext fun d => by match d with | ⟨0, _⟩ => rfl
  have e181 : idx_main_v181 (idx_main_v182 (ix3 0 r q)) = ix1 q := funext fun d => by match d with | ⟨0, _⟩ => rfl
  have e184 : idx_main_v184 (idx_main_v185 (ix3 0 r q)) = ix1 q := funext fun d => by match d with | ⟨0, _⟩ => rfl
  have e187 : idx_main_v187 (idx_main_v188 (ix3 0 r q)) = ix1 q := funext fun d => by match d with | ⟨0, _⟩ => rfl
  have e190 : idx_main_v190 (idx_main_v191 (ix3 0 r q)) = ix1 q := funext fun d => by match d with | ⟨0, _⟩ => rfl
  have e195 : idx_main_v195 (idx_main_v196 (ix3 0 r q)) = ix1 q := funext fun d => by match d with | ⟨0, _⟩ => rfl
  simp only [
    val_main_c_41_apply, val_main_v165_apply, val_main_v166_apply, val_main_c_42_apply, val_main_v167_apply,
    val_main_v168_apply, val_main_c_43_apply, val_main_v169_apply, val_main_v170_apply, val_main_c_44_apply,
    val_main_v171_apply, val_main_v172_apply, val_main_c_45_apply, val_main_v173_apply, val_main_v174_apply,
    val_main_v175_apply, val_main_v176_apply, val_main_v177_apply, val_main_v178_apply, val_main_v179_apply,
    val_main_v180_apply, val_main_v181_apply, val_main_v182_apply, val_main_v183_apply, val_main_v184_apply,
    val_main_v185_apply, val_main_v186_apply, val_main_v187_apply, val_main_v188_apply, val_main_v189_apply,
    val_main_v190_apply, val_main_v191_apply, val_main_v192_apply, val_main_v193_apply, val_main_v194_apply,
    val_main_v195_apply, val_main_v196_apply, val_main_v197_apply, e175, e178, e181, e184, e187, e190, e195]
  rw [norm_apply]
  rw [requant_unit .vector .host]
  rfl

/-- The reference's result at a row and a column. -/
theorem out_apply (r : Fin 256) (q : Fin 2880) : val_main_v202 (F := Ideal) x0 x1 x2 x3 x4 x5 x6 x7 x8 (ix3 0 r q) = outw x0 x1 x2 x3 x4 x5 x6 x7 x8 r q := by
  have e : idx_main_v198 (idx_main_v199 (ix3 0 r q)) = ix1 q := funext fun d => by match d with | ⟨0, _⟩ => rfl
  rw [val_main_v202_apply, val_main_v201_apply, val_main_call23_v2_apply, val_main_v200_apply, val_main_v199_apply, val_main_v198_apply, e, rescaled_apply]
  rfl

/-- The reference's result array is the kernel's function of the arguments. -/
theorem result_eq (i : S256x2880.Idx) : val_main_v203 (F := Ideal) x0 x1 x2 x3 x4 x5 x6 x7 x8 i = outw x0 x1 x2 x3 x4 x5 x6 x7 x8 (i 0) (i 1) := by
  obtain ⟨r, q, rfl⟩ : ∃ (r : Fin 256) (q : Fin 2880), i = ix2 r q := ⟨i 0, i 1, eq_ix2 i⟩
  have e : idx_main_v203 (ix2 r q) = ix3 0 r q := funext fun d => Fin.ext (by
    have hr := r.isLt; have hq := q.isLt
    match d with
    | ⟨0, _⟩ => rfl
    | ⟨1, _⟩ => show (r.val * 2880 + q.val) / 2880 % 256 = r.val; omega
    | ⟨2, _⟩ => show (r.val * 2880 + q.val) % 2880 = q.val; omega)
  rw [val_main_v203_apply, e, out_apply]

end Cert.Ref2Ideal.Layer

end
-- ==== Proof.SecondValues.lean ====
/- The value claim of the second call alone, on any codes: its result array is its reference's. -/
module

public import proofs.«01_k».proof.Defs
public import proofs.«01_k».proof.Proof.Gen.Ffn2Ideal
public import proofs.«01_k».proof.Proof.Gen.Ref2Ideal
public import proofs.«01_k».proof.Proof.Second
public import Idealize.ShloMosaic.Lib.Quiescent
public import proofs.«01_k».proof.Proof.SecondRef

@[expose] public section

noncomputable section

open Idealize.ShloMosaic Idealize.ShloMosaic.TcCoe Idealize.SL.Sem
open Idealize.ShloMosaic.ValueIdx

namespace Cert.SecondValues

open Cert.Ffn2Ideal.Layer
open Cert.KernelIdeal.Layer2 (outw)

/-- Equal arguments give equal results. -/
theorem outw_congr {H H' : IVec Cert.Ffn2Ideal.S256x7680 8} {X X' : IVec Cert.Ffn2Ideal.S1x256x2880 8} {W W' : IVec Cert.Ffn2Ideal.S7680x2880 8}
    {B B' M M' K K' MG MG' KG KG' BQ BQ' : IVec Cert.Ffn2Ideal.S2880 32} (h0 : H = H') (h1 : X = X') (h2 : W = W') (h3 : B = B') (h4 : M = M')
    (h5 : K = K') (h6 : MG = MG') (h7 : KG = KG') (h8 : BQ = BQ') (r : Fin 256) (q : Fin 2880) :
    outw H X W B M K MG KG BQ r q = outw H' X' W' B' M' K' MG' KG' BQ' r q := by
  rw [h0, h1, h2, h3, h4, h5, h6, h7, h8]

/-- The second call's kernel and its reference leave the same result. -/
theorem algebraic : algebraic_Ffn2Ideal_Ref2Ideal (hFfn2Ideal := Cert.Ffn2Ideal.Gen.facts) (hRef2Ideal := Cert.Ref2Ideal.Gen.facts) := by
  intro m g m' g' _ hm
  refine ⟨fun c => result m c, ?_, ?_⟩
  · refine (θ_run _ _ _).mono (fun r h c => ?_) (Cert.Ffn2Ideal.Value.run (F := Ideal) m g)
    obtain ⟨h0, hk⟩ := h c
    exact ⟨h0.trans (G9_eq m c), hk⟩
  · refine (θ_run _ _ _).mono (fun r h c => ?_) (Cert.Ref2Ideal.Value.run (F := Ideal) m' g')
    obtain ⟨h0, hk⟩ := h c
    obtain ⟨a0, a1, a2, a3, a4, a5, a6, a7, a8⟩ := hm c
    refine ⟨h0.trans ?_, hk⟩
    refine (Cert.Ref2Ideal.Read.val_main_v203_eq (F := Ideal) _).trans (funext fun i => ?_)
    exact (Cert.Ref2Ideal.Layer.result_eq _ _ _ _ _ _ _ _ _ i).trans (outw_congr a0 a1 a2 a3 a4 a5 a6 a7 a8 (i 0) (i 1))

/-- The second call's reference runs, leaves its arguments and ends with every counter at zero: it has no semaphore. -/
theorem frame_ref : quiescent_Ref2Ideal (hRef2Ideal := Cert.Ref2Ideal.Gen.facts) := by
  intro m g _
  refine (θ_run _ _ _).mono (fun r h => ⟨fun c => (h c).2, ?_⟩) (Cert.Ref2Ideal.Value.run (F := Ideal) m g)
  exact sem_eq_zero_of_no_sems rfl r.2

end Cert.SecondValues

end
-- ==== Proof.lean ====
/- The proof of everything claimed of the kernel. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Gen.Ffn2
public import proofs.«01_k».proof.Proof.Gen.Ffn2.Frame
public import proofs.«01_k».proof.Proof.Gen.Ffn2Ideal.Frame
public import proofs.«01_k».proof.Proof.Gen.Ffn2Ideal.Value
public import proofs.«01_k».proof.Proof.Gen.Ref2Ideal
public import proofs.«01_k».proof.Proof.Gen.Ref2Ideal.Run
public import proofs.«01_k».proof.Proof.Gen.Ref2Ideal.Read
public import proofs.«01_k».proof.Proof.KernelFrame
public import proofs.«01_k».proof.Proof.Values
public import proofs.«01_k».proof.Proof.SecondValues
public import Idealize.ShloMosaic.Adequacy
public import Idealize.ShloMosaic.Init

@[expose] public section

noncomputable section

namespace Cert.Proof

open Idealize.ShloMosaic Idealize.SL.Sem Cert.Kernel

/-- Everything claimed of the kernel and of its second call alone, and of their references. -/
theorem claim : Cert.Claim := ⟨Cert.Kernel.Gen.facts, Cert.KernelIdeal.Gen.facts, Cert.ReferenceIdeal.Gen.facts,
  Cert.Ffn2.Gen.facts, Cert.Ffn2Ideal.Gen.facts, Cert.Ref2Ideal.Gen.facts,
  Cert.KernelFrame.frame,
  fun m ρ _ => Cert.KernelIdeal.Calls.frame m ρ,
  Cert.Values.frame_ref,
  fun m ρ _ => Cert.Ffn2.Gen.frame m ρ,
  fun m ρ _ => Cert.Ffn2Ideal.Gen.frame m ρ,
  Cert.SecondValues.frame_ref,
  trivial,
  Cert.Values.algebraic,
  trivial,
  Cert.SecondValues.algebraic⟩

end Cert.Proof

end
